-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_in_range : Cert.Pre_in_range.Facts] (m : (ℓ : Loc Cert.Kernel4.nD Cert.Kernel4.τ Cert.Kernel4.sig) → Buf (Elt Bits) ℓ) : Prop :=
  ∀ c : Dev Cert.Kernel4.nD,
    (Cert.Pre_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_in_range : Cert.Pre_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_in_range [hPre_in_range : Cert.Pre_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_in_range : Cert.Pre_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_in_range : Cert.Pre_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_in_range [hReference4Ideal : Cert.Reference4Ideal.Facts] [hPre_in_range : Cert.Pre_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_in_range m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_in_range : Cert.Pre_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v32_0)) (v1 : (c : Dev Cert.Kernel6Ideal.nD) → Buf (Elt Ideal) ((c.tc : Thread Cert.Kernel6Ideal.nD Cert.Kernel6Ideal.τ).loc Cert.Kernel6Ideal.main_v32_1)) (v2 : (c : Dev Cert.Kernel6Ideal.nD) → Buf (Elt Ideal) ((c.tc : Thread Cert.Kernel6Ideal.nD Cert.Kernel6Ideal.τ).loc Cert.Kernel6Ideal.main_v32_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v32_0) = v0 c
          ∧ r.2.mem ((c.tc : Thread Cert.Kernel6Ideal.nD Cert.Kernel6Ideal.τ).loc Cert.Kernel6Ideal.main_v32_1) = v1 c
          ∧ r.2.mem ((c.tc : Thread Cert.Kernel6Ideal.nD Cert.Kernel6Ideal.τ).loc Cert.Kernel6Ideal.main_v32_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_v56) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_in_range := hPre_in_range)
    ∧ quiescent_Kernel4Ideal (hKernel4Ideal := hKernel4Ideal) (hPre_in_range := hPre_in_range)
    ∧ quiescent_Reference4Ideal (hReference4Ideal := hReference4Ideal)
    ∧ quiescent_Reference4Ideal_pre_in_range (hReference4Ideal := hReference4Ideal) (hPre_in_range := hPre_in_range)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_in_range := hPre_in_range)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2048x16640 : Shape := ⟨2, ![2048, 16640]⟩
abbrev S16640x1024 : Shape := ⟨2, ![16640, 1024]⟩
abbrev S16640x128 : Shape := ⟨2, ![16640, 128]⟩
abbrev S1024x16640 : Shape := ⟨2, ![1024, 16640]⟩
abbrev S_ : Shape := ⟨0, ![]⟩

class Facts : Prop where
  bcast_S_S2048x16640 : S_.BroadcastsInDim S2048x16640 (![] : Fin 0 → Fin S2048x16640.rank)
  reducesTo_S2048x16640_S_d0_1 : S2048x16640.ReducesTo [0, 1] S_
  h_S_ : 0 < S_.numel
  bcast_S_S16640x1024 : S_.BroadcastsInDim S16640x1024 (![] : Fin 0 → Fin S16640x1024.rank)
  reducesTo_S16640x1024_S_d0_1 : S16640x1024.ReducesTo [0, 1] S_
  bcast_S_S16640x128 : S_.BroadcastsInDim S16640x128 (![] : Fin 0 → Fin S16640x128.rank)
  reducesTo_S16640x128_S_d0_1 : S16640x128.ReducesTo [0, 1] S_

variable [Facts]

def fn {F : FTy → Type} [FloatOps F] (main_arg0 : FVec F S2048x16640 .bf16) (main_arg1 : FVec F S16640x1024 .bf16) (main_arg2 : FVec F S16640x128 .bf16) (main_arg3 : FVec F S1024x16640 .bf16) : IVec S_ 1 :=
  let main_v0 : FVec F S2048x16640 .bf16 := Host.absf main_arg0
  let main_cst : FVec F S_ .bf16 := constant S_ .bf16 0x7F80#16
  let main_v1 : FVec F S2048x16640 .bf16 := broadcastInDim S2048x16640 ![] bcast_S_S2048x16640 main_cst
  let main_v2 : IVec S2048x16640 1 := cmpf .olt main_v0 main_v1
  let main_c : IVec S_ 1 := constantI S_ 1 1#1
  let main_v3 : IVec S_ 1 := (fun x v => Host.reduce IntOp.andi x v reducesTo_S2048x16640_S_d0_1 h_S_) main_v2 main_c
  let main_v4 : FVec F S16640x1024 .bf16 := Host.absf main_arg1
  let main_cst_0 : FVec F S_ .bf16 := constant S_ .bf16 0x7F80#16
  let main_v5 : FVec F S16640x1024 .bf16 := broadcastInDim S16640x1024 ![] bcast_S_S16640x1024 main_cst_0
  let main_v6 : IVec S16640x1024 1 := cmpf .olt main_v4 main_v5
  let main_c_1 : IVec S_ 1 := constantI S_ 1 1#1
  let main_v7 : IVec S_ 1 := (fun x v => Host.reduce IntOp.andi x v reducesTo_S16640x1024_S_d0_1 h_S_) main_v6 main_c_1
  let main_v8 : IVec S_ 1 := andi main_v3 main_v7
  let main_v9 : FVec F S16640x128 .bf16 := Host.absf main_arg2
  let main_cst_2 : FVec F S_ .bf16 := constant S_ .bf16 0x7F80#16
  let main_v10 : FVec F S16640x128 .bf16 := broadcastInDim S16640x128 ![] bcast_S_S16640x128 main_cst_2
  let main_v11 : IVec S16640x128 1 := cmpf .olt main_v9 main_v10
  let main_c_3 : IVec S_ 1 := constantI S_ 1 1#1
  let main_v12 : IVec S_ 1 := (fun x v => Host.reduce IntOp.andi x v reducesTo_S16640x128_S_d0_1 h_S_) main_v11 main_c_3
  let main_v13 : IVec S_ 1 := andi main_v8 main_v12
  main_v13
-- ==== Pre_finite2.lean ====
abbrev S1024x16640 : Shape := ⟨2, ![1024, 16640]⟩
abbrev S16640x256 : Shape := ⟨2, ![16640, 256]⟩
abbrev S256x16640 : Shape := ⟨2, ![256, 16640]⟩
abbrev S_ : Shape := ⟨0, ![]⟩

class Facts : Prop where
  bcast_S_S1024x16640 : S_.BroadcastsInDim S1024x16640 (![] : Fin 0 → Fin S1024x16640.rank)
  reducesTo_S1024x16640_S_d0_1 : S1024x16640.ReducesTo [0, 1] S_
  h_S_ : 0 < S_.numel
  bcast_S_S16640x256 : S_.BroadcastsInDim S16640x256 (![] : Fin 0 → Fin S16640x256.rank)
  reducesTo_S16640x256_S_d0_1 : S16640x256.ReducesTo [0, 1] S_

variable [Facts]

def fn {F : FTy → Type} [FloatOps F] (main_arg0 : FVec F S1024x16640 .bf16) (main_arg1 : FVec F S16640x256 .bf16) (main_arg2 : FVec F S256x16640 .bf16) : IVec S_ 1 :=
  let main_v0 : FVec F S1024x16640 .bf16 := Host.absf main_arg0
  let main_cst : FVec F S_ .bf16 := constant S_ .bf16 0x7F80#16
  let main_v1 : FVec F S1024x16640 .bf16 := broadcastInDim S1024x16640 ![] bcast_S_S1024x16640 main_cst
  let main_v2 : IVec S1024x16640 1 := cmpf .olt main_v0 main_v1
  let main_c : IVec S_ 1 := constantI S_ 1 1#1
  let main_v3 : IVec S_ 1 := (fun x v => Host.reduce IntOp.andi x v reducesTo_S1024x16640_S_d0_1 h_S_) main_v2 main_c
  let main_v4 : FVec F S16640x256 .bf16 := Host.absf main_arg1
  let main_cst_0 : FVec F S_ .bf16 := constant S_ .bf16 0x7F80#16
  let main_v5 : FVec F S16640x256 .bf16 := broadcastInDim S16640x256 ![] bcast_S_S16640x256 main_cst_0
  let main_v6 : IVec S16640x256 1 := cmpf .olt main_v4 main_v5
  let main_c_1 : IVec S_ 1 := constantI S_ 1 1#1
  let main_v7 : IVec S_ 1 := (fun x v => Host.reduce IntOp.andi x v reducesTo_S16640x256_S_d0_1 h_S_) main_v6 main_c_1
  let main_v8 : IVec S_ 1 := andi main_v3 main_v7
  main_v8
-- ==== Pre_in_range.lean ====
abbrev S41 : Shape := ⟨1, ![41]⟩
abbrev S1 : Shape := ⟨1, ![1]⟩
abbrev S41984x2048 : Shape := ⟨2, ![41984, 2048]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S41 : S_.BroadcastsInDim S41 (![] : Fin 0 → Fin S41.rank)
  reducesTo_S41_S_d0 : S41.ReducesTo [0] S_
  h_S_ : 0 < S_.numel

variable [Facts]

def fn {F : FTy → Type} [FloatOps F] (main_arg0 : IVec S41 32) (main_arg1 : IVec S1 32) (main_arg2 : FVec F S41984x2048 .bf16) (main_arg3 : FVec F S8x2048x7168 .f32) (main_arg4 : FVec F S8x2048x7168 .f32) (main_arg5 : FVec F S8x7168x2048 .f32) : IVec S_ 1 :=
  let main_c : IVec S_ 32 := constantI S_ 32 0#32
  let main_v0 : IVec S41 32 := broadcastInDim S41 ![] bcast_S_S41 main_c
  let main_v1 : IVec S41 1 := cmpi .sge main_arg0 main_v0
  let main_c_0 : IVec S_ 32 := constantI S_ 32 8#32
  let main_v2 : IVec S41 32 := broadcastInDim S41 ![] bcast_S_S41 main_c_0
  let main_v3 : IVec S41 1 := cmpi .slt main_arg0 main_v2
  let main_v4 : IVec S41 1 := andi main_v1 main_v3
  let main_c_1 : IVec S_ 1 := constantI S_ 1 1#1
  let main_v5 : IVec S_ 1 := (fun x v => Host.reduce IntOp.andi x v reducesTo_S41_S_d0 h_S_) main_v4 main_c_1
  main_v5
-- ==== Kernel.lean ====
abbrev S2048x16640 : Shape := ⟨2, ![2048, 16640]⟩
abbrev S16640x1024 : Shape := ⟨2, ![16640, 1024]⟩
abbrev S16640x128 : Shape := ⟨2, ![16640, 128]⟩
abbrev S1024x16640 : Shape := ⟨2, ![1024, 16640]⟩
abbrev S256x1280 : Shape := ⟨2, ![256, 1280]⟩
abbrev S16384x128 : Shape := ⟨2, ![16384, 128]⟩
abbrev S128x16384 : Shape := ⟨2, ![128, 16384]⟩
abbrev S128x128 : Shape := ⟨2, ![128, 128]⟩
abbrev S1280x128 : Shape := ⟨2, ![1280, 128]⟩
abbrev S1x1280 : Shape := ⟨2, ![1, 1280]⟩
abbrev S144x1280 : Shape := ⟨2, ![144, 1280]⟩
abbrev S2x2048x1408 : Shape := ⟨3, ![2, 2048, 1408]⟩
abbrev S2x1x1280 : Shape := ⟨3, ![2, 1, 1280]⟩
abbrev S128x256 : Shape := ⟨2, ![128, 256]⟩
abbrev S128x1280 : Shape := ⟨2, ![128, 1280]⟩
abbrev S1280 : Shape := ⟨1, ![1280]⟩
abbrev S16x128 : Shape := ⟨2, ![16, 128]⟩
abbrev S144x128 : Shape := ⟨2, ![144, 128]⟩
abbrev S2048x128 : Shape := ⟨2, ![2048, 128]⟩
abbrev S2048x256 : Shape := ⟨2, ![2048, 256]⟩
abbrev S2048x1280 : Shape := ⟨2, ![2048, 1280]⟩
abbrev S1x2048x1280 : Shape := ⟨3, ![1, 2048, 1280]⟩
abbrev S1x1x1280 : Shape := ⟨3, ![1, 1, 1280]⟩
abbrev S128x2048 : Shape := ⟨2, ![128, 2048]⟩
abbrev S16x2048 : Shape := ⟨2, ![16, 2048]⟩
abbrev S144x2048 : Shape := ⟨2, ![144, 2048]⟩

abbrev nBuf : Space → Nat
  | .hbm => 5
  | .vmem => 18
  | .smem => 0
  | _ => 0

abbrev bufTy : (tb : Table) → Fin (tcTables nBuf tb) → BufTy
  | .hbm, ⟨0, _⟩ => ⟨S2048x16640, .bf16⟩
  | .hbm, ⟨1, _⟩ => ⟨S16640x1024, .bf16⟩
  | .hbm, ⟨2, _⟩ => ⟨S16640x128, .bf16⟩
  | .hbm, ⟨3, _⟩ => ⟨S1024x16640, .bf16⟩
  | .hbm, ⟨4, _⟩ => ⟨S16640x1024, .bf16⟩
  | .local _ .vmem, ⟨0, _⟩ => ⟨S256x1280, .bf16⟩
  | .local _ .vmem, ⟨1, _⟩ => ⟨S256x1280, .bf16⟩
  | .local _ .vmem, ⟨2, _⟩ => ⟨S16384x128, .bf16⟩
  | .local _ .vmem, ⟨3, _⟩ => ⟨S16384x128, .bf16⟩
  | .local _ .vmem, ⟨4, _⟩ => ⟨S128x16384, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1280x128, .bf16⟩
  | .local _ .vmem, ⟨11, _⟩ => ⟨S1280x128, .bf16⟩
  | .local _ .vmem, ⟨12, _⟩ => ⟨S1x1280, .f32⟩
  | .local _ .vmem, ⟨13, _⟩ => ⟨S144x1280, .f32⟩
  | .local _ .vmem, ⟨14, _⟩ => ⟨S2x2048x1408, .f32⟩
  | .local _ .vmem, ⟨15, _⟩ => ⟨S2x2048x1408, .bf16⟩
  | .local _ .vmem, ⟨16, _⟩ => ⟨S2x1x1280, .f32⟩
  | .local _ .vmem, ⟨17, _⟩ => ⟨S2x1x1280, .f32⟩
  | _, _ => ⟨S2048x16640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 13], ![false, false]⟩

def k0_mult1 : BitVec 32 :=
  let c0_i32 : BitVec 32 := 0#32
  c0_i32
def k0_mult2 : BitVec 32 :=
  let c0_i32_16 : BitVec 32 := 0#32
  c0_i32_16
def k0_mult3 : BitVec 32 :=
  let c2048_i32 : BitVec 32 := 2048#32
  c2048_i32
def k0_mult4 : BitVec 32 :=
  let c2048_i32_27 : BitVec 32 := 2048#32
  c2048_i32_27
@[reducible] def k0_t1_loop : Scf.Loop 32 :=
  let c0_i32_52 : BitVec 32 := 0#32
  let c3_i32 : BitVec 32 := 3#32
  let v79 : BitVec 32 := Scalar.addi c0_i32_52 c3_i32
  let c1_i32 : BitVec 32 := 1#32
  ⟨c0_i32_52, v79, c1_i32⟩
def k0_mult5 (k0_t1 : Fin k0_t1_loop.trips) : BitVec 32 :=
  let c2_i32 : BitVec 32 := 2#32
  let c0_i32_52 : BitVec 32 := 0#32
  let c1_i32 : BitVec 32 := 1#32
  let arg16 : BitVec 32 := Scf.iv c0_i32_52 c1_i32 k0_t1
  let v142 : BitVec 32 := Scalar.muli c2_i32 arg16
  let c2_i32_101 : BitVec 32 := 2#32
  let v143 : BitVec 32 := Scalar.addi v142 c2_i32_101
  let c2048_i32_102 : BitVec 32 := 2048#32
  let v144 : BitVec 32 := Scalar.muli v143 c2048_i32_102
  v144
def k0_off1 (k0_t1 : Fin k0_t1_loop.trips) (c2_i32_101 : BitVec 32) : Fin 2 → Nat :=
  let c2_i32 : BitVec 32 := 2#32
  let c0_i32_52 : BitVec 32 := 0#32
  let c1_i32 : BitVec 32 := 1#32
  let arg16 : BitVec 32 := Scf.iv c0_i32_52 c1_i32 k0_t1
  let v142 : BitVec 32 := Scalar.muli c2_i32 arg16
  let v143 : BitVec 32 := Scalar.addi v142 c2_i32_101
  let c2048_i32_102 : BitVec 32 := 2048#32
  let v144 : BitVec 32 := Scalar.muli v143 c2048_i32_102
  let v145 : BitVec 32 := v144
  let v146 : Index := Scalar.indexCast v145
  let c0_103 : Index := 0#32
  ![v146.toNat, 0]
def k0_mult6 (k0_t1 : Fin k0_t1_loop.trips) : BitVec 32 :=
  let c2_i32 : BitVec 32 := 2#32
  let c0_i32_52 : BitVec 32 := 0#32
  let c1_i32 : BitVec 32 := 1#32
  let arg16 : BitVec 32 := Scf.iv c0_i32_52 c1_i32 k0_t1
  let v142 : BitVec 32 := Scalar.muli c2_i32 arg16
  let c2_i32_101 : BitVec 32 := 2#32
  let v143 : BitVec 32 := Scalar.addi v142 c2_i32_101
  let c2048_i32_104 : BitVec 32 := 2048#32
  let v148 : BitVec 32 := Scalar.muli v143 c2048_i32_104
  v148
def k0_mult7 (k0_t1 : Fin k0_t1_loop.trips) : BitVec 32 :=
  let c2_i32 : BitVec 32 := 2#32
  let c0_i32_52 : BitVec 32 := 0#32
  let c1_i32 : BitVec 32 := 1#32
  let arg16 : BitVec 32 := Scf.iv c0_i32_52 c1_i32 k0_t1
  let v142 : BitVec 32 := Scalar.muli c2_i32 arg16
  let c2048_i32_135 : BitVec 32 := 2048#32
  let v188 : BitVec 32 := Scalar.muli v142 c2048_i32_135
  v188
def k0_off2 (k0_t1 : Fin k0_t1_loop.trips) : Fin 2 → Nat :=
  let c0_136 : Index := 0#32
  let c2_i32 : BitVec 32 := 2#32
  let c0_i32_52 : BitVec 32 := 0#32
  let c1_i32 : BitVec 32 := 1#32
  let arg16 : BitVec 32 := Scf.iv c0_i32_52 c1_i32 k0_t1
  let v142 : BitVec 32 := Scalar.muli c2_i32 arg16
  let c2048_i32_135 : BitVec 32 := 2048#32
  let v188 : BitVec 32 := Scalar.muli v142 c2048_i32_135
  let v189 : BitVec 32 := v188
  let v190 : Index := Scalar.indexCast v189
  ![0, v190.toNat]
def k0_mult8 (k0_t1 : Fin k0_t1_loop.trips) : BitVec 32 :=
  let c2_i32 : BitVec 32 := 2#32
  let c0_i32_52 : BitVec 32 := 0#32
  let c1_i32 : BitVec 32 := 1#32
  let arg16 : BitVec 32 := Scf.iv c0_i32_52 c1_i32 k0_t1
  let v142 : BitVec 32 := Scalar.muli c2_i32 arg16
  let c3_i32_144 : BitVec 32 := 3#32
  let v201 : BitVec 32 := Scalar.addi v142 c3_i32_144
  let c2048_i32_145 : BitVec 32 := 2048#32
  let v202 : BitVec 32 := Scalar.muli v201 c2048_i32_145
  v202
def k0_mult9 (k0_t1 : Fin k0_t1_loop.trips) : BitVec 32 :=
  let c2_i32 : BitVec 32 := 2#32
  let c0_i32_52 : BitVec 32 := 0#32
  let c1_i32 : BitVec 32 := 1#32
  let arg16 : BitVec 32 := Scf.iv c0_i32_52 c1_i32 k0_t1
  let v142 : BitVec 32 := Scalar.muli c2_i32 arg16
  let c3_i32_144 : BitVec 32 := 3#32
  let v201 : BitVec 32 := Scalar.addi v142 c3_i32_144
  let c2048_i32_147 : BitVec 32 := 2048#32
  let v206 : BitVec 32 := Scalar.muli v201 c2048_i32_147
  v206
def k0_mult10 (k0_t1 : Fin k0_t1_loop.trips) : BitVec 32 :=
  let c2_i32 : BitVec 32 := 2#32
  let c0_i32_52 : BitVec 32 := 0#32
  let c1_i32 : BitVec 32 := 1#32
  let arg16 : BitVec 32 := Scf.iv c0_i32_52 c1_i32 k0_t1
  let v142 : BitVec 32 := Scalar.muli c2_i32 arg16
  let c1_i32_173 : BitVec 32 := 1#32
  let v241 : BitVec 32 := Scalar.addi v142 c1_i32_173
  let c2048_i32_179 : BitVec 32 := 2048#32
  let v247 : BitVec 32 := Scalar.muli v241 c2048_i32_179
  v247
def k0_off3 (k0_t1 : Fin k0_t1_loop.trips) : Fin 2 → Nat :=
  let c0_180 : Index := 0#32
  let c2_i32 : BitVec 32 := 2#32
  let c0_i32_52 : BitVec 32 := 0#32
  let c1_i32 : BitVec 32 := 1#32
  let arg16 : BitVec 32 := Scf.iv c0_i32_52 c1_i32 k0_t1
  let v142 : BitVec 32 := Scalar.muli c2_i32 arg16
  let c1_i32_173 : BitVec 32 := 1#32
  let v241 : BitVec 32 := Scalar.addi v142 c1_i32_173
  let c2048_i32_179 : BitVec 32 := 2048#32
  let v247 : BitVec 32 := Scalar.muli v241 c2048_i32_179
  let v248 : BitVec 32 := v247
  let v249 : Index := Scalar.indexCast v248
  ![0, v249.toNat]
def k0_mult11 : BitVec 32 :=
  let c12288_i32 : BitVec 32 := 12288#32
  c12288_i32
def k0_mult12 : BitVec 32 :=
  let c14336_i32 : BitVec 32 := 14336#32
  c14336_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let c0_i32 : BitVec 32 := 0#32
  ![c128_i32.toNat, arg0.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let c0_i32 : BitVec 32 := 0#32
  let c0_i32_0 : BitVec 32 := 0#32
  ![c128_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let c0_i32 : BitVec 32 := 0#32
  ![arg0.toNat, c128_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1280x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2048x16640 : Shape := ⟨2, ![2048, 16640]⟩
abbrev S16640x1024 : Shape := ⟨2, ![16640, 1024]⟩
abbrev S16640x128 : Shape := ⟨2, ![16640, 128]⟩
abbrev S1024x16640 : Shape := ⟨2, ![1024, 16640]⟩
abbrev S16640x2048 : Shape := ⟨2, ![16640, 2048]⟩
abbrev S16640x8x256 : Shape := ⟨3, ![16640, 8, 256]⟩
abbrev S16400x1024 : Shape := ⟨2, ![16400, 1024]⟩
abbrev S16400x8x128 : Shape := ⟨3, ![16400, 8, 128]⟩
abbrev S16400x128 : Shape := ⟨2, ![16400, 128]⟩
abbrev S16400x1x128 : Shape := ⟨3, ![16400, 1, 128]⟩
abbrev S16400x8x256 : Shape := ⟨3, ![16400, 8, 256]⟩
abbrev S1024x16400 : Shape := ⟨2, ![1024, 16400]⟩
abbrev S8x16640x16400 : Shape := ⟨3, ![8, 16640, 16400]⟩
abbrev S_ : Shape := ⟨0, ![]⟩
abbrev S8x16640 : Shape := ⟨2, ![8, 16640]⟩
abbrev S8x16640x1 : Shape := ⟨3, ![8, 16640, 1]⟩
abbrev S8x128x16640 : Shape := ⟨3, ![8, 128, 16640]⟩
abbrev S16640x8x128 : Shape := ⟨3, ![16640, 8, 128]⟩

abbrev nBuf : Space → Nat
  | .hbm => 39
  | .vmem => 0
  | .smem => 0
  | _ => 0

abbrev bufTy : (tb : Table) → Fin (tcTables nBuf tb) → BufTy
  | .hbm, ⟨0, _⟩ => ⟨S2048x16640, .bf16⟩
  | .hbm, ⟨1, _⟩ => ⟨S16640x1024, .bf16⟩
  | .hbm, ⟨2, _⟩ => ⟨S16640x128, .bf16⟩
  | .hbm, ⟨3, _⟩ => ⟨S1024x16640, .bf16⟩
  | .hbm, ⟨4, _⟩ => ⟨S16640x2048, .bf16⟩
  | .hbm, ⟨5, _⟩ => ⟨S16640x8x256, .bf16⟩
  | .hbm, ⟨6, _⟩ => ⟨S16400x1024, .bf16⟩
  | .hbm, ⟨7, _⟩ => ⟨S16400x8x128, .bf16⟩
  | .hbm, ⟨8, _⟩ => ⟨S16400x128, .bf16⟩
  | .hbm, ⟨9, _⟩ => ⟨S16400x1x128, .bf16⟩
  | .hbm, ⟨10, _⟩ => ⟨S16400x8x128, .bf16⟩
  | .hbm, ⟨11, _⟩ => ⟨S16400x8x256, .bf16⟩
  | .hbm, ⟨12, _⟩ => ⟨S1024x16400, .bf16⟩
  | .hbm, ⟨13, _⟩ => ⟨S16400x1024, .bf16⟩
  | .hbm, ⟨14, _⟩ => ⟨S16400x8x128, .bf16⟩
  | .hbm, ⟨15, _⟩ => ⟨S8x16640x16400, .f32⟩
  | .hbm, ⟨16, _⟩ => ⟨S_, .f32⟩
  | .hbm, ⟨17, _⟩ => ⟨S_, .f32⟩
  | .hbm, ⟨18, _⟩ => ⟨S8x16640x16400, .f32⟩
  | .hbm, ⟨19, _⟩ => ⟨S8x16640x16400, .f32⟩
  | .hbm, ⟨20, _⟩ => ⟨S_, .f32⟩
  | .hbm, ⟨21, _⟩ => ⟨S8x16640, .f32⟩
  | .hbm, ⟨22, _⟩ => ⟨S_, .f32⟩
  | .hbm, ⟨23, _⟩ => ⟨S8x16640, .f32⟩
  | .hbm, ⟨24, _⟩ => ⟨S8x16640, .f32⟩
  | .hbm, ⟨25, _⟩ => ⟨S8x16640x1, .f32⟩
  | .hbm, ⟨26, _⟩ => ⟨S8x16640x16400, .f32⟩
  | .hbm, ⟨27, _⟩ => ⟨S8x16640x16400, .f32⟩
  | .hbm, ⟨28, _⟩ => ⟨S8x16640x16400, .f32⟩
  | .hbm, ⟨29, _⟩ => ⟨S_, .f32⟩
  | .hbm, ⟨30, _⟩ => ⟨S8x16640, .f32⟩
  | .hbm, ⟨31, _⟩ => ⟨S8x16640x1, .f32⟩
  | .hbm, ⟨32, _⟩ => ⟨S8x16640x16400, .f32⟩
  | .hbm, ⟨33, _⟩ => ⟨S8x16640x16400, .f32⟩
  | .hbm, ⟨34, _⟩ => ⟨S8x16640x16400, .bf16⟩
  | .hbm, ⟨35, _⟩ => ⟨S8x128x16640, .f32⟩
  | .hbm, ⟨36, _⟩ => ⟨S16640x8x128, .f32⟩
  | .hbm, ⟨37, _⟩ => ⟨S16640x8x128, .bf16⟩
  | .hbm, ⟨38, _⟩ => ⟨S16640x1024, .bf16⟩
  | _, _ => ⟨S2048x16640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel2.lean ====
abbrev S1024x16640 : Shape := ⟨2, ![1024, 16640]⟩
abbrev S16640x256 : Shape := ⟨2, ![16640, 256]⟩
abbrev S256x16640 : Shape := ⟨2, ![256, 16640]⟩
abbrev S16640x1024 : Shape := ⟨2, ![16640, 1024]⟩
abbrev S512x256 : Shape := ⟨2, ![512, 256]⟩
abbrev S16384x128 : Shape := ⟨2, ![16384, 128]⟩
abbrev S128x16384 : Shape := ⟨2, ![128, 16384]⟩
abbrev S128x128 : Shape := ⟨2, ![128, 128]⟩
abbrev S256x512 : Shape := ⟨2, ![256, 512]⟩
abbrev S1x1024 : Shape := ⟨2, ![1, 1024]⟩
abbrev S144x1024 : Shape := ⟨2, ![144, 1024]⟩
abbrev S2x2048x1152 : Shape := ⟨3, ![2, 2048, 1152]⟩
abbrev S2x1x1024 : Shape := ⟨3, ![2, 1, 1024]⟩
abbrev S128x256 : Shape := ⟨2, ![128, 256]⟩
abbrev S128x1024 : Shape := ⟨2, ![128, 1024]⟩
abbrev S1024 : Shape := ⟨1, ![1024]⟩
abbrev S16x128 : Shape := ⟨2, ![16, 128]⟩
abbrev S144x128 : Shape := ⟨2, ![144, 128]⟩
abbrev S2048x128 : Shape := ⟨2, ![2048, 128]⟩
abbrev S2048x1024 : Shape := ⟨2, ![2048, 1024]⟩
abbrev S1x2048x1024 : Shape := ⟨3, ![1, 2048, 1024]⟩
abbrev S1x1x1024 : Shape := ⟨3, ![1, 1, 1024]⟩
abbrev S128x2048 : Shape := ⟨2, ![128, 2048]⟩
abbrev S16x2048 : Shape := ⟨2, ![16, 2048]⟩
abbrev S144x2048 : Shape := ⟨2, ![144, 2048]⟩
abbrev S1x256 : Shape := ⟨2, ![1, 256]⟩
abbrev S256x128 : Shape := ⟨2, ![256, 128]⟩

abbrev nBuf : Space → Nat
  | .hbm => 4
  | .vmem => 18
  | .smem => 0
  | _ => 0

abbrev bufTy : (tb : Table) → Fin (tcTables nBuf tb) → BufTy
  | .hbm, ⟨0, _⟩ => ⟨S1024x16640, .bf16⟩
  | .hbm, ⟨1, _⟩ => ⟨S16640x256, .bf16⟩
  | .hbm, ⟨2, _⟩ => ⟨S256x16640, .bf16⟩
  | .hbm, ⟨3, _⟩ => ⟨S16640x1024, .bf16⟩
  | .local _ .vmem, ⟨0, _⟩ => ⟨S512x256, .bf16⟩
  | .local _ .vmem, ⟨1, _⟩ => ⟨S512x256, .bf16⟩
  | .local _ .vmem, ⟨2, _⟩ => ⟨S16384x128, .bf16⟩
  | .local _ .vmem, ⟨3, _⟩ => ⟨S16384x128, .bf16⟩
  | .local _ .vmem, ⟨4, _⟩ => ⟨S128x16384, .bf16⟩
  | .local _ .vmem, ⟨5, _⟩ => ⟨S128x16384, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S256x512, .bf16⟩
  | .local _ .vmem, ⟨11, _⟩ => ⟨S256x512, .bf16⟩
  | .local _ .vmem, ⟨12, _⟩ => ⟨S1x1024, .f32⟩
  | .local _ .vmem, ⟨13, _⟩ => ⟨S144x1024, .f32⟩
  | .local _ .vmem, ⟨14, _⟩ => ⟨S2x2048x1152, .f32⟩
  | .local _ .vmem, ⟨15, _⟩ => ⟨S2x2048x1152, .bf16⟩
  | .local _ .vmem, ⟨16, _⟩ => ⟨S2x1x1024, .f32⟩
  | .local _ .vmem, ⟨17, _⟩ => ⟨S2x1x1024, .f32⟩
  | _, _ => ⟨S1024x16640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 65], ![false, false]⟩

def k0_mult1 : BitVec 32 :=
  let c0_i32 : BitVec 32 := 0#32
  c0_i32
def k0_mult2 : BitVec 32 :=
  let c2048_i32 : BitVec 32 := 2048#32
  c2048_i32
@[reducible] def k0_t1_loop : Scf.Loop 32 :=
  let c0_i32_49 : BitVec 32 := 0#32
  let c3_i32 : BitVec 32 := 3#32
  let v73 : BitVec 32 := Scalar.addi c0_i32_49 c3_i32
  let c1_i32 : BitVec 32 := 1#32
  ⟨c0_i32_49, v73, c1_i32⟩
def k0_mult3 (k0_t1 : Fin k0_t1_loop.trips) : BitVec 32 :=
  let c2_i32 : BitVec 32 := 2#32
  let c0_i32_49 : BitVec 32 := 0#32
  let c1_i32 : BitVec 32 := 1#32
  let arg14 : BitVec 32 := Scf.iv c0_i32_49 c1_i32 k0_t1
  let v157 : BitVec 32 := Scalar.muli c2_i32 arg14
  let c2_i32_115 : BitVec 32 := 2#32
  let v158 : BitVec 32 := Scalar.addi v157 c2_i32_115
  let c2048_i32_116 : BitVec 32 := 2048#32
  let v159 : BitVec 32 := Scalar.muli v158 c2048_i32_116
  v159
def k0_off1 (k0_t1 : Fin k0_t1_loop.trips) (c2_i32_115 : BitVec 32) : Fin 2 → Nat :=
  let c2_i32 : BitVec 32 := 2#32
  let c0_i32_49 : BitVec 32 := 0#32
  let c1_i32 : BitVec 32 := 1#32
  let arg14 : BitVec 32 := Scf.iv c0_i32_49 c1_i32 k0_t1
  let v157 : BitVec 32 := Scalar.muli c2_i32 arg14
  let v158 : BitVec 32 := Scalar.addi v157 c2_i32_115
  let c2048_i32_116 : BitVec 32 := 2048#32
  let v159 : BitVec 32 := Scalar.muli v158 c2048_i32_116
  let v160 : BitVec 32 := v159
  let v161 : Index := Scalar.indexCast v160
  let c0_117 : Index := 0#32
  ![v161.toNat, 0]
def k0_mult4 (k0_t1 : Fin k0_t1_loop.trips) : BitVec 32 :=
  let c2_i32 : BitVec 32 := 2#32
  let c0_i32_49 : BitVec 32 := 0#32
  let c1_i32 : BitVec 32 := 1#32
  let arg14 : BitVec 32 := Scf.iv c0_i32_49 c1_i32 k0_t1
  let v157 : BitVec 32 := Scalar.muli c2_i32 arg14
  let c2048_i32_147 : BitVec 32 := 2048#32
  let v198 : BitVec 32 := Scalar.muli v157 c2048_i32_147
  v198
def k0_off2 (k0_t1 : Fin k0_t1_loop.trips) : Fin 2 → Nat :=
  let c0_148 : Index := 0#32
  let c2_i32 : BitVec 32 := 2#32
  let c0_i32_49 : BitVec 32 := 0#32
  let c1_i32 : BitVec 32 := 1#32
  let arg14 : BitVec 32 := Scf.iv c0_i32_49 c1_i32 k0_t1
  let v157 : BitVec 32 := Scalar.muli c2_i32 arg14
  let c2048_i32_147 : BitVec 32 := 2048#32
  let v198 : BitVec 32 := Scalar.muli v157 c2048_i32_147
  let v199 : BitVec 32 := v198
  let v200 : Index := Scalar.indexCast v199
  ![0, v200.toNat]
def k0_mult5 (k0_t1 : Fin k0_t1_loop.trips) : BitVec 32 :=
  let c2_i32 : BitVec 32 := 2#32
  let c0_i32_49 : BitVec 32 := 0#32
  let c1_i32 : BitVec 32 := 1#32
  let arg14 : BitVec 32 := Scf.iv c0_i32_49 c1_i32 k0_t1
  let v157 : BitVec 32 := Scalar.muli c2_i32 arg14
  let c3_i32_156 : BitVec 32 := 3#32
  let v211 : BitVec 32 := Scalar.addi v157 c3_i32_156
  let c2048_i32_157 : BitVec 32 := 2048#32
  let v212 : BitVec 32 := Scalar.muli v211 c2048_i32_157
  v212
def k0_mult6 (k0_t1 : Fin k0_t1_loop.trips) : BitVec 32 :=
  let c2_i32 : BitVec 32 := 2#32
  let c0_i32_49 : BitVec 32 := 0#32
  let c1_i32 : BitVec 32 := 1#32
  let arg14 : BitVec 32 := Scf.iv c0_i32_49 c1_i32 k0_t1
  let v157 : BitVec 32 := Scalar.muli c2_i32 arg14
  let c1_i32_183 : BitVec 32 := 1#32
  let v246 : BitVec 32 := Scalar.addi v157 c1_i32_183
  let c2048_i32_189 : BitVec 32 := 2048#32
  let v252 : BitVec 32 := Scalar.muli v246 c2048_i32_189
  v252
def k0_off3 (k0_t1 : Fin k0_t1_loop.trips) : Fin 2 → Nat :=
  let c0_190 : Index := 0#32
  let c2_i32 : BitVec 32 := 2#32
  let c0_i32_49 : BitVec 32 := 0#32
  let c1_i32 : BitVec 32 := 1#32
  let arg14 : BitVec 32 := Scf.iv c0_i32_49 c1_i32 k0_t1
  let v157 : BitVec 32 := Scalar.muli c2_i32 arg14
  let c1_i32_183 : BitVec 32 := 1#32
  let v246 : BitVec 32 := Scalar.addi v157 c1_i32_183
  let c2048_i32_189 : BitVec 32 := 2048#32
  let v252 : BitVec 32 := Scalar.muli v246 c2048_i32_189
  let v253 : BitVec 32 := v252
  let v254 : Index := Scalar.indexCast v253
  ![0, v254.toNat]
def k0_mult7 : BitVec 32 :=
  let c12288_i32 : BitVec 32 := 12288#32
  c12288_i32
def k0_mult8 : BitVec 32 :=
  let c14336_i32 : BitVec 32 := 14336#32
  c14336_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let c0_i32 : BitVec 32 := 0#32
  ![c128_i32.toNat, arg0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let c0_i32 : BitVec 32 := 0#32
  ![arg0.toNat, c128_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S1024x16640 : Shape := ⟨2, ![1024, 16640]⟩
abbrev S16640x256 : Shape := ⟨2, ![16640, 256]⟩
abbrev S256x16640 : Shape := ⟨2, ![256, 16640]⟩
abbrev S16640x1024 : Shape := ⟨2, ![16640, 1024]⟩
abbrev S16640x2x4x128 : Shape := ⟨4, ![16640, 2, 4, 128]⟩
abbrev S16400x256 : Shape := ⟨2, ![16400, 256]⟩
abbrev S16400x2x128 : Shape := ⟨3, ![16400, 2, 128]⟩
abbrev S256x16400 : Shape := ⟨2, ![256, 16400]⟩
abbrev S2x16400x16640x4 : Shape := ⟨4, ![2, 16400, 16640, 4]⟩
abbrev S2x4x16640x16400 : Shape := ⟨4, ![2, 4, 16640, 16400]⟩
abbrev S_ : Shape := ⟨0, ![]⟩
abbrev S2x4x16640 : Shape := ⟨3, ![2, 4, 16640]⟩
abbrev S2x4x16640x1 : Shape := ⟨4, ![2, 4, 16640, 1]⟩
abbrev S2x128x4x16640 : Shape := ⟨4, ![2, 128, 4, 16640]⟩

abbrev nBuf : Space → Nat
  | .hbm => 35
  | .vmem => 0
  | .smem => 0
  | _ => 0

abbrev bufTy : (tb : Table) → Fin (tcTables nBuf tb) → BufTy
  | .hbm, ⟨0, _⟩ => ⟨S1024x16640, .bf16⟩
  | .hbm, ⟨1, _⟩ => ⟨S16640x256, .bf16⟩
  | .hbm, ⟨2, _⟩ => ⟨S256x16640, .bf16⟩
  | .hbm, ⟨3, _⟩ => ⟨S16640x1024, .bf16⟩
  | .hbm, ⟨4, _⟩ => ⟨S16640x2x4x128, .bf16⟩
  | .hbm, ⟨5, _⟩ => ⟨S16400x256, .bf16⟩
  | .hbm, ⟨6, _⟩ => ⟨S16400x2x128, .bf16⟩
  | .hbm, ⟨7, _⟩ => ⟨S256x16400, .bf16⟩
  | .hbm, ⟨8, _⟩ => ⟨S16400x256, .bf16⟩
  | .hbm, ⟨9, _⟩ => ⟨S16400x2x128, .bf16⟩
  | .hbm, ⟨10, _⟩ => ⟨S2x16400x16640x4, .f32⟩
  | .hbm, ⟨11, _⟩ => ⟨S2x4x16640x16400, .f32⟩
  | .hbm, ⟨12, _⟩ => ⟨S_, .f32⟩
  | .hbm, ⟨13, _⟩ => ⟨S_, .f32⟩
  | .hbm, ⟨14, _⟩ => ⟨S2x4x16640x16400, .f32⟩
  | .hbm, ⟨15, _⟩ => ⟨S2x4x16640x16400, .f32⟩
  | .hbm, ⟨16, _⟩ => ⟨S_, .f32⟩
  | .hbm, ⟨17, _⟩ => ⟨S2x4x16640, .f32⟩
  | .hbm, ⟨18, _⟩ => ⟨S_, .f32⟩
  | .hbm, ⟨19, _⟩ => ⟨S2x4x16640, .f32⟩
  | .hbm, ⟨20, _⟩ => ⟨S2x4x16640, .f32⟩
  | .hbm, ⟨21, _⟩ => ⟨S2x4x16640x1, .f32⟩
  | .hbm, ⟨22, _⟩ => ⟨S2x4x16640x16400, .f32⟩
  | .hbm, ⟨23, _⟩ => ⟨S2x4x16640x16400, .f32⟩
  | .hbm, ⟨24, _⟩ => ⟨S2x4x16640x16400, .f32⟩
  | .hbm, ⟨25, _⟩ => ⟨S_, .f32⟩
  | .hbm, ⟨26, _⟩ => ⟨S2x4x16640, .f32⟩
  | .hbm, ⟨27, _⟩ => ⟨S2x4x16640x1, .f32⟩
  | .hbm, ⟨28, _⟩ => ⟨S2x4x16640x16400, .f32⟩
  | .hbm, ⟨29, _⟩ => ⟨S2x4x16640x16400, .f32⟩
  | .hbm, ⟨30, _⟩ => ⟨S2x4x16640x16400, .bf16⟩
  | .hbm, ⟨31, _⟩ => ⟨S2x128x4x16640, .f32⟩
  | .hbm, ⟨32, _⟩ => ⟨S16640x2x4x128, .f32⟩
  | .hbm, ⟨33, _⟩ => ⟨S16640x2x4x128, .bf16⟩
  | .hbm, ⟨34, _⟩ => ⟨S16640x1024, .bf16⟩
  | _, _ => ⟨S1024x16640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel3.lean ====
abbrev S16640x2048 : Shape := ⟨2, ![16640, 2048]⟩
abbrev S2048x7168 : Shape := ⟨2, ![2048, 7168]⟩
abbrev S7168x2048 : Shape := ⟨2, ![7168, 2048]⟩
abbrev S1x2048 : Shape := ⟨2, ![1, 2048]⟩
abbrev S640x2048 : Shape := ⟨2, ![640, 2048]⟩
abbrev S2048x512 : Shape := ⟨2, ![2048, 512]⟩
abbrev S512x2048 : Shape := ⟨2, ![512, 2048]⟩
abbrev S640x512 : Shape := ⟨2, ![640, 512]⟩
abbrev S640 : Shape := ⟨1, ![640]⟩
abbrev S640x1 : Shape := ⟨2, ![640, 1]⟩

abbrev nBuf : Space → Nat
  | .hbm => 12
  | .vmem => 16
  | .smem => 0
  | _ => 0

abbrev bufTy : (tb : Table) → Fin (tcTables nBuf tb) → BufTy
  | .hbm, ⟨0, _⟩ => ⟨S16640x2048, .bf16⟩
  | .hbm, ⟨1, _⟩ => ⟨S2048x7168, .f32⟩
  | .hbm, ⟨2, _⟩ => ⟨S2048x7168, .f32⟩
  | .hbm, ⟨3, _⟩ => ⟨S7168x2048, .f32⟩
  | .hbm, ⟨4, _⟩ => ⟨S16640x2048, .f32⟩
  | .hbm, ⟨5, _⟩ => ⟨S1x2048, .f32⟩
  | .hbm, ⟨6, _⟩ => ⟨S1x2048, .f32⟩
  | .hbm, ⟨7, _⟩ => ⟨S2048x7168, .bf16⟩
  | .hbm, ⟨8, _⟩ => ⟨S2048x7168, .bf16⟩
  | .hbm, ⟨9, _⟩ => ⟨S7168x2048, .bf16⟩
  | .hbm, ⟨10, _⟩ => ⟨S16640x2048, .f32⟩
  | .hbm, ⟨11, _⟩ => ⟨S16640x2048, .bf16⟩
  | .local _ .vmem, ⟨0, _⟩ => ⟨S640x2048, .bf16⟩
  | .local _ .vmem, ⟨1, _⟩ => ⟨S640x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S640x2048, .f32⟩
  | .local _ .vmem, ⟨9, _⟩ => ⟨S640x2048, .f32⟩
  | .local _ .vmem, ⟨10, _⟩ => ⟨S1x2048, .f32⟩
  | .local _ .vmem, ⟨11, _⟩ => ⟨S1x2048, .f32⟩
  | .local _ .vmem, ⟨12, _⟩ => ⟨S640x2048, .f32⟩
  | .local _ .vmem, ⟨13, _⟩ => ⟨S640x2048, .f32⟩
  | .local _ .vmem, ⟨14, _⟩ => ⟨S640x2048, .bf16⟩
  | .local _ .vmem, ⟨15, _⟩ => ⟨S640x2048, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![26, 14], ![false, false]⟩

def k0_cond2 (i : grid0.Coords) : BitVec 1 :=
  let arg1 : BitVec 32 := BitVec.ofNat 32 (i 1).val
  let c13_i32 : BitVec 32 := 13#32
  let v21 : BitVec 1 := Scalar.cmpi .eq arg1 c13_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S640x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S640x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S16640x2048 : Shape := ⟨2, ![16640, 2048]⟩
abbrev S2048x7168 : Shape := ⟨2, ![2048, 7168]⟩
abbrev S7168x2048 : Shape := ⟨2, ![7168, 2048]⟩
abbrev S1x2048 : Shape := ⟨2, ![1, 2048]⟩
abbrev S16640x7168 : Shape := ⟨2, ![16640, 7168]⟩
abbrev S_ : Shape := ⟨0, ![]⟩
abbrev S2048 : Shape := ⟨1, ![2048]⟩
abbrev S16640 : Shape := ⟨1, ![16640]⟩
abbrev S16640x1 : Shape := ⟨2, ![16640, 1]⟩

abbrev nBuf : Space → Nat
  | .hbm => 57
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2048x7168, .f32⟩
  | .hbm, ⟨2, _⟩ => ⟨S2048x7168, .f32⟩
  | .hbm, ⟨3, _⟩ => ⟨S7168x2048, .f32⟩
  | .hbm, ⟨4, _⟩ => ⟨S16640x2048, .f32⟩
  | .hbm, ⟨5, _⟩ => ⟨S1x2048, .f32⟩
  | .hbm, ⟨6, _⟩ => ⟨S1x2048, .f32⟩
  | .hbm, ⟨7, _⟩ => ⟨S16640x2048, .f32⟩
  | .hbm, ⟨8, _⟩ => ⟨S16640x7168, .f32⟩
  | .hbm, ⟨9, _⟩ => ⟨S16640x7168, .f32⟩
  | .hbm, ⟨10, _⟩ => ⟨S16640x7168, .f32⟩
  | .hbm, ⟨11, _⟩ => ⟨S_, .f32⟩
  | .hbm, ⟨12, _⟩ => ⟨S16640x7168, .f32⟩
  | .hbm, ⟨13, _⟩ => ⟨S16640x7168, .f32⟩
  | .hbm, ⟨14, _⟩ => ⟨S_, .f32⟩
  | .hbm, ⟨15, _⟩ => ⟨S16640x7168, .f32⟩
  | .hbm, ⟨16, _⟩ => ⟨S16640x7168, .f32⟩
  | .hbm, ⟨17, _⟩ => ⟨S16640x7168, .f32⟩
  | .hbm, ⟨18, _⟩ => ⟨S16640x7168, .f32⟩
  | .hbm, ⟨19, _⟩ => ⟨S16640x7168, .f32⟩
  | .hbm, ⟨20, _⟩ => ⟨S16640x2048, .f32⟩
  | .hbm, ⟨21, _⟩ => ⟨S2048, .f32⟩
  | .hbm, ⟨22, _⟩ => ⟨S16640x2048, .f32⟩
  | .hbm, ⟨23, _⟩ => ⟨S_, .f32⟩
  | .hbm, ⟨24, _⟩ => ⟨S16640, .f32⟩
  | .hbm, ⟨25, _⟩ => ⟨S16640x1, .f32⟩
  | .hbm, ⟨26, _⟩ => ⟨S_, .f32⟩
  | .hbm, ⟨27, _⟩ => ⟨S16640x1, .f32⟩
  | .hbm, ⟨28, _⟩ => ⟨S16640x1, .f32⟩
  | .hbm, ⟨29, _⟩ => ⟨S_, .f32⟩
  | .hbm, ⟨30, _⟩ => ⟨S16640x1, .f32⟩
  | .hbm, ⟨31, _⟩ => ⟨S16640x1, .f32⟩
  | .hbm, ⟨32, _⟩ => ⟨S16640x1, .f32⟩
  | .hbm, ⟨33, _⟩ => ⟨S16640x2048, .f32⟩
  | .hbm, ⟨34, _⟩ => ⟨S16640x2048, .f32⟩
  | .hbm, ⟨35, _⟩ => ⟨S1x2048, .f32⟩
  | .hbm, ⟨36, _⟩ => ⟨S16640x2048, .f32⟩
  | .hbm, ⟨37, _⟩ => ⟨S16640x2048, .f32⟩
  | .hbm, ⟨38, _⟩ => ⟨S16640x2048, .f32⟩
  | .hbm, ⟨39, _⟩ => ⟨S2048, .f32⟩
  | .hbm, ⟨40, _⟩ => ⟨S16640x2048, .f32⟩
  | .hbm, ⟨41, _⟩ => ⟨S_, .f32⟩
  | .hbm, ⟨42, _⟩ => ⟨S16640, .f32⟩
  | .hbm, ⟨43, _⟩ => ⟨S16640x1, .f32⟩
  | .hbm, ⟨44, _⟩ => ⟨S_, .f32⟩
  | .hbm, ⟨45, _⟩ => ⟨S16640x1, .f32⟩
  | .hbm, ⟨46, _⟩ => ⟨S16640x1, .f32⟩
  | .hbm, ⟨47, _⟩ => ⟨S_, .f32⟩
  | .hbm, ⟨48, _⟩ => ⟨S16640x1, .f32⟩
  | .hbm, ⟨49, _⟩ => ⟨S16640x1, .f32⟩
  | .hbm, ⟨50, _⟩ => ⟨S16640x1, .f32⟩
  | .hbm, ⟨51, _⟩ => ⟨S16640x2048, .f32⟩
  | .hbm, ⟨52, _⟩ => ⟨S16640x2048, .f32⟩
  | .hbm, ⟨53, _⟩ => ⟨S1x2048, .f32⟩
  | .hbm, ⟨54, _⟩ => ⟨S16640x2048, .f32⟩
  | .hbm, ⟨55, _⟩ => ⟨S16640x2048, .f32⟩
  | .hbm, ⟨56, _⟩ => ⟨S16640x2048, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel4.lean ====
abbrev S41 : Shape := ⟨1, ![41]⟩
abbrev S1 : Shape := ⟨1, ![1]⟩
abbrev S41984x2048 : Shape := ⟨2, ![41984, 2048]⟩
abbrev S8x2048x7168 : Shape := ⟨3, ![8, 2048, 7168]⟩
abbrev S8x7168x2048 : Shape := ⟨3, ![8, 7168, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 5
  | .vmem => 10
  | .smem => 2
  | _ => 0

abbrev bufTy : (tb : Table) → Fin (tcTables nBuf tb) → BufTy
  | .hbm, ⟨0, _⟩ => ⟨S41984x2048, .bf16⟩
  | .hbm, ⟨1, _⟩ => ⟨S8x2048x7168, .f32⟩
  | .hbm, ⟨2, _⟩ => ⟨S8x2048x7168, .f32⟩
  | .hbm, ⟨3, _⟩ => ⟨S8x7168x2048, .f32⟩
  | .hbm, ⟨4, _⟩ => ⟨S41984x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1024x2048, .f32⟩
  | .local _ .vmem, ⟨9, _⟩ => ⟨S1024x2048, .f32⟩
  | .local _ .smem, ⟨0, _⟩ => ⟨S41, .i32⟩
  | .local _ .smem, ⟨1, _⟩ => ⟨S1, .i32⟩
  | _, _ => ⟨S41984x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![41, 14], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S41 : Shape := ⟨1, ![41]⟩
abbrev S1 : Shape := ⟨1, ![1]⟩
abbrev S41984x2048 : Shape := ⟨2, ![41984, 2048]⟩
abbrev S8x2048x7168 : Shape := ⟨3, ![8, 2048, 7168]⟩
abbrev S8x7168x2048 : Shape := ⟨3, ![8, 7168, 2048]⟩
abbrev S41x1024x2048 : Shape := ⟨3, ![41, 1024, 2048]⟩
abbrev S_ : Shape := ⟨0, ![]⟩
abbrev S41x1 : Shape := ⟨2, ![41, 1]⟩
abbrev S41x2048x7168 : Shape := ⟨3, ![41, 2048, 7168]⟩
abbrev S41x1024x7168 : Shape := ⟨3, ![41, 1024, 7168]⟩
abbrev S41x7168x2048 : Shape := ⟨3, ![41, 7168, 2048]⟩
abbrev S41x1x1 : Shape := ⟨3, ![41, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S41, .i32⟩
  | .hbm, ⟨1, _⟩ => ⟨S1, .i32⟩
  | .hbm, ⟨2, _⟩ => ⟨S41984x2048, .bf16⟩
  | .hbm, ⟨3, _⟩ => ⟨S8x2048x7168, .f32⟩
  | .hbm, ⟨4, _⟩ => ⟨S8x2048x7168, .f32⟩
  | .hbm, ⟨5, _⟩ => ⟨S8x7168x2048, .f32⟩
  | .hbm, ⟨6, _⟩ => ⟨S41984x2048, .f32⟩
  | .hbm, ⟨7, _⟩ => ⟨S41x1024x2048, .f32⟩
  | .hbm, ⟨8, _⟩ => ⟨S_, .i32⟩
  | .hbm, ⟨9, _⟩ => ⟨S41, .i32⟩
  | .hbm, ⟨10, _⟩ => ⟨S41, .i1⟩
  | .hbm, ⟨11, _⟩ => ⟨S_, .i32⟩
  | .hbm, ⟨12, _⟩ => ⟨S41, .i32⟩
  | .hbm, ⟨13, _⟩ => ⟨S41, .i32⟩
  | .hbm, ⟨14, _⟩ => ⟨S41, .i32⟩
  | .hbm, ⟨15, _⟩ => ⟨S41x1, .i32⟩
  | .hbm, ⟨16, _⟩ => ⟨S41x2048x7168, .f32⟩
  | .hbm, ⟨17, _⟩ => ⟨S41x1024x7168, .f32⟩
  | .hbm, ⟨18, _⟩ => ⟨S_, .i32⟩
  | .hbm, ⟨19, _⟩ => ⟨S41, .i32⟩
  | .hbm, ⟨20, _⟩ => ⟨S41, .i1⟩
  | .hbm, ⟨21, _⟩ => ⟨S_, .i32⟩
  | .hbm, ⟨22, _⟩ => ⟨S41, .i32⟩
  | .hbm, ⟨23, _⟩ => ⟨S41, .i32⟩
  | .hbm, ⟨24, _⟩ => ⟨S41, .i32⟩
  | .hbm, ⟨25, _⟩ => ⟨S41x1, .i32⟩
  | .hbm, ⟨26, _⟩ => ⟨S41x2048x7168, .f32⟩
  | .hbm, ⟨27, _⟩ => ⟨S41x1024x7168, .f32⟩
  | .hbm, ⟨28, _⟩ => ⟨S41x1024x7168, .f32⟩
  | .hbm, ⟨29, _⟩ => ⟨S41x1024x7168, .f32⟩
  | .hbm, ⟨30, _⟩ => ⟨S_, .f32⟩
  | .hbm, ⟨31, _⟩ => ⟨S41x1024x7168, .f32⟩
  | .hbm, ⟨32, _⟩ => ⟨S41x1024x7168, .f32⟩
  | .hbm, ⟨33, _⟩ => ⟨S_, .f32⟩
  | .hbm, ⟨34, _⟩ => ⟨S41x1024x7168, .f32⟩
  | .hbm, ⟨35, _⟩ => ⟨S41x1024x7168, .f32⟩
  | .hbm, ⟨36, _⟩ => ⟨S41x1024x7168, .f32⟩
  | .hbm, ⟨37, _⟩ => ⟨S41x1024x7168, .f32⟩
  | .hbm, ⟨38, _⟩ => ⟨S_, .i32⟩
  | .hbm, ⟨39, _⟩ => ⟨S41, .i32⟩
  | .hbm, ⟨40, _⟩ => ⟨S41, .i1⟩
  | .hbm, ⟨41, _⟩ => ⟨S_, .i32⟩
  | .hbm, ⟨42, _⟩ => ⟨S41, .i32⟩
  | .hbm, ⟨43, _⟩ => ⟨S41, .i32⟩
  | .hbm, ⟨44, _⟩ => ⟨S41, .i32⟩
  | .hbm, ⟨45, _⟩ => ⟨S41x1, .i32⟩
  | .hbm, ⟨46, _⟩ => ⟨S41x7168x2048, .f32⟩
  | .hbm, ⟨47, _⟩ => ⟨S41x1024x2048, .f32⟩
  | .hbm, ⟨48, _⟩ => ⟨S41, .i32⟩
  | .hbm, ⟨49, _⟩ => ⟨S_, .i32⟩
  | .hbm, ⟨50, _⟩ => ⟨S41, .i32⟩
  | .hbm, ⟨51, _⟩ => ⟨S41, .i1⟩
  | .hbm, ⟨52, _⟩ => ⟨S41x1x1, .i1⟩
  | .hbm, ⟨53, _⟩ => ⟨S_, .f32⟩
  | .hbm, ⟨54, _⟩ => ⟨S_, .f32⟩
  | .hbm, ⟨55, _⟩ => ⟨S41x1024x2048, .i1⟩
  | .hbm, ⟨56, _⟩ => ⟨S41x1024x2048, .f32⟩
  | .hbm, ⟨57, _⟩ => ⟨S41x1024x2048, .f32⟩
  | .hbm, ⟨58, _⟩ => ⟨S41984x2048, .f32⟩
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Kernel5.lean ====
abbrev S16640x1024 : Shape := ⟨2, ![16640, 1024]⟩
abbrev S2048x2048 : Shape := ⟨2, ![2048, 2048]⟩
abbrev S16640x2048 : Shape := ⟨2, ![16640, 2048]⟩
abbrev S1x2048 : Shape := ⟨2, ![1, 2048]⟩
abbrev S1024x2048 : Shape := ⟨2, ![1024, 2048]⟩
abbrev S640x1024 : Shape := ⟨2, ![640, 1024]⟩
abbrev S640x2048 : Shape := ⟨2, ![640, 2048]⟩
abbrev S640 : Shape := ⟨1, ![640]⟩
abbrev S640x1 : Shape := ⟨2, ![640, 1]⟩

abbrev nBuf : Space → Nat
  | .hbm => 11
  | .vmem => 14
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S2048x2048, .f32⟩
  | .hbm, ⟨3, _⟩ => ⟨S16640x2048, .f32⟩
  | .hbm, ⟨4, _⟩ => ⟨S1x2048, .f32⟩
  | .hbm, ⟨5, _⟩ => ⟨S1x2048, .f32⟩
  | .hbm, ⟨6, _⟩ => ⟨S2048x2048, .bf16⟩
  | .hbm, ⟨7, _⟩ => ⟨S1024x2048, .bf16⟩
  | .hbm, ⟨8, _⟩ => ⟨S1024x2048, .bf16⟩
  | .hbm, ⟨9, _⟩ => ⟨S16640x2048, .f32⟩
  | .hbm, ⟨10, _⟩ => ⟨S16640x2048, .bf16⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S1024x2048, .bf16⟩
  | .local _ .vmem, ⟨5, _⟩ => ⟨S1024x2048, .bf16⟩
  | .local _ .vmem, ⟨6, _⟩ => ⟨S640x2048, .f32⟩
  | .local _ .vmem, ⟨7, _⟩ => ⟨S640x2048, .f32⟩
  | .local _ .vmem, ⟨8, _⟩ => ⟨S1x2048, .f32⟩
  | .local _ .vmem, ⟨9, _⟩ => ⟨S1x2048, .f32⟩
  | .local _ .vmem, ⟨10, _⟩ => ⟨S640x2048, .f32⟩
  | .local _ .vmem, ⟨11, _⟩ => ⟨S640x2048, .f32⟩
  | .local _ .vmem, ⟨12, _⟩ => ⟨S640x2048, .bf16⟩
  | .local _ .vmem, ⟨13, _⟩ => ⟨S640x2048, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S640x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S640x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16640x1024 : Shape := ⟨2, ![16640, 1024]⟩
abbrev S2048x2048 : Shape := ⟨2, ![2048, 2048]⟩
abbrev S16640x2048 : Shape := ⟨2, ![16640, 2048]⟩
abbrev S1x2048 : Shape := ⟨2, ![1, 2048]⟩
abbrev S2048 : Shape := ⟨1, ![2048]⟩
abbrev S_ : Shape := ⟨0, ![]⟩
abbrev S16640 : Shape := ⟨1, ![16640]⟩
abbrev S16640x1 : Shape := ⟨2, ![16640, 1]⟩

abbrev nBuf : Space → Nat
  | .hbm => 45
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S2048x2048, .f32⟩
  | .hbm, ⟨3, _⟩ => ⟨S16640x2048, .f32⟩
  | .hbm, ⟨4, _⟩ => ⟨S1x2048, .f32⟩
  | .hbm, ⟨5, _⟩ => ⟨S1x2048, .f32⟩
  | .hbm, ⟨6, _⟩ => ⟨S16640x2048, .bf16⟩
  | .hbm, ⟨7, _⟩ => ⟨S16640x2048, .f32⟩
  | .hbm, ⟨8, _⟩ => ⟨S16640x2048, .f32⟩
  | .hbm, ⟨9, _⟩ => ⟨S2048, .f32⟩
  | .hbm, ⟨10, _⟩ => ⟨S16640x2048, .f32⟩
  | .hbm, ⟨11, _⟩ => ⟨S_, .f32⟩
  | .hbm, ⟨12, _⟩ => ⟨S16640, .f32⟩
  | .hbm, ⟨13, _⟩ => ⟨S16640x1, .f32⟩
  | .hbm, ⟨14, _⟩ => ⟨S_, .f32⟩
  | .hbm, ⟨15, _⟩ => ⟨S16640x1, .f32⟩
  | .hbm, ⟨16, _⟩ => ⟨S16640x1, .f32⟩
  | .hbm, ⟨17, _⟩ => ⟨S_, .f32⟩
  | .hbm, ⟨18, _⟩ => ⟨S16640x1, .f32⟩
  | .hbm, ⟨19, _⟩ => ⟨S16640x1, .f32⟩
  | .hbm, ⟨20, _⟩ => ⟨S16640x1, .f32⟩
  | .hbm, ⟨21, _⟩ => ⟨S16640x2048, .f32⟩
  | .hbm, ⟨22, _⟩ => ⟨S16640x2048, .f32⟩
  | .hbm, ⟨23, _⟩ => ⟨S1x2048, .f32⟩
  | .hbm, ⟨24, _⟩ => ⟨S16640x2048, .f32⟩
  | .hbm, ⟨25, _⟩ => ⟨S16640x2048, .f32⟩
  | .hbm, ⟨26, _⟩ => ⟨S16640x2048, .f32⟩
  | .hbm, ⟨27, _⟩ => ⟨S2048, .f32⟩
  | .hbm, ⟨28, _⟩ => ⟨S16640x2048, .f32⟩
  | .hbm, ⟨29, _⟩ => ⟨S_, .f32⟩
  | .hbm, ⟨30, _⟩ => ⟨S16640, .f32⟩
  | .hbm, ⟨31, _⟩ => ⟨S16640x1, .f32⟩
  | .hbm, ⟨32, _⟩ => ⟨S_, .f32⟩
  | .hbm, ⟨33, _⟩ => ⟨S16640x1, .f32⟩
  | .hbm, ⟨34, _⟩ => ⟨S16640x1, .f32⟩
  | .hbm, ⟨35, _⟩ => ⟨S_, .f32⟩
  | .hbm, ⟨36, _⟩ => ⟨S16640x1, .f32⟩
  | .hbm, ⟨37, _⟩ => ⟨S16640x1, .f32⟩
  | .hbm, ⟨38, _⟩ => ⟨S16640x1, .f32⟩
  | .hbm, ⟨39, _⟩ => ⟨S16640x2048, .f32⟩
  | .hbm, ⟨40, _⟩ => ⟨S16640x2048, .f32⟩
  | .hbm, ⟨41, _⟩ => ⟨S1x2048, .f32⟩
  | .hbm, ⟨42, _⟩ => ⟨S16640x2048, .f32⟩
  | .hbm, ⟨43, _⟩ => ⟨S16640x2048, .f32⟩
  | .hbm, ⟨44, _⟩ => ⟨S16640x2048, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel6.lean ====
abbrev S16640x2048 : Shape := ⟨2, ![16640, 2048]⟩
abbrev S2048x2560 : Shape := ⟨2, ![2048, 2560]⟩
abbrev S2560 : Shape := ⟨1, ![2560]⟩
abbrev S16640x8 : Shape := ⟨2, ![16640, 8]⟩
abbrev S16640x16 : Shape := ⟨2, ![16640, 16]⟩
abbrev S_ : Shape := ⟨0, ![]⟩
abbrev S16640x48 : Shape := ⟨2, ![16640, 48]⟩
abbrev S16640x128 : Shape := ⟨2, ![16640, 128]⟩
abbrev S2048x2048 : Shape := ⟨2, ![2048, 2048]⟩
abbrev S2048x256 : Shape := ⟨2, ![2048, 256]⟩
abbrev S2048x4x64 : Shape := ⟨3, ![2048, 4, 64]⟩
abbrev S2048x4x128 : Shape := ⟨3, ![2048, 4, 128]⟩
abbrev S2048x512 : Shape := ⟨2, ![2048, 512]⟩
abbrev S2048x3072 : Shape := ⟨2, ![2048, 3072]⟩
abbrev S2048 : Shape := ⟨1, ![2048]⟩
abbrev S256 : Shape := ⟨1, ![256]⟩
abbrev S4x64 : Shape := ⟨2, ![4, 64]⟩
abbrev S4x128 : Shape := ⟨2, ![4, 128]⟩
abbrev S512 : Shape := ⟨1, ![512]⟩
abbrev S3072 : Shape := ⟨1, ![3072]⟩
abbrev S1x3072 : Shape := ⟨2, ![1, 3072]⟩
abbrev S16640x512 : Shape := ⟨2, ![16640, 512]⟩
abbrev S640x2048 : Shape := ⟨2, ![640, 2048]⟩
abbrev S640x128 : Shape := ⟨2, ![640, 128]⟩
abbrev S640x512 : Shape := ⟨2, ![640, 512]⟩
abbrev S640x3072 : Shape := ⟨2, ![640, 3072]⟩

abbrev nBuf : Space → Nat
  | .hbm => 43
  | .vmem => 14
  | .smem => 0
  | _ => 0

abbrev bufTy : (tb : Table) → Fin (tcTables nBuf tb) → BufTy
  | .hbm, ⟨0, _⟩ => ⟨S16640x2048, .bf16⟩
  | .hbm, ⟨1, _⟩ => ⟨S2048x2560, .f32⟩
  | .hbm, ⟨2, _⟩ => ⟨S2560, .f32⟩
  | .hbm, ⟨3, _⟩ => ⟨S16640x8, .f32⟩
  | .hbm, ⟨4, _⟩ => ⟨S16640x8, .f32⟩
  | .hbm, ⟨5, _⟩ => ⟨S16640x16, .f32⟩
  | .hbm, ⟨6, _⟩ => ⟨S16640x8, .f32⟩
  | .hbm, ⟨7, _⟩ => ⟨S16640x16, .f32⟩
  | .hbm, ⟨8, _⟩ => ⟨S_, .f32⟩
  | .hbm, ⟨9, _⟩ => ⟨S16640x48, .f32⟩
  | .hbm, ⟨10, _⟩ => ⟨S16640x128, .f32⟩
  | .hbm, ⟨11, _⟩ => ⟨S_, .f32⟩
  | .hbm, ⟨12, _⟩ => ⟨S16640x48, .f32⟩
  | .hbm, ⟨13, _⟩ => ⟨S16640x48, .f32⟩
  | .hbm, ⟨14, _⟩ => ⟨S_, .f32⟩
  | .hbm, ⟨15, _⟩ => ⟨S16640x48, .f32⟩
  | .hbm, ⟨16, _⟩ => ⟨S16640x48, .f32⟩
  | .hbm, ⟨17, _⟩ => ⟨S16640x128, .f32⟩
  | .hbm, ⟨18, _⟩ => ⟨S2048x2048, .f32⟩
  | .hbm, ⟨19, _⟩ => ⟨S2048x256, .f32⟩
  | .hbm, ⟨20, _⟩ => ⟨S2048x4x64, .f32⟩
  | .hbm, ⟨21, _⟩ => ⟨S2048x4x128, .f32⟩
  | .hbm, ⟨22, _⟩ => ⟨S2048x512, .f32⟩
  | .hbm, ⟨23, _⟩ => ⟨S2048x256, .f32⟩
  | .hbm, ⟨24, _⟩ => ⟨S2048x4x64, .f32⟩
  | .hbm, ⟨25, _⟩ => ⟨S2048x4x128, .f32⟩
  | .hbm, ⟨26, _⟩ => ⟨S2048x512, .f32⟩
  | .hbm, ⟨27, _⟩ => ⟨S2048x3072, .f32⟩
  | .hbm, ⟨28, _⟩ => ⟨S2048x3072, .bf16⟩
  | .hbm, ⟨29, _⟩ => ⟨S2048, .f32⟩
  | .hbm, ⟨30, _⟩ => ⟨S256, .f32⟩
  | .hbm, ⟨31, _⟩ => ⟨S4x64, .f32⟩
  | .hbm, ⟨32, _⟩ => ⟨S4x128, .f32⟩
  | .hbm, ⟨33, _⟩ => ⟨S512, .f32⟩
  | .hbm, ⟨34, _⟩ => ⟨S256, .f32⟩
  | .hbm, ⟨35, _⟩ => ⟨S4x64, .f32⟩
  | .hbm, ⟨36, _⟩ => ⟨S4x128, .f32⟩
  | .hbm, ⟨37, _⟩ => ⟨S512, .f32⟩
  | .hbm, ⟨38, _⟩ => ⟨S3072, .f32⟩
  | .hbm, ⟨39, _⟩ => ⟨S1x3072, .f32⟩
  | .hbm, ⟨40, _⟩ => ⟨S16640x2048, .bf16⟩
  | .hbm, ⟨41, _⟩ => ⟨S16640x512, .bf16⟩
  | .hbm, ⟨42, _⟩ => ⟨S16640x512, .bf16⟩
  | .local _ .vmem, ⟨0, _⟩ => ⟨S640x2048, .bf16⟩
  | .local _ .vmem, ⟨1, _⟩ => ⟨S640x2048, .bf16⟩
  | .local _ .vmem, ⟨2, _⟩ => ⟨S2048x3072, .bf16⟩
  | .local _ .vmem, ⟨3, _⟩ => ⟨S1x3072, .f32⟩
  | .local _ .vmem, ⟨4, _⟩ => ⟨S640x128, .f32⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S640x2048, .bf16⟩
  | .local _ .vmem, ⟨9, _⟩ => ⟨S640x2048, .bf16⟩
  | .local _ .vmem, ⟨10, _⟩ => ⟨S640x512, .bf16⟩
  | .local _ .vmem, ⟨11, _⟩ => ⟨S640x512, .bf16⟩
  | .local _ .vmem, ⟨12, _⟩ => ⟨S640x512, .bf16⟩
  | .local _ .vmem, ⟨13, _⟩ => ⟨S640x512, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v32_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16640x2048 : Shape := ⟨2, ![16640, 2048]⟩
abbrev S2048x2560 : Shape := ⟨2, ![2048, 2560]⟩
abbrev S2560 : Shape := ⟨1, ![2560]⟩
abbrev S16640x8 : Shape := ⟨2, ![16640, 8]⟩
abbrev S16640x2560 : Shape := ⟨2, ![16640, 2560]⟩
abbrev S1x2560 : Shape := ⟨2, ![1, 2560]⟩
abbrev S16640x256 : Shape := ⟨2, ![16640, 256]⟩
abbrev S16640x32x64 : Shape := ⟨3, ![16640, 32, 64]⟩
abbrev S16640x4x64 : Shape := ⟨3, ![16640, 4, 64]⟩
abbrev S16640x32x16 : Shape := ⟨3, ![16640, 32, 16]⟩
abbrev S16640x32x8 : Shape := ⟨3, ![16640, 32, 8]⟩
abbrev S16640x1x8 : Shape := ⟨3, ![16640, 1, 8]⟩
abbrev S16640x32x48 : Shape := ⟨3, ![16640, 32, 48]⟩
abbrev S16640x4x16 : Shape := ⟨3, ![16640, 4, 16]⟩
abbrev S16640x4x8 : Shape := ⟨3, ![16640, 4, 8]⟩
abbrev S16640x4x48 : Shape := ⟨3, ![16640, 4, 48]⟩
abbrev S_ : Shape := ⟨0, ![]⟩
abbrev S16640x4x128 : Shape := ⟨3, ![16640, 4, 128]⟩
abbrev S16640x512 : Shape := ⟨2, ![16640, 512]⟩

abbrev nBuf : Space → Nat
  | .hbm => 63
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2048x2560, .f32⟩
  | .hbm, ⟨2, _⟩ => ⟨S2560, .f32⟩
  | .hbm, ⟨3, _⟩ => ⟨S16640x8, .f32⟩
  | .hbm, ⟨4, _⟩ => ⟨S16640x8, .f32⟩
  | .hbm, ⟨5, _⟩ => ⟨S16640x2048, .f32⟩
  | .hbm, ⟨6, _⟩ => ⟨S16640x2560, .f32⟩
  | .hbm, ⟨7, _⟩ => ⟨S1x2560, .f32⟩
  | .hbm, ⟨8, _⟩ => ⟨S16640x2560, .f32⟩
  | .hbm, ⟨9, _⟩ => ⟨S16640x2560, .f32⟩
  | .hbm, ⟨10, _⟩ => ⟨S16640x2048, .f32⟩
  | .hbm, ⟨11, _⟩ => ⟨S16640x256, .f32⟩
  | .hbm, ⟨12, _⟩ => ⟨S16640x256, .f32⟩
  | .hbm, ⟨13, _⟩ => ⟨S16640x32x64, .f32⟩
  | .hbm, ⟨14, _⟩ => ⟨S16640x4x64, .f32⟩
  | .hbm, ⟨15, _⟩ => ⟨S16640x4x64, .f32⟩
  | .hbm, ⟨16, _⟩ => ⟨S16640x32x16, .f32⟩
  | .hbm, ⟨17, _⟩ => ⟨S16640x32x8, .f32⟩
  | .hbm, ⟨18, _⟩ => ⟨S16640x32x8, .f32⟩
  | .hbm, ⟨19, _⟩ => ⟨S16640x1x8, .f32⟩
  | .hbm, ⟨20, _⟩ => ⟨S16640x1x8, .f32⟩
  | .hbm, ⟨21, _⟩ => ⟨S16640x32x8, .f32⟩
  | .hbm, ⟨22, _⟩ => ⟨S16640x32x8, .f32⟩
  | .hbm, ⟨23, _⟩ => ⟨S16640x32x8, .f32⟩
  | .hbm, ⟨24, _⟩ => ⟨S16640x32x8, .f32⟩
  | .hbm, ⟨25, _⟩ => ⟨S16640x32x8, .f32⟩
  | .hbm, ⟨26, _⟩ => ⟨S16640x32x8, .f32⟩
  | .hbm, ⟨27, _⟩ => ⟨S16640x32x8, .f32⟩
  | .hbm, ⟨28, _⟩ => ⟨S16640x32x8, .f32⟩
  | .hbm, ⟨29, _⟩ => ⟨S16640x32x8, .f32⟩
  | .hbm, ⟨30, _⟩ => ⟨S16640x32x8, .f32⟩
  | .hbm, ⟨31, _⟩ => ⟨S16640x32x16, .f32⟩
  | .hbm, ⟨32, _⟩ => ⟨S16640x32x48, .f32⟩
  | .hbm, ⟨33, _⟩ => ⟨S16640x32x64, .f32⟩
  | .hbm, ⟨34, _⟩ => ⟨S16640x4x16, .f32⟩
  | .hbm, ⟨35, _⟩ => ⟨S16640x4x8, .f32⟩
  | .hbm, ⟨36, _⟩ => ⟨S16640x4x8, .f32⟩
  | .hbm, ⟨37, _⟩ => ⟨S16640x1x8, .f32⟩
  | .hbm, ⟨38, _⟩ => ⟨S16640x1x8, .f32⟩
  | .hbm, ⟨39, _⟩ => ⟨S16640x4x8, .f32⟩
  | .hbm, ⟨40, _⟩ => ⟨S16640x4x8, .f32⟩
  | .hbm, ⟨41, _⟩ => ⟨S16640x4x8, .f32⟩
  | .hbm, ⟨42, _⟩ => ⟨S16640x4x8, .f32⟩
  | .hbm, ⟨43, _⟩ => ⟨S16640x4x8, .f32⟩
  | .hbm, ⟨44, _⟩ => ⟨S16640x4x8, .f32⟩
  | .hbm, ⟨45, _⟩ => ⟨S16640x4x8, .f32⟩
  | .hbm, ⟨46, _⟩ => ⟨S16640x4x8, .f32⟩
  | .hbm, ⟨47, _⟩ => ⟨S16640x4x8, .f32⟩
  | .hbm, ⟨48, _⟩ => ⟨S16640x4x8, .f32⟩
  | .hbm, ⟨49, _⟩ => ⟨S16640x4x16, .f32⟩
  | .hbm, ⟨50, _⟩ => ⟨S16640x4x48, .f32⟩
  | .hbm, ⟨51, _⟩ => ⟨S16640x4x64, .f32⟩
  | .hbm, ⟨52, _⟩ => ⟨S_, .f32⟩
  | .hbm, ⟨53, _⟩ => ⟨S16640x32x64, .f32⟩
  | .hbm, ⟨54, _⟩ => ⟨S16640x32x64, .f32⟩
  | .hbm, ⟨55, _⟩ => ⟨S16640x4x128, .f32⟩
  | .hbm, ⟨56, _⟩ => ⟨S16640x4x128, .f32⟩
  | .hbm, ⟨57, _⟩ => ⟨S16640x2048, .f32⟩
  | .hbm, ⟨58, _⟩ => ⟨S16640x2048, .bf16⟩
  | .hbm, ⟨59, _⟩ => ⟨S16640x512, .f32⟩
  | .hbm, ⟨60, _⟩ => ⟨S16640x512, .bf16⟩
  | .hbm, ⟨61, _⟩ => ⟨S16640x512, .f32⟩
  | .hbm, ⟨62, _⟩ => ⟨S16640x512, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩

abbrev nD : Nat := 1
abbrev τ : Topo := Topo.v7x

variable {F : FTy → Type} [FloatOps F]
-- ==== Proof.Reads.lean ====
/- Loads of a buffer that stores at unit-stride rectangles were made into: the newest store is read back at its own
   rectangle, and passed over by a load of a rectangle apart from it along one axis. -/
module

public import Idealize.ShloMosaic.Lib.VecWindow
public import Idealize.ShloMosaic.Lib.WholeRead
public import Idealize.ShloMosaic.Lib.Exec

@[expose] public section

namespace Cert.Reads

open Idealize.ShloMosaic

variable {sig : RefSig} {κ : Kind} {sp : Space} {s : Shape} {e : EltTy} {Val : EltTy → Type}

/-- A load of the rectangle the newest store was made at reads that store's payload. -/
theorem readAt_hit (v : View sig κ sp s e) (f : v.ty.Contents Val) {off size : Fin s.rank → ℕ}
    (inb inb' : ∀ a, off a + size a ≤ s.size a) (w : (Rect.unit off size inb').shape.Idx → Val e)
    (L : List (View.Piece Val s e)) :
    v.readAt Val (Rect.unit off size inb).toLoadRect (v.writes Val f (⟨Rect.unit off size inb', w⟩ :: L)) = w := by
  funext y
  refine View.read_writes_cons_unit_of_mem v f inb' w L _ y rfl ?_
  · intro a; show off a + 1 * (y a).val = off a + (y a).val; omega

/-- A load of a rectangle that ends before the newest store's, or begins after it, along some axis does not see the store. -/
theorem readAt_miss (v : View sig κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e))
    (h : ∃ a, off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext y
  show v.read Val _ _ = v.read Val _ _
  rw [View.read_writes_cons_unit v f inb' w L _ rfl, dif_neg]
  intro hc
  obtain ⟨a, h⟩ := h
  have h1 := hc a
  have h2 : ((Rect.unit off size inb).toLoadRect.idx y a).val = off a + 1 * (y a).val := rfl
  have h3 : (y a).val < size a := (y a).isLt
  omega

section Covered

variable [∀ e, Nonempty (Val e)]

/-- `readAt_hit`, the load stated over the stores alone. -/
theorem readCov_hit (v : View sig κ sp s e) {off size : Fin s.rank → ℕ}
    (inb inb' : ∀ a, off a + size a ≤ s.size a) (w : (Rect.unit off size inb').shape.Idx → Val e)
    (L : List (View.Piece Val s e)) :
    v.readCov (⟨Rect.unit off size inb', w⟩ :: L) (Rect.unit off size inb).toLoadRect = w :=
  readAt_hit v v.junk inb inb' w L

/-- `readAt_miss`, the load stated over the stores alone. -/
theorem readCov_miss (v : View sig κ sp s e) {off size off' size' : Fin s.rank → ℕ}
    (inb : ∀ a, off a + size a ≤ s.size a) (inb' : ∀ a, off' a + size' a ≤ s.size a)
    (w : (Rect.unit off' size' inb').shape.Idx → Val e) (L : List (View.Piece Val s e))
    (h : ∃ a, off a + size a ≤ off' a ∨ off' a + size' a ≤ off a) :
    v.readCov (⟨Rect.unit off' size' inb', w⟩ :: L) (Rect.unit off size inb).toLoadRect
      = v.readCov L (Rect.unit off size inb).toLoadRect :=
  readAt_miss v v.junk inb inb' w L h

end Covered

/-- A load of a whole buffer held at the contents that read `X` is a window of `X`. -/
theorem readAt_unread {m : Memref sig κ sp s e} (h : m.IsWhole) (X : s.Idx → Val e) (R : Rect s) :
    m.view.readAt Val R.toLoadRect (h.unread X) = View.ld X R :=
  funext fun x => h.readAt_unread X R.toLoadRect x

/-- A load of any rectangle after a store of the whole view reads that store's payload there. -/
theorem readAt_sub (v : View sig κ sp s e) (f : v.ty.Contents Val) {off size off' : Fin s.rank → ℕ}
    (inb : ∀ a, off a + size a ≤ s.size a) (inb' : ∀ a, off' a + s.size a ≤ s.size a)
    (w : (Rect.unit off' s.size inb').shape.Idx → Val e) (L : List (View.Piece Val s e)) :
    v.readAt Val (Rect.unit off size inb).toLoadRect (v.writes Val f (⟨Rect.unit off' s.size inb', w⟩ :: L))
      = View.ld w (Rect.unit (s := s) off size inb) := by
  rw [View.readAt_eq_ld, View.read_writes_full]

/-- `readAt_sub`, the load stated over the stores alone. -/
theorem readCov_sub [∀ e, Nonempty (Val e)] (v : View sig κ sp s e) {off size off' : Fin s.rank → ℕ}
    (inb : ∀ a, off a + size a ≤ s.size a) (inb' : ∀ a, off' a + s.size a ≤ s.size a)
    (w : (Rect.unit off' s.size inb').shape.Idx → Val e) (L : List (View.Piece Val s e)) :
    v.readCov (⟨Rect.unit off' s.size inb', w⟩ :: L) (Rect.unit off size inb).toLoadRect
      = View.ld w (Rect.unit (s := s) off size inb) :=
  readAt_sub v v.junk inb inb' w L

/-- A load of the whole of a whole buffer holding `X` reads `X`. -/
theorem readAt_whole {m : Memref sig κ sp s e} (h : m.IsWhole) (X : s.Idx → Val e) {off : Fin s.rank → ℕ} (inb : ∀ a, off a + s.size a ≤ s.size a) :
    m.view.readAt Val (Rect.unit off s.size inb).toLoadRect (h.unread X) = X := by
  rw [View.readAt_full]; exact h.read_unread X

/-- The window of all of `X` is `X`. -/
theorem ld_whole (X : s.Idx → Val e) {off : Fin s.rank → ℕ} (inb : ∀ a, off a + s.size a ≤ s.size a) :
    View.ld X (Rect.unit off s.size inb) = X := by
  funext y
  exact congrArg X (funext fun a => Fin.ext (by
    show off a + 1 * (y a).val = (y a).val
    have := inb a; omega))

end Cert.Reads

end
-- ==== Proof.MlaBodyIdeal.lean ====
/- The attention body of the first layer, one grid point: what it carries through its loop over pairs of key chunks,
   one trip of that loop, and the block of results it stores. -/
module

public import proofs.«01_k».proof.Proof.Gen.KernelIdeal.Skeleton
public import proofs.«01_k».proof.Proof.Gen.KernelIdeal.Loops
public import proofs.«01_k».proof.Proof.Gen.KernelIdeal.Frame
public import proofs.«01_k».proof.Proof.Reads

@[expose] public section

set_option maxRecDepth 16384

noncomputable section

namespace Cert.KernelIdeal.Mla

open Cert.KernelIdeal Cert.KernelIdeal.Gen Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer of core `c`, whole, at contents `f`. -/
abbrev pt {sp} {s : Shape} {e : EltTy} (c : Dev nD) (a : Memref sig .tc sp s e) (f : Buf (Elt F) (a.view.loc (c : Thread nD τ))) : sProp 𝕄 :=
  a.view.loc (c : Thread nD τ) ↦[a.view.set]{fullShare} f

/-- What the loop carries from trip to trip: the running maximum, the accumulator, the scores of the newest chunk with
    their maximum, the weights of the chunk before it and the factor its accumulator is to be scaled by. -/
structure St (F : FTy → Type) where
  m : Vec F S1x1280 .f32
  acc : Vec F S144x1280 .f32
  s : Vec F S1x2048x1280 .f32
  p : Vec F S1x2048x1280 .bf16
  mx : Vec F S1x1x1280 .f32
  al : Vec F S1x1x1280 .f32

/-- One trip: two chunks of keys `a`, `b` (their plain and rotary halves) scored, two chunks of values accumulated. -/
def St.next (v0 : Vec F S256x1280 .bf16) (kna kra knb krb : Vec F S2048x128 .bf16) (va vb : Vec F S128x2048 .bf16) (S : St F) : St F :=
  let m1 := k0_pay8 S.m S.mx
  let mxa := k0_pay5 v0 kna kra
  ⟨k0_pay16 m1 mxa,
   k0_pay35 (k0_pay7 S.m S.mx) (k0_pay10 S.al S.acc va S.p) vb (k0_pay9 (k0_pay6 S.m S.mx) S.s),
   k0_pay12 v0 knb krb,
   k0_pay34 (k0_pay17 m1 mxa (k0_pay4 v0 kna kra)),
   k0_pay13 v0 knb krb,
   k0_pay15 m1 mxa⟩

/-- The six buffers the loop writes, at contents that read `S`. -/
def held (c : Dev nD) (arg10 : Memref sig .tc .vmem S1x1280 .f32) (arg11 : Memref sig .tc .vmem S144x1280 .f32) (arg12 : Memref sig .tc .vmem S2x2048x1408 .f32) (arg13 : Memref sig .tc .vmem S2x2048x1408 .bf16) (arg14 : Memref sig .tc .vmem S2x1x1280 .f32) (arg15 : Memref sig .tc .vmem S2x1x1280 .f32) (S : St F) : sProp 𝕄 :=
  iprop(∃ f10 f11 f12 f13 f14 f15, pt c arg10 f10 ∗ pt c arg11 f11 ∗ pt c arg12 f12 ∗ pt c arg13 f13 ∗ pt c arg14 f14 ∗ pt c arg15 f15
    ∗ ⌜arg10.view.readAt (Elt F) (Rect.unit (s := S1x1280) ![0, 0] S1x1280.size inb_S1x1280_S1x1280_0_0).toLoadRect f10 = S.m⌝
    ∗ ⌜arg11.view.readAt (Elt F) (Rect.unit (s := S144x1280) ![0, 0] S144x1280.size inb_S144x1280_S144x1280_0_0).toLoadRect f11 = S.acc⌝
    ∗ ⌜arg12.view.readAt (Elt F) (Rect.unit (s := S2x2048x1408) ![1, 0, 0] S1x2048x1280.size inb_S2x2048x1408_S1x2048x1280_1_0_0).toLoadRect f12 = S.s⌝
    ∗ ⌜arg13.view.readAt (Elt F) (Rect.unit (s := S2x2048x1408) ![0, 0, 0] S1x2048x1280.size inb_S2x2048x1408_S1x2048x1280_0_0_0).toLoadRect f13 = S.p⌝
    ∗ ⌜arg14.view.readAt (Elt F) (Rect.unit (s := S2x1x1280) ![1, 0, 0] S1x1x1280.size inb_S2x1x1280_S1x1x1280_1_0_0).toLoadRect f14 = S.mx⌝
    ∗ ⌜arg15.view.readAt (Elt F) (Rect.unit (s := S2x1x1280) ![0, 0, 0] S1x1x1280.size inb_S2x1x1280_S1x1x1280_0_0_0).toLoadRect f15 = S.al⌝)

/-- The keys' first chunk a trip loads. -/
def krowsA (x : Vec F S16384x128 .bf16) (k : Fin k0_t1_loop.trips) : Vec F S2048x128 .bf16 :=
  View.ld x (Rect.unit (s := S16384x128) (k0_off1 k 2#32) S2048x128.size (k0_off1_inb k 0))
/-- The keys' second chunk a trip loads. -/
def krowsB (x : Vec F S16384x128 .bf16) (k : Fin k0_t1_loop.trips) : Vec F S2048x128 .bf16 :=
  View.ld x (Rect.unit (s := S16384x128) (k0_off1 k 3#32) S2048x128.size (k0_off1_inb k 1))
/-- The values' first chunk a trip loads. -/
def vcolsA (x : Vec F S128x16384 .bf16) (k : Fin k0_t1_loop.trips) : Vec F S128x2048 .bf16 :=
  View.ld x (Rect.unit (s := S128x16384) (k0_off2 k) S128x2048.size (k0_off2_inb k))
/-- The values' second chunk a trip loads. -/
def vcolsB (x : Vec F S128x16384 .bf16) (k : Fin k0_t1_loop.trips) : Vec F S128x2048 .bf16 :=
  View.ld x (Rect.unit (s := S128x16384) (k0_off3 k) S128x2048.size (k0_off3_inb k))

/-- Trip `k` from the whole blocks of keys and values. -/
def St.trip (v0 : Vec F S256x1280 .bf16) (x3 x4 : Vec F S16384x128 .bf16) (x5 : Vec F S128x16384 .bf16) (k : Fin k0_t1_loop.trips) (S : St F) : St F :=
  S.next v0 (krowsA x3 k) (krowsA x4 k) (krowsB x3 k) (krowsB x4 k) (vcolsA x5 k) (vcolsB x5 k)

set_option maxHeartbeats 4000000 in
theorem trip_run (c : Dev nD) (i : grid0.Coords) (arg2 : Memref sig .tc .vmem S256x1280 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1280x128 .bf16) (harg9 : arg9.IsWhole) (arg10 : Memref sig .tc .vmem S1x1280 .f32) (harg10 : arg10.IsWhole) (arg11 : Memref sig .tc .vmem S144x1280 .f32) (harg11 : arg11.IsWhole) (arg12 : Memref sig .tc .vmem S2x2048x1408 .f32) (harg12 : arg12.IsWhole) (arg13 : Memref sig .tc .vmem S2x2048x1408 .bf16) (harg13 : arg13.IsWhole) (arg14 : Memref sig .tc .vmem S2x1x1280 .f32) (harg14 : arg14.IsWhole) (arg15 : Memref sig .tc .vmem S2x1x1280 .f32) (harg15 : arg15.IsWhole) (v0 : Vec F S256x1280 .bf16) (v61 : FVec F S1x1280 .f32) (v63 : FVec F S1x1280 .f32) (k : Fin k0_t1_loop.trips)
   (x3 : Vec F S16384x128 .bf16) (x4 : Vec F S16384x128 .bf16) (x5 : Vec F S128x16384 .bf16) (S : St F) :
   iprop(pt c arg3 (harg3.unread x3) ∗ pt c arg4 (harg4.unread x4) ∗ pt c arg5 (harg5.unread x5)
     ∗ held c arg10 arg11 arg12 arg13 arg14 arg15 S)
   ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 v0 v61 v63 k ())
     (fun _ => iprop(pt c arg3 (harg3.unread x3) ∗ pt c arg4 (harg4.unread x4) ∗ pt c arg5 (harg5.unread x5)
     ∗ held c arg10 arg11 arg12 arg13 arg14 arg15 (S.trip v0 x3 x4 x5 k))) := by
  unfold k0_t1_body held
  iintro ⟨H3, H4, H5, %f10, %f11, %f12, %f13, %f14, %f15, H10, H11, H12, H13, H14, H15, %e10, %e11, %e12, %e13, %e14, %e15⟩
  sl_exec
  sl_step
  isplitl [H3]; · iexact H3
  isplitl [H4]; · iexact H4
  isplitl [H5]; · iexact H5
  iexists _, _, _, _, _, _
  isplitl [H10]; · iexact H10
  isplitl [H11]; · iexact H11
  isplitl [H12]; · iexact H12
  isplitl [H13]; · iexact H13
  isplitl [H14]; · iexact H14
  isplitl [H15]; · iexact H15
  isplitr
  · ipureintro; sl_unfold_run_names; simp (disch := exact ⟨0, by decide⟩) only [readAt_hit, readCov_hit, readAt_miss, readCov_miss, readAt_unread]; rfl
  isplitr
  · ipureintro; sl_unfold_run_names; simp (disch := exact ⟨0, by decide⟩) only [readAt_hit, readCov_hit, readAt_miss, readCov_miss, readAt_unread]; rfl
  isplitr
  · ipureintro; sl_unfold_run_names; simp (disch := exact ⟨0, by decide⟩) only [readAt_hit, readCov_hit, readAt_miss, readCov_miss, readAt_unread]; rfl
  isplitr
  · ipureintro; sl_unfold_run_names; simp (disch := exact ⟨0, by decide⟩) only [readAt_hit, readCov_hit, readAt_miss, readCov_miss, readAt_unread]; rfl
  isplitr
  · ipureintro; sl_unfold_run_names; simp (disch := exact ⟨0, by decide⟩) only [readAt_hit, readCov_hit, readAt_miss, readCov_miss, readAt_unread]; dsimp only [St.trip, St.next, krowsB]
  ipureintro; sl_unfold_run_names; simp (disch := exact ⟨0, by decide⟩) only [readAt_hit, readCov_hit, readAt_miss, readCov_miss, readAt_unread]; rfl

/-- The state before trip `k`, from the state `S` before the first. -/
def stAt (v0 : Vec F S256x1280 .bf16) (x3 x4 : Vec F S16384x128 .bf16) (x5 : Vec F S128x16384 .bf16) (S : St F) : ℕ → St F
  | 0 => S
  | k + 1 => if h : k < k0_t1_loop.trips then (stAt v0 x3 x4 x5 S k).trip v0 x3 x4 x5 ⟨k, h⟩ else stAt v0 x3 x4 x5 S k

set_option warn.classDefReducibility false in
/-- The loop's invariant: the keys and values in place, the six buffers reading the state before the trip. -/
@[sl_loop] def loopInv (c : Dev nD) (i : grid0.Coords) (arg2 : Memref sig .tc .vmem S256x1280 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1280x128 .bf16) (harg9 : arg9.IsWhole) (arg10 : Memref sig .tc .vmem S1x1280 .f32) (harg10 : arg10.IsWhole) (arg11 : Memref sig .tc .vmem S144x1280 .f32) (harg11 : arg11.IsWhole) (arg12 : Memref sig .tc .vmem S2x2048x1408 .f32) (harg12 : arg12.IsWhole) (arg13 : Memref sig .tc .vmem S2x2048x1408 .bf16) (harg13 : arg13.IsWhole) (arg14 : Memref sig .tc .vmem S2x1x1280 .f32) (harg14 : arg14.IsWhole) (arg15 : Memref sig .tc .vmem S2x1x1280 .f32) (harg15 : arg15.IsWhole) (v0 : Vec F S256x1280 .bf16) (v61 : FVec F S1x1280 .f32) (v63 : FVec F S1x1280 .f32)
   (x3 : Vec F S16384x128 .bf16) (x4 : Vec F S16384x128 .bf16) (x5 : Vec F S128x16384 .bf16)
   (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g15 : Buf (Elt F) (arg15.view.loc (c : Thread nD τ))) :
   LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 v0 v61 v63 where
  inv k _ := iprop(pt c arg3 (harg3.unread x3) ∗ pt c arg4 (harg4.unread x4) ∗ pt c arg5 (harg5.unread x5)
     ∗ held c arg10 arg11 arg12 arg13 arg14 arg15 (stAt v0 x3 x4 x5 ⟨arg10.view.readAt (Elt F) (Rect.unit (s := S1x1280) ![0, 0] S1x1280.size inb_S1x1280_S1x1280_0_0).toLoadRect g10, arg11.view.readAt (Elt F) (Rect.unit (s := S144x1280) ![0, 0] S144x1280.size inb_S144x1280_S144x1280_0_0).toLoadRect g11,
     arg12.view.readAt (Elt F) (Rect.unit (s := S2x2048x1408) ![1, 0, 0] S1x2048x1280.size inb_S2x2048x1408_S1x2048x1280_1_0_0).toLoadRect g12,
     arg13.view.readAt (Elt F) (Rect.unit (s := S2x2048x1408) ![0, 0, 0] S1x2048x1280.size inb_S2x2048x1408_S1x2048x1280_0_0_0).toLoadRect g13,
     arg14.view.readAt (Elt F) (Rect.unit (s := S2x1x1280) ![1, 0, 0] S1x1x1280.size inb_S2x1x1280_S1x1x1280_1_0_0).toLoadRect g14,
     arg15.view.readAt (Elt F) (Rect.unit (s := S2x1x1280) ![0, 0, 0] S1x1x1280.size inb_S2x1x1280_S1x1x1280_0_0_0).toLoadRect g15⟩ k))
  step k _ := by
    rw [stAt, dif_pos k.isLt]
    exact trip_run c i arg2 harg2 arg3 harg3 arg4 harg4 arg5 harg5 arg6 harg6 arg7 harg7 arg8 harg8 arg9 harg9 arg10 harg10 arg11 harg11 arg12 harg12 arg13 harg13 arg14 harg14 arg15 harg15 v0 v61 v63 k x3 x4 x5 _

/-- What the loop starts from: the meta block scored and accumulated, the first chunk's weights ready, the second scored. -/
def St.init (v0 : Vec F S256x1280 .bf16) (kn0 kr0 kn1 kr1 : Vec F S2048x128 .bf16) (x6 x7 x8 : Vec F S128x128 .bf16) : St F :=
  let m := k0_pay20 v0 x6 x7
  let s0 := k0_pay24 v0 (k0_pay22 kn0 kr0) (constant S2048x1280 .f32 0x00000000#32)
  let mx0 := k0_pay25 v0 (k0_pay22 kn0 kr0) (constant S2048x1280 .f32 0x00000000#32)
  ⟨k0_pay32 (k0_pay29 m mx0), k0_pay21 v0 x6 x7 x8, k0_pay27 v0 kn1 kr1, k0_pay33 (k0_pay29 m mx0) s0, k0_pay28 v0 kn1 kr1,
   k0_pay31 (k0_pay30 m mx0)⟩

/-- The accumulator at the end: the last two chunks of values, `va` and `vb`, taken in. -/
def St.last (va vb : Vec F S128x2048 .bf16) (S : St F) : Vec F S144x1280 .f32 :=
  k0_pay1 (k0_pay41 (k0_pay37 S.m S.mx) (k0_pay40 S.al S.acc va S.p)) vb (k0_pay39 (k0_pay36 S.m S.mx) S.s)

/-- The block stored: the accumulator's weighted sums over its row of weights. -/
def fin (acc : Vec F S144x1280 .f32) : Vec F S1280x128 .bf16 :=
  k0_pay2 (View.ld acc (Rect.unit (s := S144x1280) ![0, 0] S128x1280.size inb_S144x1280_S128x1280_0_0))
    (View.ld acc (Rect.unit (s := S144x1280) ![128, 0] S1x1280.size inb_S144x1280_S1x1280_128_0))

/-- The block a point stores, of its queries `x2`, its keys' two halves `x3` and `x4` and values `x5`, and the meta block's. -/
def block (x2 : Vec F S256x1280 .bf16) (x3 x4 : Vec F S16384x128 .bf16) (x5 : Vec F S128x16384 .bf16) (x6 x7 x8 : Vec F S128x128 .bf16) : Vec F S1280x128 .bf16 :=
  fin (St.last (View.ld x5 (Rect.unit (s := S128x16384) ![0, 12288] S128x2048.size inb_S128x16384_S128x2048_0_12288))
    (View.ld x5 (Rect.unit (s := S128x16384) ![0, 14336] S128x2048.size inb_S128x16384_S128x2048_0_14336))
    (stAt x2 x3 x4 x5 (St.init x2
      (View.ld x3 (Rect.unit (s := S16384x128) ![0, 0] S2048x128.size inb_S16384x128_S2048x128_0_0))
      (View.ld x4 (Rect.unit (s := S16384x128) ![0, 0] S2048x128.size inb_S16384x128_S2048x128_0_0))
      (View.ld x3 (Rect.unit (s := S16384x128) ![2048, 0] S2048x128.size inb_S16384x128_S2048x128_2048_0))
      (View.ld x4 (Rect.unit (s := S16384x128) ![2048, 0] S2048x128.size inb_S16384x128_S2048x128_2048_0))
      x6 x7 x8) k0_t1_loop.trips))

set_option maxHeartbeats 4000000 in
/-- The body at one point: the blocks it is handed come back, the output's holding `block` of them. -/
theorem body_run (c : Dev nD) (i : grid0.Coords) (arg2 : Memref sig .tc .vmem S256x1280 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1280x128 .bf16) (harg9 : arg9.IsWhole) (arg10 : Memref sig .tc .vmem S1x1280 .f32) (harg10 : arg10.IsWhole) (arg11 : Memref sig .tc .vmem S144x1280 .f32) (harg11 : arg11.IsWhole) (arg12 : Memref sig .tc .vmem S2x2048x1408 .f32) (harg12 : arg12.IsWhole) (arg13 : Memref sig .tc .vmem S2x2048x1408 .bf16) (harg13 : arg13.IsWhole) (arg14 : Memref sig .tc .vmem S2x1x1280 .f32) (harg14 : arg14.IsWhole) (arg15 : Memref sig .tc .vmem S2x1x1280 .f32) (harg15 : arg15.IsWhole)
   (x2 : Vec F S256x1280 .bf16) (x3 x4 : Vec F S16384x128 .bf16) (x5 : Vec F S128x16384 .bf16) (x6 x7 x8 : Vec F S128x128 .bf16) (K : PUnit → sProp 𝕄) :
   iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
     ∗ (∃ f, pt c arg10 f) ∗ (∃ f, pt c arg11 f) ∗ (∃ f, pt c arg12 f) ∗ (∃ f, pt c arg13 f) ∗ (∃ f, pt c arg14 f) ∗ (∃ f, pt c arg15 f)
     ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (block x2 x3 x4 x5 x6 x7 x8)
     ∗ (∃ f, pt c arg10 f) ∗ (∃ f, pt c arg11 f) ∗ (∃ f, pt c arg12 f) ∗ (∃ f, pt c arg13 f) ∗ (∃ f, pt c arg14 f) ∗ (∃ f, pt c arg15 f)) -∗ K ⟨⟩))
   ⊢ wp frame (wpE (defs₀ (F := F)) Variants.none c none) Set.univ (cc0_mla_attention i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_mla_attention_eq_skeleton]; unfold cc0_mla_attention_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%f10, H10⟩, ⟨%f11, H11⟩, ⟨%f12, H12⟩, ⟨%f13, H13⟩, ⟨%f14, H14⟩, ⟨%f15, H15⟩, Hk⟩
  obtain rfl := harg2.eq_unread h2; obtain rfl := harg3.eq_unread h3; obtain rfl := harg4.eq_unread h4; obtain rfl := harg5.eq_unread h5
  obtain rfl := harg6.eq_unread h6; obtain rfl := harg7.eq_unread h7; obtain rfl := harg8.eq_unread h8
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    refine (View.read_writes_full _ _ _ _ _).trans ?_
    clear * -
    unfold body_run.sl.v135 body_run.sl.v136 body_run.sl.H11_2
    rw [readCov_sub, readCov_sub]
    refine congrArg fin ?_
    sl_unfold_run_names
    simp (disch := exact ⟨0, by decide⟩) only [readAt_whole, readAt_hit, readCov_hit, readAt_miss, readCov_miss, readAt_unread]
    have e2 : View.ld x2 (Rect.unit (s := S256x1280) ![0, 0] ![256, 1280] inb_S256x1280_S256x1280_0_0) = x2 := ld_whole x2 _
    have e6 : View.ld x6 (Rect.unit (s := S128x128) ![0, 0] ![128, 128] inb_S128x128_S128x128_0_0) = x6 := ld_whole x6 _
    have e7 : View.ld x7 (Rect.unit (s := S128x128) ![0, 0] ![128, 128] inb_S128x128_S128x128_0_0) = x7 := ld_whole x7 _
    have e8 : View.ld x8 (Rect.unit (s := S128x128) ![0, 0] ![128, 128] inb_S128x128_S128x128_0_0) = x8 := ld_whole x8 _
    rw [e2, e6, e7, e8]
    dsimp only [St.init, k0_t1_loop, Scf.Loop.trips]
    rfl
  isplitl [H10]; · iexists _; iexact H10
  isplitl [H11]; · iexists _; iexact H11
  isplitl [H12]; · iexists _; iexact H12
  isplitl [H13]; · iexists _; iexact H13
  isplitl [H14]; · iexists _; iexact H14
  iexists _; iexact H15

end Cert.KernelIdeal.Mla

end
-- ==== Proof.MlaFrameIdeal.lean ====
/- The frame of the attention call: what each point leaves in the blocks it is handed, the body's triple at a generic point,
   the run of the whole call and the theorem that it ends with its arguments unchanged and its counters at zero. -/
module

public import proofs.«01_k».proof.Proof.MlaBodyIdeal
public import Idealize.ShloMosaic.Lib.Claim

@[expose] public section

set_option maxRecDepth 16384

noncomputable section

namespace Cert.KernelIdeal.Mla

open Cert.KernelIdeal Cert.KernelIdeal.Gen Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer's points-to is its location's. -/
theorem pt_whole (c : Dev nD) (b : Ref sig .tc) (f : Buf (Elt F) ((Memref.whole b).view.loc (c : Thread nD τ))) :
    pt c (Memref.whole b) f = (((c : Thread nD τ).loc b) ↦{fullShare} f) := by
  unfold pt; rw [show (Memref.whole b).view.set = Finset.univ from View.set_whole b]

/-- The block of results point `t` stores. -/
def outBlk (c : Dev nD) (t : Fin cfg0.N) : Vec F S1280x128 .bf16 :=
  block (iblk m c 0 t) (X0_1 m c t) (X0_2 m c t) (X0_3 m c t) (iblk m c 4 t) (iblk m c 5 t) (iblk m c 6 t)

/-- The call's proof data on core `c`: its arrays as they are found, each input's block left in place, the output's at
    `outBlk`, the scratch and the generator carried at any contents, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => outBlk m c t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl

/-- What the body is called with at point `t`, the blocks one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body's triple at a generic point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  rw [show (dats m 0 c).leavesExact 0 t = owns (c : Thread nD τ) (st0_0 t) fullShare ((dats m 0 c).after 0 t) from by
    unfold Dat.leavesExact; rw [liveAt0_0 t], after0_0]
  rw [show (dats m 0 c).leavesExact 1 t = owns (c : Thread nD τ) (st0_1 t) fullShare ((dats m 0 c).after 1 t) from by
    unfold Dat.leavesExact; rw [liveAt0_1 t], after0_1]
  rw [show (dats m 0 c).leavesExact 2 t = owns (c : Thread nD τ) (st0_2 t) fullShare ((dats m 0 c).after 2 t) from by
    unfold Dat.leavesExact; rw [liveAt0_2 t], after0_2]
  rw [show (dats m 0 c).leavesExact 3 t = owns (c : Thread nD τ) (st0_3 t) fullShare ((dats m 0 c).after 3 t) from by
    unfold Dat.leavesExact; rw [liveAt0_3 t], after0_3]
  rw [show (dats m 0 c).leavesExact 4 t = owns (c : Thread nD τ) (st0_4 t) fullShare ((dats m 0 c).after 4 t) from by
    unfold Dat.leavesExact; rw [liveAt0_4 t], after0_4]
  rw [show (dats m 0 c).leavesExact 5 t = owns (c : Thread nD τ) (st0_5 t) fullShare ((dats m 0 c).after 5 t) from by
    unfold Dat.leavesExact; rw [liveAt0_5 t], after0_5]
  rw [show (dats m 0 c).leavesExact 6 t = owns (c : Thread nD τ) (st0_6 t) fullShare ((dats m 0 c).after 6 t) from by
    unfold Dat.leavesExact; rw [liveAt0_6 t], after0_6]
  rw [show (dats m 0 c).leavesExact 7 t = owns (c : Thread nD τ) (st0_7 t) fullShare ((dats m 0 c).after 7 t) from by
    unfold Dat.leavesExact; rw [liveAt0_7 t], after0_7]
  simp only [← pt_whole]
  iintro ⟨⟨⟨⟨%s0, S0⟩, ⟨%s1, S1⟩, ⟨%s2, S2⟩, ⟨%s3, S3⟩, ⟨%s4, S4⟩, ⟨%s5, S5⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ _ _ _ _ _ _ _ _ (iblk m c 0 t) (X0_1 m c t) (X0_2 m c t) (X0_3 m c t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  iintro ⟨H0, H1, H2, H3, H4, H5, H6, H7, ⟨%s0, S0⟩, ⟨%s1, S1⟩, ⟨%s2, S2⟩, ⟨%s3, S3⟩, ⟨%s4, S4⟩, ⟨%s5, S5⟩⟩
  isplitl [S0 S1 S2 S3 S4 S5 Hp]
  · isplitl [S0 S1 S2 S3 S4 S5]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole call: its arrays at what the blocks stored make of them, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the call ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Mla

end
-- ==== Proof.Online.lean ====
/- The online softmax over the extended reals: scores taken in one stretch after another, the weights taken relative to
   the running maximum, and the accumulator scaled each time that maximum grows. -/
module

public import Idealize.ShloMosaic.PureOps.Ideal
public import Idealize.ShloMosaic.PureOps.Ideal.Laws

@[expose] public section

noncomputable section

namespace Cert.Online

open Idealize.ShloMosaic

/-- The greatest of the first `n` scores. -/
def top (sc : ℕ → EReal) (n : ℕ) : EReal := (Finset.range n).sup sc

/-- The values weighted by `2` to their scores less the greatest, over the first `n`. -/
def acc (sc v : ℕ → EReal) (n : ℕ) : EReal := ∑ j ∈ Finset.range n, Ideal.exp2 (sc j - top sc n) * v j

theorem le_top {sc : ℕ → EReal} {n j : ℕ} (h : j < n) : sc j ≤ top sc n := Finset.le_sup (Finset.mem_range.mpr h)

theorem top_le_top (sc : ℕ → EReal) {n n' : ℕ} (h : n ≤ n') : top sc n ≤ top sc n' :=
  Finset.sup_mono (Finset.range_mono h)

theorem top_add (sc : ℕ → EReal) (n c : ℕ) : top sc (n + c) = max (top sc n) (top (fun i => sc (n + i)) c) := by
  apply le_antisymm
  · refine Finset.sup_le fun j hj => ?_
    rcases lt_or_ge j n with h | h
    · exact le_max_of_le_left (le_top h)
    · obtain ⟨i, rfl⟩ := Nat.exists_eq_add_of_le h
      exact le_max_of_le_right (le_top (sc := fun i => sc (n + i)) (by have := Finset.mem_range.mp hj; omega))
  · exact max_le (top_le_top sc (Nat.le_add_right _ _)) (Finset.sup_le fun i hi =>
      le_top (by have := Finset.mem_range.mp hi; omega))

/-- A maximum taken over a chunk's rows is `top` over them. -/
theorem fold_max_eq_top {c : ℕ} (f : Fin c → EReal) (sc : ℕ → EReal) (h : ∀ i : Fin c, f i = sc i) :
    (Finset.univ : Finset (Fin c)).fold max ⊥ f = top sc c := by
  rw [show f = fun i => sc i.val from funext h]
  change (Finset.univ : Finset (Fin c)).sup (fun i => sc i.val) = _
  apply le_antisymm
  · exact Finset.sup_le fun i _ => le_top i.isLt
  · exact Finset.sup_le fun j hj => Finset.le_sup (f := fun i : Fin c => sc i.val) (Finset.mem_univ ⟨j, Finset.mem_range.mp hj⟩)

theorem exp2_nonneg (x : EReal) : 0 ≤ Ideal.exp2 x := by
  induction x with
  | bot => simp
  | top => simp
  | coe r => rw [Ideal.exp2_coe]; exact_mod_cast Real.rpow_nonneg (by norm_num) r

/-- Where `x ≤ y`, the factor `2 ^ (x - y)` is at most one. -/
theorem exp2_sub_le_one {x y : EReal} (h : x ≤ y) : Ideal.exp2 (x - y) ≤ 1 := by
  induction x with
  | bot => simp
  | top => rw [top_le_iff.mp h]; simp
  | coe r =>
    induction y with
    | bot => simp at h
    | top => simp
    | coe s =>
      rw [← EReal.coe_sub, Ideal.exp2_coe]
      have : Real.rpow 2 (r - s) ≤ 1 := Real.rpow_le_one_of_one_le_of_nonpos (by norm_num) (by
        have := EReal.coe_le_coe_iff.mp h; linarith)
      exact_mod_cast this

theorem exp2_sub_ne_top {x y : EReal} (h : x ≤ y) : Ideal.exp2 (x - y) ≠ ⊤ :=
  ((exp2_sub_le_one h).trans_lt (by exact_mod_cast EReal.coe_lt_top 1)).ne

/-- Weights relative to an older maximum, scaled to a newer one. -/
theorem exp2_rescale {s m m' : EReal} (h : s ≤ m) (h' : m ≤ m') :
    Ideal.exp2 (m - m') * Ideal.exp2 (s - m) = Ideal.exp2 (s - m') := by
  induction s with
  | bot => simp
  | top => rw [top_le_iff.mp h] at h' ⊢; rw [top_le_iff.mp h']; simp
  | coe r =>
    induction m with
    | bot => simp at h
    | top => rw [top_le_iff.mp h']; simp
    | coe a =>
      induction m' with
      | bot => simp at h'
      | top => simp
      | coe b =>
        rw [← EReal.coe_sub, ← EReal.coe_sub, ← EReal.coe_sub, Ideal.exp2_coe, Ideal.exp2_coe, Ideal.exp2_coe, ← EReal.coe_mul]
        congr 1
        change (2:ℝ) ^ (a - b) * (2:ℝ) ^ (r - a) = (2:ℝ) ^ (r - b)
        rw [← Real.rpow_add (by norm_num)]
        congr 1; ring

/-- A factor that is neither negative nor infinite distributes over any sum. -/
theorem mul_sum_of {ι : Type*} (x : EReal) (h : 0 ≤ x) (ht : x ≠ ⊤) (s : Finset ι) (f : ι → EReal) :
    x * ∑ j ∈ s, f j = ∑ j ∈ s, x * f j := by
  classical
  induction s using Finset.induction_on with
  | empty => simp
  | insert a s ha ih => rw [Finset.sum_insert ha, Finset.sum_insert ha, EReal.left_distrib_of_nonneg_of_ne_top h ht, ih]

/-- Taking in the next `c` scores: the accumulator scaled to the new maximum, plus the new stretch's weighted values. -/
theorem acc_add (sc v : ℕ → EReal) (n c : ℕ) :
    Ideal.exp2 (top sc n - top sc (n + c)) * acc sc v n + ∑ i ∈ Finset.range c, Ideal.exp2 (sc (n + i) - top sc (n + c)) * v (n + i)
      = acc sc v (n + c) := by
  have hle := top_le_top sc (Nat.le_add_right n c)
  rw [acc, acc, mul_sum_of _ (exp2_nonneg _) (exp2_sub_ne_top hle), Finset.sum_range_add]
  congr 1
  refine Finset.sum_congr rfl fun j hj => ?_
  rw [← mul_assoc, exp2_rescale (le_top (Finset.mem_range.mp hj)) hle]

/-- A sum of quotients by one positive finite number is the quotient of the sum. -/
theorem div_sum {ι : Type*} (s : Finset ι) (a v : ι → EReal) {l : EReal} (h : 0 < l) (ht : l ≠ ⊤) :
    Ideal.div (∑ j ∈ s, a j * v j) l = ∑ j ∈ s, Ideal.div (a j) l * v j := by
  have hb : l ≠ ⊥ := fun e => by simp [e] at h
  lift l to ℝ using ⟨ht, hb⟩
  have hl : (0:ℝ) < l := by exact_mod_cast h
  have h0 : ((l : ℝ) : EReal) ≠ 0 := h.ne'
  have hi : (0 : EReal) ≤ (l : EReal)⁻¹ := by rw [← EReal.coe_inv]; exact_mod_cast (inv_pos.mpr hl).le
  have hi' : (l : EReal)⁻¹ ≠ ⊤ := by rw [← EReal.coe_inv]; exact EReal.coe_ne_top _
  simp only [Ideal.div, if_neg h0]
  rw [mul_comm, mul_sum_of _ hi hi']
  exact Finset.sum_congr rfl fun j _ => by rw [← mul_assoc, mul_comm (_ : EReal)⁻¹]

/-- With one score at the greatest and it a real, the sum of weights is at least one, and it is finite. -/
theorem weights_pos (sc : ℕ → EReal) (n : ℕ) (hn : 0 < n) (hb : top sc n ≠ ⊥) (ht : top sc n ≠ ⊤) :
    0 < acc sc (fun _ => 1) n ∧ acc sc (fun _ => 1) n ≠ ⊤ := by
  unfold acc
  constructor
  · obtain ⟨j, hj, e⟩ := Finset.exists_mem_eq_sup (Finset.range n) ⟨0, Finset.mem_range.mpr hn⟩ sc
    refine lt_of_lt_of_le ?_ (Finset.single_le_sum (f := fun j => Ideal.exp2 (sc j - top sc n) * 1)
      (fun i _ => by rw [mul_one]; exact exp2_nonneg _) hj)
    have e' : sc j = top sc n := e.symm
    rw [e', EReal.sub_self ht hb, mul_one, show (0 : EReal) = ((0:ℝ) : EReal) from rfl, Ideal.exp2_coe]
    change (0 : EReal) < ((2:ℝ) ^ (0:ℝ) : ℝ)
    simp
  · have : ∀ s ⊆ Finset.range n, (∑ j ∈ s, Ideal.exp2 (sc j - top sc n) * 1) ≠ ⊤ := by
      intro s
      induction s using Finset.induction_on with
      | empty => simp
      | insert a s ha ih =>
        intro hs
        rw [Finset.sum_insert ha, mul_one]
        have h1 := exp2_sub_ne_top (le_top (sc := sc) (Finset.mem_range.mp (hs (Finset.mem_insert_self a s))))
        have h2 := ih fun x hx => hs (Finset.mem_insert_of_mem hx)
        exact (EReal.add_lt_top h1 h2).ne
    exact this _ (fun _ h => h)

/-- The natural exponential of a difference of two reals, each times `log 2`, is the power of two of the difference. -/
theorem exp_log_two (s m : ℝ) :
    Ideal.exp ((s : EReal) * (Real.log 2 : ℝ) - (m : EReal) * (Real.log 2 : ℝ)) = Ideal.exp2 ((s : EReal) - m) := by
  rw [← EReal.coe_mul, ← EReal.coe_mul, ← EReal.coe_sub, ← EReal.coe_sub, Ideal.exp2_coe, Ideal.exp_coe]
  congr 1
  change Real.exp _ = (2:ℝ) ^ (s - m)
  rw [Real.rpow_def_of_pos (by norm_num)]
  congr 1; ring

end Cert.Online

end
-- ==== Proof.MlaBlockIdeal.lean ====
/- What one grid point of the latent attention computes, over the extended reals: for each query of its block the
   weighted values over the sum of weights, the scores taken in the order of the kernel. -/
module

public import proofs.«01_k».proof.Proof.MlaBodyIdeal
public import proofs.«01_k».proof.Proof.Online
public import Idealize.ShloMosaic.Lib.Pointwise

@[expose] public section

set_option maxRecDepth 16384

noncomputable section

namespace Cert.KernelIdeal.Mla

open Cert.KernelIdeal Cert.KernelIdeal.Gen Cert.Online
open Idealize.ShloMosaic

theorem negInf_word : Ideal.ofBits .f32 0xFF800000#32 = ⊥ := by simp [Ideal.ofBits, Ideal.ieee]

/-- A query's score with a key: the products of the plain half and those of the rotary half. -/
def dot (q : Fin 256 → EReal) (kn kr : Fin 128 → EReal) : EReal :=
  ∑ x : Fin 128, kn x * q ⟨x, by omega⟩ + ∑ x : Fin 128, kr x * q ⟨128 + x, by omega⟩

/-- Row `r` of a block of keys, scored with query `n` of the block. -/
def rowDot {N : ℕ} (v0 : Vec Ideal S256x1280 .bf16) (kn kr : Vec Ideal ⟨2, ![N, 128]⟩ .bf16) (r : Fin N) (n : Fin 1280) : EReal :=
  dot (fun e => v0 (ix2 e n)) (fun x => kn (ix2 r x)) (fun x => kr (ix2 r x))

/-- A block of values with the rows of ones below it. -/
def withOnes {N : ℕ} (v : Vec Ideal ⟨2, ![128, N]⟩ .bf16) (d : Fin 144) (r : Fin N) : EReal :=
  if h : d.val < 128 then v (ix2 ⟨d, h⟩ r) else 1

variable (v0 : Vec Ideal S256x1280 .bf16) (kn kr : Vec Ideal S2048x128 .bf16)

theorem pay3_at (r : Fin 2048) (n : Fin 1280) : k0_pay3 v0 kn kr (ix2 r n) = rowDot v0 kn kr r n := by
  unfold k0_pay3 rowDot dot
  pointwise
theorem pay11_at (r : Fin 2048) (n : Fin 1280) : k0_pay11 v0 kn kr (ix2 r n) = rowDot v0 kn kr r n := pay3_at v0 kn kr r n
theorem pay26_at (r : Fin 2048) (n : Fin 1280) : k0_pay26 v0 kn kr (ix2 r n) = rowDot v0 kn kr r n := pay3_at v0 kn kr r n
theorem pay23_at (r : Fin 2048) (n : Fin 1280) :
    k0_pay23 v0 (k0_pay22 kn kr) (constant S2048x1280 .f32 0x00000000#32) (ix2 r n) = rowDot v0 kn kr r n := pay3_at v0 kn kr r n

theorem pay4_at (r : Fin 2048) (n : Fin 1280) : k0_pay4 v0 kn kr (ix3 0 r n) = rowDot v0 kn kr r n := by
  unfold k0_pay4
  pointwise
  exact pay3_at ..
theorem pay12_at (r : Fin 2048) (n : Fin 1280) : k0_pay12 v0 kn kr (ix3 0 r n) = rowDot v0 kn kr r n := pay4_at v0 kn kr r n
theorem pay27_at (r : Fin 2048) (n : Fin 1280) : k0_pay27 v0 kn kr (ix3 0 r n) = rowDot v0 kn kr r n := pay4_at v0 kn kr r n
theorem pay24_at (r : Fin 2048) (n : Fin 1280) :
    k0_pay24 v0 (k0_pay22 kn kr) (constant S2048x1280 .f32 0x00000000#32) (ix3 0 r n) = rowDot v0 kn kr r n := pay4_at v0 kn kr r n

theorem pay5_at (n : Fin 1280) (sc : ℕ → EReal) (h : ∀ r, rowDot v0 kn kr r n = sc r.val) : k0_pay5 v0 kn kr (ix3 0 0 n) = top sc 2048 := by
  unfold k0_pay5
  pointwise
  rw [negInf_word]
  exact fold_max_eq_top _ sc fun r => (pay3_at v0 kn kr r n).trans (h r)
theorem pay13_at (n : Fin 1280) (sc : ℕ → EReal) (h : ∀ r, rowDot v0 kn kr r n = sc r.val) : k0_pay13 v0 kn kr (ix3 0 0 n) = top sc 2048 :=
  pay5_at v0 kn kr n sc h
theorem pay28_at (n : Fin 1280) (sc : ℕ → EReal) (h : ∀ r, rowDot v0 kn kr r n = sc r.val) : k0_pay28 v0 kn kr (ix3 0 0 n) = top sc 2048 :=
  pay5_at v0 kn kr n sc h
theorem pay25_at (n : Fin 1280) (sc : ℕ → EReal) (h : ∀ r, rowDot v0 kn kr r n = sc r.val) :
    k0_pay25 v0 (k0_pay22 kn kr) (constant S2048x1280 .f32 0x00000000#32) (ix3 0 0 n) = top sc 2048 :=
  pay5_at v0 kn kr n sc h

section Max

variable (m : Vec Ideal S1x1280 .f32) (mx : Vec Ideal S1x1x1280 .f32) (n : Fin 1280)

theorem pay6_at : k0_pay6 m mx (ix2 0 n) = max (m (ix2 0 n)) (mx (ix3 0 0 n)) := by
  unfold k0_pay6; pointwise
theorem pay8_at : k0_pay8 m mx (ix2 0 n) = max (m (ix2 0 n)) (mx (ix3 0 0 n)) := by
  unfold k0_pay8; pointwise; exact pay6_at m mx n
theorem pay7_at : k0_pay7 m mx (ix3 0 0 n) = Ideal.exp2 (m (ix2 0 n) - max (m (ix2 0 n)) (mx (ix3 0 0 n))) := by
  unfold k0_pay7; pointwise; rw [pay6_at]; rfl

theorem pay9_at (a : Vec Ideal S1x1280 .f32) (s : Vec Ideal S1x2048x1280 .f32) (r : Fin 2048) :
    k0_pay9 a s (ix3 0 r n) = Ideal.exp2 (s (ix3 0 r n) - a (ix2 0 n)) := by
  unfold k0_pay9; pointwise; rfl

theorem pay17_at (s : Vec Ideal S1x2048x1280 .f32) (r : Fin 2048) :
    k0_pay34 (k0_pay17 m mx s) (ix3 0 r n) = Ideal.exp2 (s (ix3 0 r n) - max (m (ix2 0 n)) (mx (ix3 0 0 n))) :=
  (pay9_at n (k0_pay14 m mx) s r).trans (by rw [show k0_pay14 m mx (ix2 0 n) = _ from pay6_at m mx n])

end Max

section Acc

variable (al : Vec Ideal S1x1x1280 .f32) (a : Vec Ideal S144x1280 .f32) (v : Vec Ideal S128x2048 .bf16) (p : Vec Ideal S1x2048x1280 .bf16)
  (d : Fin 144) (n : Fin 1280)

theorem pay10_at : k0_pay10 al a v p (ix2 d n) = al (ix3 0 0 n) * a (ix2 d n) + ∑ r : Fin 2048, withOnes v d r * p (ix3 0 r n) := by
  unfold k0_pay10 withOnes; pointwise
theorem pay1_at : k0_pay1 (k0_pay41 al a) v p (ix2 d n) = al (ix3 0 0 n) * a (ix2 d n) + ∑ r : Fin 2048, withOnes v d r * p (ix3 0 r n) :=
  pay10_at al a v p d n

end Acc

theorem pay18_at (x6 x7 : Vec Ideal S128x128 .bf16) (r : Fin 128) (n : Fin 1280) :
    k0_pay18 v0 x6 x7 (ix2 r n) = if r.val < 16 then rowDot v0 x6 x7 r n else ⊥ := by
  have hs : IntOp.cmpi CmpIPredicate.slt (BitVec.ofNat 32 r.val) 16#32 = if r.val < 16 then 1#1 else 0#1 := by
    revert r; decide +kernel
  unfold k0_pay18 rowDot dot
  pointwise
  rw [negInf_word]
  simp only [hs]
  split_ifs <;> rfl

theorem pay20_at (x6 x7 : Vec Ideal S128x128 .bf16) (n : Fin 1280) (sc : ℕ → EReal)
    (h : ∀ r : Fin 128, (if r.val < 16 then rowDot v0 x6 x7 r n else ⊥) = sc r.val) : k0_pay20 v0 x6 x7 (ix2 0 n) = top sc 128 := by
  unfold k0_pay20 k0_pay19
  pointwise
  rw [negInf_word]
  exact fold_max_eq_top _ sc fun r => (pay18_at v0 x6 x7 r n).trans (h r)

theorem pay21_at (x6 x7 x8 : Vec Ideal S128x128 .bf16) (d : Fin 144) (n : Fin 1280) (sc v : ℕ → EReal)
    (h : ∀ r : Fin 128, (if r.val < 16 then rowDot v0 x6 x7 r n else ⊥) = sc r.val) (hv : ∀ r : Fin 128, withOnes x8 d r = v r.val) :
    k0_pay21 v0 x6 x7 x8 (ix2 d n) = acc sc v 128 := by
  have e : k0_pay21 v0 x6 x7 x8 (ix2 d n)
      = ∑ r : Fin 128, withOnes x8 d r * Ideal.exp2 (k0_pay18 v0 x6 x7 (ix2 r n) - k0_pay20 v0 x6 x7 (ix2 0 n)) := by
    unfold k0_pay21 withOnes k0_pay20
    pointwise
    rfl
  rw [e, acc, ← Fin.sum_univ_eq_sum_range (fun j => Ideal.exp2 (sc j - top sc 128) * v j)]
  refine Finset.sum_congr rfl fun r _ => ?_
  rw [pay18_at, h r, hv r, pay20_at v0 x6 x7 n sc h, mul_comm]

/-- What holds at query `n` before a trip: `a` scores taken into the accumulator, the next 2048 weighed and waiting, the
    2048 after them scored. -/
structure Inv (sc : ℕ → EReal) (v : Fin 144 → ℕ → EReal) (n : Fin 1280) (a : ℕ) (S : St Ideal) : Prop where
  m : S.m (ix2 0 n) = top sc (a + 2048)
  acc : ∀ d : Fin 144, S.acc (ix2 d n) = acc sc (v d) a
  al : S.al (ix3 0 0 n) = Ideal.exp2 (top sc a - top sc (a + 2048))
  p : ∀ r : Fin 2048, S.p (ix3 0 r n) = Ideal.exp2 (sc (a + r) - top sc (a + 2048))
  s : ∀ r : Fin 2048, S.s (ix3 0 r n) = sc (a + 2048 + r)
  mx : S.mx (ix3 0 0 n) = top (fun i => sc (a + 2048 + i)) 2048

/-- One chunk's step of the accumulator, as the kernel writes it. -/
theorem acc_step (sc v : ℕ → EReal) (a : ℕ) {al b : EReal} {w p : Fin 2048 → EReal} (hal : al = Ideal.exp2 (top sc a - top sc (a + 2048)))
    (hb : b = acc sc v a) (hw : ∀ r : Fin 2048, w r = v (a + r)) (hp : ∀ r : Fin 2048, p r = Ideal.exp2 (sc (a + r) - top sc (a + 2048))) :
    al * b + ∑ r : Fin 2048, w r * p r = acc sc v (a + 2048) := by
  rw [← acc_add, hal, hb, ← Fin.sum_univ_eq_sum_range (fun i => Ideal.exp2 (sc (a + i) - top sc (a + 2048)) * v (a + i))]
  congr 1
  exact Finset.sum_congr rfl fun r _ => by rw [hw, hp, mul_comm]

theorem Inv.next {sc : ℕ → EReal} {v : Fin 144 → ℕ → EReal} {n : Fin 1280} {a : ℕ} {S : St Ideal} (h : Inv sc v n a S)
    {kna kra knb krb : Vec Ideal S2048x128 .bf16} {va vb : Vec Ideal S128x2048 .bf16}
    (ha : ∀ r, rowDot v0 kna kra r n = sc (a + 4096 + r)) (hb : ∀ r, rowDot v0 knb krb r n = sc (a + 4096 + 2048 + r))
    (hva : ∀ d r, withOnes va d r = v d (a + r)) (hvb : ∀ d r, withOnes vb d r = v d (a + 2048 + r)) :
    Inv sc v n (a + 4096) (S.next v0 kna kra knb krb va vb) := by
  have hm1 : k0_pay8 S.m S.mx (ix2 0 n) = top sc (a + 4096) := by
    rw [pay8_at, h.m, h.mx, ← top_add]
  have hma : k0_pay5 v0 kna kra (ix3 0 0 n) = top (fun i => sc (a + 4096 + i)) 2048 := pay5_at v0 kna kra n _ ha
  have ht : max (top sc (a + 4096)) (top (fun i => sc (a + 4096 + i)) 2048) = top sc (a + 4096 + 2048) := (top_add sc (a + 4096) 2048).symm
  have ht' : max (top sc (a + 2048)) (top (fun i => sc (a + 2048 + i)) 2048) = top sc (a + 2048 + 2048) := (top_add sc (a + 2048) 2048).symm
  refine ⟨?_, fun d => ?_, ?_, fun r => ?_, fun r => ?_, ?_⟩
  · exact (pay8_at (k0_pay8 S.m S.mx) (k0_pay5 v0 kna kra) n).trans (by rw [hm1, hma, ht])
  · refine (pay10_at _ _ vb _ d n).trans ?_
    refine acc_step sc (v d) (a + 2048) ?_ ?_ (hvb d) fun r => ?_
    · rw [pay7_at, h.m, h.mx, ht']
    · exact (pay10_at _ _ va _ d n).trans (acc_step sc (v d) a h.al (h.acc d) (hva d) h.p)
    · rw [pay9_at, pay6_at, h.m, h.mx, ht', h.s]
  · exact (pay7_at _ _ n).trans (by rw [hm1, hma, ht])
  · exact (pay17_at _ _ n _ r).trans (by rw [hm1, hma, ht, pay4_at, ha])
  · exact (pay12_at v0 knb krb r n).trans (hb r)
  · dsimp only [St.next]
    exact pay13_at v0 knb krb n (fun i => sc (a + 4096 + 2048 + i)) hb

theorem Inv.init {sc : ℕ → EReal} {v : Fin 144 → ℕ → EReal} {n : Fin 1280}
    {kn0 kr0 kn1 kr1 : Vec Ideal S2048x128 .bf16} {x6 x7 x8 : Vec Ideal S128x128 .bf16}
    (hm : ∀ r : Fin 128, (if r.val < 16 then rowDot v0 x6 x7 r n else ⊥) = sc r.val)
    (hv : ∀ d (r : Fin 128), withOnes x8 d r = v d r.val)
    (h0 : ∀ r, rowDot v0 kn0 kr0 r n = sc (128 + r)) (h1 : ∀ r, rowDot v0 kn1 kr1 r n = sc (128 + 2048 + r)) :
    Inv sc v n 128 (St.init v0 kn0 kr0 kn1 kr1 x6 x7 x8) := by
  have em := pay20_at v0 x6 x7 n sc hm
  have e0 := pay25_at v0 kn0 kr0 n (fun i => sc (128 + i)) h0
  have ht := (top_add sc 128 2048).symm
  refine ⟨?_, fun d => ?_, ?_, fun r => ?_, fun r => ?_, ?_⟩
  · exact (pay8_at _ _ n).trans (by rw [em, e0, ht])
  · exact pay21_at v0 x6 x7 x8 d n sc (v d) hm (hv d)
  · exact (pay7_at _ _ n).trans (by rw [em, e0, ht])
  · exact (pay17_at _ _ n _ r).trans (by rw [em, e0, ht, pay24_at, h0])
  · exact (pay27_at v0 kn1 kr1 r n).trans (h1 r)
  · dsimp only [St.init]
    exact pay28_at v0 kn1 kr1 n (fun i => sc (128 + 2048 + i)) h1

theorem Inv.last {sc : ℕ → EReal} {v : Fin 144 → ℕ → EReal} {n : Fin 1280} {a : ℕ} {S : St Ideal} (h : Inv sc v n a S)
    {va vb : Vec Ideal S128x2048 .bf16}
    (hva : ∀ d r, withOnes va d r = v d (a + r)) (hvb : ∀ d r, withOnes vb d r = v d (a + 2048 + r)) (d : Fin 144) :
    S.last va vb (ix2 d n) = Online.acc sc (v d) (a + 2048 + 2048) := by
  have ht' : max (top sc (a + 2048)) (top (fun i => sc (a + 2048 + i)) 2048) = top sc (a + 2048 + 2048) := (top_add sc (a + 2048) 2048).symm
  refine (pay1_at _ _ vb _ d n).trans ?_
  refine acc_step sc (v d) (a + 2048) ?_ ?_ (hvb d) fun r => ?_
  · exact (pay7_at _ _ n).trans (by rw [h.m, h.mx, ht'])
  · exact (pay10_at _ _ va _ d n).trans (acc_step sc (v d) a h.al (h.acc d) (hva d) h.p)
  · exact (pay9_at n _ _ r).trans (by rw [show k0_pay36 S.m S.mx (ix2 0 n) = _ from pay6_at S.m S.mx n, h.m, h.mx, ht', h.s])

theorem fin_at (a : Vec Ideal S144x1280 .f32) (n : Fin 1280) (d : Fin 128) :
    fin a (ix2 n d) = Ideal.div (a (ix2 ⟨d, by omega⟩ n)) (a (ix2 ⟨128, by omega⟩ n)) := by
  unfold fin k0_pay2
  pointwise

/-- The kernel's `j`-th score of query `n`: the meta block's 16 keys, its 112 masked rows, then the 16384 keys. -/
def score (x6 x7 : Vec Ideal S128x128 .bf16) (x3 x4 : Vec Ideal S16384x128 .bf16) (n : Fin 1280) (j : ℕ) : EReal :=
  if h : j < 128 then (if j < 16 then rowDot v0 x6 x7 ⟨j, h⟩ n else ⊥)
  else if h : j - 128 < 16384 then rowDot v0 x3 x4 ⟨j - 128, h⟩ n else ⊥

/-- The value of row `d` that goes with the `j`-th score. -/
def value (x8 : Vec Ideal S128x128 .bf16) (x5 : Vec Ideal S128x16384 .bf16) (d : Fin 144) (j : ℕ) : EReal :=
  if h : j < 128 then withOnes x8 d ⟨j, h⟩ else if h : j - 128 < 16384 then withOnes x5 d ⟨j - 128, h⟩ else 0

theorem rowDot_ld (x3 x4 : Vec Ideal S16384x128 .bf16) (x6 x7 : Vec Ideal S128x128 .bf16) (o : ℕ) {off off' : Fin 2 → ℕ} (inb) (inb')
    (h : off = ![o, 0]) (h' : off' = ![o, 0]) (r : Fin 2048) (n : Fin 1280) :
    rowDot v0 (View.ld x3 (Rect.unit (s := S16384x128) off S2048x128.size inb)) (View.ld x4 (Rect.unit (s := S16384x128) off' S2048x128.size inb')) r n
      = score v0 x6 x7 x3 x4 n (128 + o + r) := by
  subst h h'
  have hb : o + 2048 ≤ 16384 := inb 0
  have e : 128 + o + r.val - 128 = o + r.val := by omega
  rw [score, dif_neg (by omega), dif_pos (by omega)]
  unfold rowDot
  have hr : (⟨128 + o + r.val - 128, by omega⟩ : Fin 16384) = ⟨o + r.val, by omega⟩ := Fin.ext e
  rw [hr]
  have hl : ∀ (x : Vec Ideal S16384x128 .bf16) (y : Fin 128),
      View.ld x (Rect.unit (s := S16384x128) ![o, 0] S2048x128.size inb) (ix2 r y) = x (ix2 (⟨o + r.val, by omega⟩ : Fin 16384) y) := by
    intro x y
    refine congrArg x (funext fun a => Fin.ext ?_)
    revert a
    refine Fin.forall_fin_two.mpr ⟨?_, ?_⟩
    · show o + 1 * r.val = o + r.val
      omega
    · show 0 + 1 * y.val = y.val
      omega
  exact congrArg₂ (dot _) (funext fun x => hl x3 x) (funext fun x => hl x4 x)

theorem withOnes_ld (x5 : Vec Ideal S128x16384 .bf16) (x8 : Vec Ideal S128x128 .bf16) (o : ℕ) {off : Fin 2 → ℕ} (inb)
    (h : off = ![0, o]) (d : Fin 144) (r : Fin 2048) :
    withOnes (View.ld x5 (Rect.unit (s := S128x16384) off S128x2048.size inb)) d r = value x8 x5 d (128 + o + r) := by
  subst h
  have hb : o + 2048 ≤ 16384 := inb 1
  have e : 128 + o + r.val - 128 = o + r.val := by omega
  rw [value, dif_neg (by omega), dif_pos (by omega)]
  unfold withOnes
  have hr : (⟨128 + o + r.val - 128, by omega⟩ : Fin 16384) = ⟨o + r.val, by omega⟩ := Fin.ext e
  rw [hr]
  split_ifs with hd
  · refine congrArg x5 (funext fun a => Fin.ext ?_)
    revert a
    refine Fin.forall_fin_two.mpr ⟨?_, ?_⟩
    · show 0 + 1 * d.val = d.val
      omega
    · show o + 1 * r.val = o + r.val
      omega
  · rfl

theorem off1_eq (k : Fin k0_t1_loop.trips) (r : Fin 2) : k0_off1 k (BitVec.ofNat 32 (2 + r.val)) = ![4096 + 4096 * k.val + 2048 * r.val, 0] := by
  revert k r; decide +kernel
theorem off2_eq (k : Fin k0_t1_loop.trips) : k0_off2 k = ![0, 4096 * k.val] := by
  revert k; decide +kernel
theorem off3_eq (k : Fin k0_t1_loop.trips) : k0_off3 k = ![0, 2048 + 4096 * k.val] := by
  revert k; decide +kernel

variable (x3 x4 : Vec Ideal S16384x128 .bf16) (x5 : Vec Ideal S128x16384 .bf16) (x6 x7 x8 : Vec Ideal S128x128 .bf16)

/-- What holds before every trip. -/
theorem inv_at (S : St Ideal) (n : Fin 1280) (h : Inv (score v0 x6 x7 x3 x4 n) (value x8 x5) n 128 S) (k : ℕ) (hk : k ≤ k0_t1_loop.trips) :
    Inv (score v0 x6 x7 x3 x4 n) (value x8 x5) n (128 + 4096 * k) (stAt v0 x3 x4 x5 S k) := by
  induction k with
  | zero => exact h
  | succ k ih =>
    have ih := ih (Nat.le_of_succ_le hk)
    rw [stAt, dif_pos (show k < k0_t1_loop.trips from hk)]
    refine (?_ : 128 + 4096 * (k + 1) = 128 + 4096 * k + 4096) ▸ Inv.next v0 ih (fun r => ?_) (fun r => ?_) (fun d r => ?_) (fun d r => ?_)
    · ring
    · exact (rowDot_ld v0 x3 x4 x6 x7 _ _ _ (off1_eq ⟨k, hk⟩ 0) (off1_eq ⟨k, hk⟩ 0) r n).trans (congrArg _ (by simp; ring))
    · exact (rowDot_ld v0 x3 x4 x6 x7 _ _ _ (off1_eq ⟨k, hk⟩ 1) (off1_eq ⟨k, hk⟩ 1) r n).trans (congrArg _ (by simp; ring))
    · exact (withOnes_ld x5 x8 _ _ (off2_eq ⟨k, hk⟩) d r).trans (congrArg _ (by simp))
    · exact (withOnes_ld x5 x8 _ _ (off3_eq ⟨k, hk⟩) d r).trans (congrArg _ (by simp; ring))

/-- The block a grid point stores: each query's weighted values over its sum of weights. -/
theorem block_at (n : Fin 1280) (d : Fin 128) :
    block v0 x3 x4 x5 x6 x7 x8 (ix2 n d)
      = Ideal.div (acc (score v0 x6 x7 x3 x4 n) (value x8 x5 ⟨d, by omega⟩) 16512) (acc (score v0 x6 x7 x3 x4 n) (value x8 x5 ⟨128, by omega⟩) 16512) := by
  have h0 : Inv (score v0 x6 x7 x3 x4 n) (value x8 x5) n 128 (St.init v0 (View.ld x3 (Rect.unit (s := S16384x128) ![0, 0] S2048x128.size inb_S16384x128_S2048x128_0_0))
      (View.ld x4 (Rect.unit (s := S16384x128) ![0, 0] S2048x128.size inb_S16384x128_S2048x128_0_0))
      (View.ld x3 (Rect.unit (s := S16384x128) ![2048, 0] S2048x128.size inb_S16384x128_S2048x128_2048_0))
      (View.ld x4 (Rect.unit (s := S16384x128) ![2048, 0] S2048x128.size inb_S16384x128_S2048x128_2048_0)) x6 x7 x8) := by
    refine Inv.init v0 (fun r => ?_) (fun d r => ?_) (fun r => ?_) fun r => ?_
    · rw [score, dif_pos r.isLt]
    · rw [value, dif_pos r.isLt]
    · exact rowDot_ld v0 x3 x4 x6 x7 0 _ _ rfl rfl r n
    · exact rowDot_ld v0 x3 x4 x6 x7 2048 _ _ rfl rfl r n
  have h3 := inv_at v0 x3 x4 x5 x6 x7 x8 _ n h0 k0_t1_loop.trips le_rfl
  have hl := fun d => h3.last (va := View.ld x5 (Rect.unit (s := S128x16384) ![0, 12288] S128x2048.size inb_S128x16384_S128x2048_0_12288))
    (vb := View.ld x5 (Rect.unit (s := S128x16384) ![0, 14336] S128x2048.size inb_S128x16384_S128x2048_0_14336))
    (fun d r => withOnes_ld x5 x8 12288 _ rfl d r) (fun d r => withOnes_ld x5 x8 14336 _ rfl d r) d
  unfold block
  rw [fin_at, hl, hl]
  rfl

end Cert.KernelIdeal.Mla

end
-- ==== Proof.Softmax.lean ====
/- The kernels' softmax against the plain one: the keys in another order with masked ones among them, and the weights taken to base two
   with the scores scaled by the logarithm of two. -/
module

public import proofs.«01_k».proof.Proof.Online

@[expose] public section

noncomputable section

namespace Cert.Online

open Idealize.ShloMosaic

/-- A family over `N + r` places taken in the kernels' order: the last `r`, padded to `p` with `pad`, then the first `N`. -/
def rolled (p r N : ℕ) (pad : EReal) (f : ℕ → EReal) (j : ℕ) : EReal :=
  if j < p then (if j < r then f (N + j) else pad) else f (j - p)

theorem top_rolled {p r N : ℕ} (h : r ≤ p) (f : ℕ → EReal) : top (rolled p r N ⊥ f) (p + N) = top f (N + r) := by
  apply le_antisymm
  · refine Finset.sup_le fun j hj => ?_
    have hj := Finset.mem_range.mp hj
    unfold rolled
    split_ifs with h1 h2
    · exact le_top (by omega)
    · exact bot_le
    · exact le_top (by omega)
  · refine Finset.sup_le fun j hj => ?_
    have hj := Finset.mem_range.mp hj
    rcases lt_or_ge j N with h1 | h1
    · refine le_of_eq_of_le ?_ (le_top (show p + j < p + N by omega))
      rw [rolled, if_neg (by omega), Nat.add_sub_cancel_left]
    · refine le_of_eq_of_le ?_ (le_top (show j - N < p + N by omega))
      rw [rolled, if_pos (by omega), if_pos (by omega)]
      congr 1; omega

theorem acc_congr {f g v w : ℕ → EReal} {n : ℕ} (hf : ∀ j, j < n → f j = g j) (hv : ∀ j, j < n → v j = w j) : acc f v n = acc g w n := by
  have ht : top f n = top g n := Finset.sup_congr rfl fun j hj => hf j (Finset.mem_range.mp hj)
  exact Finset.sum_congr rfl fun j hj => by rw [ht, hf j (Finset.mem_range.mp hj), hv j (Finset.mem_range.mp hj)]

/-- The masked keys add nothing and the order does not matter. -/
theorem acc_rolled {p r N : ℕ} (h : r ≤ p) (f v w : ℕ → EReal) (h1 : ∀ j, j < r → w j = v (N + j)) (h2 : ∀ j, j < N → w (p + j) = v j) :
    acc (rolled p r N ⊥ f) w (p + N) = acc f v (N + r) := by
  unfold acc
  rw [top_rolled h, Finset.sum_range_add, Finset.sum_range_add _ N r, add_comm]
  congr 1
  · refine Finset.sum_congr rfl fun j hj => ?_
    rw [rolled, if_neg (by omega), Nat.add_sub_cancel_left, h2 j (Finset.mem_range.mp hj)]
  · obtain ⟨k, rfl⟩ := Nat.exists_eq_add_of_le h
    rw [Finset.sum_range_add]
    refine (congrArg₂ (· + ·) (Finset.sum_congr rfl fun j hj => ?_) (Finset.sum_eq_zero fun j hj => ?_)).trans (add_zero _)
    · have hj := Finset.mem_range.mp hj
      rw [rolled, if_pos (by omega), if_pos hj, h1 j hj]
    · have hj := Finset.mem_range.mp hj
      rw [rolled, if_pos (by omega), if_neg (by omega)]
      simp

/-- The greatest of finitely many reals is one. -/
theorem top_real (f : ℕ → EReal) (n : ℕ) (hn : 0 < n) (h : ∀ j, j < n → ∃ x : ℝ, f j = x) : ∃ x : ℝ, top f n = x := by
  obtain ⟨j, hj, e⟩ := Finset.exists_mem_eq_sup (Finset.range n) ⟨0, Finset.mem_range.mpr hn⟩ f
  obtain ⟨x, hx⟩ := h j (Finset.mem_range.mp hj)
  exact ⟨x, by rw [top, e, hx]⟩

theorem top_mul_log (f : ℕ → EReal) (n : ℕ) (hn : 0 < n) (h : ∀ j, j < n → ∃ x : ℝ, f j = x) :
    top (fun j => f j * (Real.log 2 : ℝ)) n = top f n * (Real.log 2 : ℝ) := by
  have hl : (0:EReal) ≤ ((Real.log 2 : ℝ) : EReal) := by exact_mod_cast Real.log_nonneg (by norm_num)
  apply le_antisymm
  · exact Finset.sup_le fun j hj => mul_le_mul_of_nonneg_right (le_top (Finset.mem_range.mp hj)) hl
  · obtain ⟨j, hj, e⟩ := Finset.exists_mem_eq_sup (Finset.range n) ⟨0, Finset.mem_range.mpr hn⟩ f
    rw [top, e]
    exact Finset.le_sup (f := fun j => f j * ((Real.log 2 : ℝ) : EReal)) hj

/-- The plain softmax of the scaled scores, applied to the values, is the weighted values over the sum of weights. -/
theorem softmax_eq (f v : ℕ → EReal) (n : ℕ) (hn : 0 < n) (h : ∀ j, j < n → ∃ x : ℝ, f j = x) :
    ∑ j ∈ Finset.range n, v j * Ideal.div (Ideal.exp (f j * (Real.log 2 : ℝ) - top (fun j => f j * (Real.log 2 : ℝ)) n))
        (∑ j ∈ Finset.range n, Ideal.exp (f j * (Real.log 2 : ℝ) - top (fun j => f j * (Real.log 2 : ℝ)) n))
      = Ideal.div (acc f v n) (acc f (fun _ => 1) n) := by
  obtain ⟨M, hM⟩ := top_real f n hn h
  have hw := weights_pos f n hn (by rw [hM]; exact EReal.coe_ne_bot M) (by rw [hM]; exact EReal.coe_ne_top M)
  have he : ∀ j ∈ Finset.range n, Ideal.exp (f j * (Real.log 2 : ℝ) - top (fun j => f j * (Real.log 2 : ℝ)) n) = Ideal.exp2 (f j - top f n) := by
    intro j hj
    obtain ⟨x, hx⟩ := h j (Finset.mem_range.mp hj)
    rw [top_mul_log f n hn h, hx, hM, exp_log_two]
  rw [Finset.sum_congr (g := fun j => Ideal.exp2 (f j - top f n)) rfl he,
    show ∑ j ∈ Finset.range n, Ideal.exp2 (f j - top f n) = acc f (fun _ => 1) n from Finset.sum_congr rfl fun j _ => (mul_one _).symm]
  conv_rhs => rw [acc]
  rw [div_sum _ _ _ hw.1 hw.2]
  refine Finset.sum_congr rfl fun j hj => ?_
  rw [he j hj, mul_comm]

end Cert.Online

end
-- ==== Proof.MlaAttention.lean ====
/- The attention over 16400 keys, as a function of its four arrays: every element the weighted values over the sum of weights. -/
module

public import proofs.«01_k».proof.Proof.Softmax
public import Idealize.ShloMosaic.Lib.Pointwise

@[expose] public section

noncomputable section

namespace Cert.Attention

open Cert.Online
open Idealize.ShloMosaic

variable (A0 : Vec Ideal ⟨2, ![2048, 16640]⟩ .bf16) (A1 : Vec Ideal ⟨2, ![16640, 1024]⟩ .bf16) (A2 : Vec Ideal ⟨2, ![16640, 128]⟩ .bf16)
  (A3 : Vec Ideal ⟨2, ![1024, 16640]⟩ .bf16)

/-- The score of query `q` of head `h` with key `k`. -/
def score (q : Fin 16640) (h : Fin 8) (k : ℕ) : EReal :=
  if hk : k < 16640 then ∑ x : Fin 128, A0 (ix2 ⟨h.val * 256 + x, by omega⟩ q) * A1 (ix2 ⟨k, hk⟩ ⟨h.val * 128 + x, by omega⟩)
    + ∑ x : Fin 128, A0 (ix2 ⟨h.val * 256 + (128 + x), by omega⟩ q) * A2 (ix2 ⟨k, hk⟩ x) else 0

/-- Element `e` of the values of key `k`. -/
def value (e : Fin 1024) (k : ℕ) : EReal := if hk : k < 16640 then A3 (ix2 e ⟨k, hk⟩) else 0

/-- The attention. -/
def attn (q : Fin 16640) (e : Fin 1024) : EReal :=
  Ideal.div (acc (score A0 A1 A2 q ⟨e.val / 128, by omega⟩) (value A3 e) 16400) (acc (score A0 A1 A2 q ⟨e.val / 128, by omega⟩) (fun _ => 1) 16400)

theorem ofBits_two : Ideal.ofBits .f32 1073741824#32 = ((2 : ℝ) : EReal) := by
  simp [Ideal.ofBits, Ideal.ieee, -EReal.coe_mul]; norm_num

theorem ofBits_neg_inf : Ideal.ofBits .f32 4286578688#32 = ⊥ := by
  simp [Ideal.ofBits, Ideal.ieee]

theorem log_two : Ideal.log (Ideal.ofBits .f32 1073741824#32) = ((Real.log 2 : ℝ) : EReal) := by
  rw [ofBits_two, Ideal.log_coe, if_neg (by norm_num)]

theorem mul_real {a b : EReal} (ha : ∃ x : ℝ, a = x) (hb : ∃ x : ℝ, b = x) : ∃ x : ℝ, a * b = x := by
  obtain ⟨x, rfl⟩ := ha; obtain ⟨y, rfl⟩ := hb; exact ⟨x * y, (EReal.coe_mul x y).symm⟩

theorem add_real {a b : EReal} (ha : ∃ x : ℝ, a = x) (hb : ∃ x : ℝ, b = x) : ∃ x : ℝ, a + b = x := by
  obtain ⟨x, rfl⟩ := ha; obtain ⟨y, rfl⟩ := hb; exact ⟨x + y, (EReal.coe_add x y).symm⟩

theorem sum_real {ι : Type*} (s : Finset ι) (f : ι → EReal) (h : ∀ i, ∃ x : ℝ, f i = x) : ∃ x : ℝ, ∑ i ∈ s, f i = x := by
  choose g hg using h
  exact ⟨∑ i ∈ s, g i, by rw [Finset.sum_congr rfl fun i _ => hg i]; induction s using Finset.cons_induction with
    | empty => simp
    | cons a s ha ih => rw [Finset.sum_cons, Finset.sum_cons, ih, EReal.coe_add]⟩

/-- Real queries and keys have real scores. -/
theorem score_real (h0 : ∀ i, ∃ x : ℝ, A0 i = x) (h1 : ∀ i, ∃ x : ℝ, A1 i = x) (h2 : ∀ i, ∃ x : ℝ, A2 i = x)
    (q : Fin 16640) (h : Fin 8) (k : ℕ) : ∃ x : ℝ, score A0 A1 A2 q h k = x := by
  unfold score
  split_ifs
  · exact add_real (sum_real _ _ fun x => mul_real (h0 _) (h1 _)) (sum_real _ _ fun x => mul_real (h0 _) (h2 _))
  · exact ⟨0, rfl⟩

/-- The plain softmax, its sums and its maximum over the 16400 keys. -/
theorem softmax_fin {N : ℕ} (hN : 0 < N) (f v : ℕ → EReal) (hf : ∀ j, j < N → ∃ x : ℝ, f j = x) {u w : Fin N → EReal}
    (hu : ∀ j, u j = f j) (hw : ∀ j, w j = v j) :
    ∑ j, w j * Ideal.div
        (Ideal.exp (u j * Ideal.log (Ideal.ofBits .f32 1073741824#32)
          - max (Ideal.ofBits .f32 4286578688#32) (Finset.fold max (Ideal.ofBits .f32 4286578688#32)
              (fun i => u i * Ideal.log (Ideal.ofBits .f32 1073741824#32)) Finset.univ)))
        (∑ j, Ideal.exp (u j * Ideal.log (Ideal.ofBits .f32 1073741824#32)
          - max (Ideal.ofBits .f32 4286578688#32) (Finset.fold max (Ideal.ofBits .f32 4286578688#32)
              (fun i => u i * Ideal.log (Ideal.ofBits .f32 1073741824#32)) Finset.univ)))
      = Ideal.div (acc f v N) (acc f (fun _ => 1) N) := by
  rw [log_two, ofBits_neg_inf, fold_max_eq_top _ (fun j => f j * ((Real.log 2 : ℝ) : EReal)) (fun i => by rw [hu]),
    max_eq_right bot_le, ← softmax_eq f v N hN hf]
  simp only [hu, hw]
  rw [Finset.sum_range, Finset.sum_range]

end Cert.Attention

end
-- ==== Proof.MlaArrayIdeal.lean ====
/- The attention call over its arrays: every element of the result as the weighted values over the sum of weights, in the order in
   which the call takes the keys. -/
module

public import proofs.«01_k».proof.Proof.MlaFrameIdeal
public import proofs.«01_k».proof.Proof.MlaBlockIdeal
public import proofs.«01_k».proof.Proof.MlaAttention
public import Idealize.ShloMosaic.Lib.Pipeline.ValueKit

@[expose] public section

set_option maxRecDepth 16384

noncomputable section

namespace Cert.KernelIdeal.Mla

open Cert.KernelIdeal Cert.KernelIdeal.Gen Cert.Reads Cert.Online
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The head and the block of queries of a grid point. -/
abbrev hd (t : Fin cfg0.N) : ℕ := (grid0.coords t 0).val
abbrev qb (t : Fin cfg0.N) : ℕ := (grid0.coords t 1).val

theorem hd_lt : ∀ t : Fin cfg0.N, hd t < 8 := by decide +kernel
theorem qb_lt : ∀ t : Fin cfg0.N, qb t < 13 := by decide +kernel

theorem idx0 : ∀ t : Fin cfg0.N, win0_0.index t = ![hd t, qb t] := by decide +kernel
theorem idx1 : ∀ t : Fin cfg0.N, win0_1.index t = ![0, hd t] := by decide +kernel
theorem idx2 : ∀ t : Fin cfg0.N, win0_2.index t = ![0, 0] := by decide +kernel
theorem idx3 : ∀ t : Fin cfg0.N, win0_3.index t = ![hd t, 0] := by decide +kernel
theorem idx4 : ∀ t : Fin cfg0.N, win0_4.index t = ![128, hd t] := by decide +kernel
theorem idx5 : ∀ t : Fin cfg0.N, win0_5.index t = ![128, 0] := by decide +kernel
theorem idx6 : ∀ t : Fin cfg0.N, win0_6.index t = ![hd t, 128] := by decide +kernel
theorem idx7 : ∀ t : Fin cfg0.N, win0_7.index t = ![qb t, hd t] := by decide +kernel

theorem blk0 (c : Dev nD) (t : Fin cfg0.N) (e : Fin 256) (n : Fin 1280) :
    (iblk m c 0 t : Vec Ideal S256x1280 .bf16) (ix2 e n) = V m c main_arg0 (ix2 ⟨hd t * 256 + e, by have := hd_lt t; omega⟩ ⟨qb t * 1280 + n, by have := qb_lt t; omega⟩) := by
  blk_simp [iblk, idx0]
  blk_ext [idx0]

theorem blk4 (c : Dev nD) (t : Fin cfg0.N) (e : Fin 128) (n : Fin 128) :
    (iblk m c 4 t : Vec Ideal S128x128 .bf16) (ix2 e n) = V m c main_arg1 (ix2 ⟨16384 + e, by omega⟩ ⟨hd t * 128 + n, by have := hd_lt t; omega⟩) := by
  blk_simp [iblk, idx4]
  blk_ext [idx4]

theorem blk5 (c : Dev nD) (t : Fin cfg0.N) (e : Fin 128) (n : Fin 128) :
    (iblk m c 5 t : Vec Ideal S128x128 .bf16) (ix2 e n) = V m c main_arg2 (ix2 ⟨16384 + e, by omega⟩ n) := by
  blk_simp [iblk, idx5]
  blk_ext [idx5]

theorem blk6 (c : Dev nD) (t : Fin cfg0.N) (e : Fin 128) (n : Fin 128) :
    (iblk m c 6 t : Vec Ideal S128x128 .bf16) (ix2 e n) = V m c main_arg3 (ix2 ⟨hd t * 128 + e, by have := hd_lt t; omega⟩ ⟨16384 + n, by omega⟩) := by
  blk_simp [iblk, idx6]
  blk_ext [idx6]

theorem blk1 (c : Dev nD) (t : Fin cfg0.N) (e : Fin 16384) (n : Fin 128) :
    (X0_1 m c t : Vec Ideal S16384x128 .bf16) (ix2 e n) = V m c main_arg1 (ix2 ⟨e, by omega⟩ ⟨hd t * 128 + n, by have := hd_lt t; omega⟩) := by
  unfold X0_1 Window.fill
  rw [dif_pos (moved0_1 t _)]
  blk_simp [iblk]
  refine congrArg (V m c main_arg1) (funext fun a => Fin.ext ?_)
  rw [show (((win0_1.blk t).view.emb _) a : ℕ) = win0_1.index t a * win0_1.size a + (ix2 e n a : ℕ) from win0_1.rect_emb_val_off t _ a, idx1]
  match a with
  | ⟨0, _⟩ => simp [ix2]
  | ⟨1, _⟩ => simp [ix2]

theorem blk2 (c : Dev nD) (t : Fin cfg0.N) (e : Fin 16384) (n : Fin 128) :
    (X0_2 m c t : Vec Ideal S16384x128 .bf16) (ix2 e n) = V m c main_arg2 (ix2 ⟨e, by omega⟩ n) := by
  unfold X0_2 Window.fill
  rw [dif_pos (moved0_2 t _)]
  blk_simp [iblk]
  refine congrArg (V m c main_arg2) (funext fun a => Fin.ext ?_)
  rw [show (((win0_2.blk t).view.emb _) a : ℕ) = win0_2.index t a * win0_2.size a + (ix2 e n a : ℕ) from win0_2.rect_emb_val_off t _ a, idx2]
  match a with
  | ⟨0, _⟩ => simp [ix2]
  | ⟨1, _⟩ => simp [ix2]

theorem blk3 (c : Dev nD) (t : Fin cfg0.N) (e : Fin 128) (n : Fin 16384) :
    (X0_3 m c t : Vec Ideal S128x16384 .bf16) (ix2 e n) = V m c main_arg3 (ix2 ⟨hd t * 128 + e, by have := hd_lt t; omega⟩ ⟨n, by omega⟩) := by
  unfold X0_3 Window.fill
  rw [dif_pos (moved0_3 t _)]
  blk_simp [iblk]
  refine congrArg (V m c main_arg3) (funext fun a => Fin.ext ?_)
  rw [show (((win0_3.blk t).view.emb _) a : ℕ) = win0_3.index t a * win0_3.size a + (ix2 e n a : ℕ) from win0_3.rect_emb_val_off t _ a, idx3]
  match a with
  | ⟨0, _⟩ => simp [ix2]
  | ⟨1, _⟩ => simp [ix2]

/-- The scores of a point's block are the array's, in the order in which the call takes the keys. -/
theorem score_eq (c : Dev nD) (t : Fin cfg0.N) (n : Fin 1280) (j : ℕ) (hj : j < 128 + 16384) :
    score (iblk m c 0 t) (iblk m c 4 t) (iblk m c 5 t) (X0_1 m c t) (X0_2 m c t) n j
      = rolled 128 16 16384 ⊥ (Attention.score (V m c main_arg0) (V m c main_arg1) (V m c main_arg2)
          ⟨qb t * 1280 + n, by have := qb_lt t; omega⟩ ⟨hd t, hd_lt t⟩) j := by
  unfold score rolled Attention.score
  rcases lt_or_ge j 128 with h | h
  · rw [dif_pos h, if_pos h]
    split_ifs with h1 h2
    · unfold rowDot dot
      exact congrArg₂ (· + ·) (Finset.sum_congr rfl fun x _ => by rw [mul_comm]; simp only [blk0, blk4])
        (Finset.sum_congr rfl fun x _ => by rw [mul_comm]; simp only [blk0, blk5])
    · omega
    · rfl
  · rw [dif_neg (by omega), dif_pos (by omega), if_neg (by omega), dif_pos (by omega)]
    unfold rowDot dot
    exact congrArg₂ (· + ·) (Finset.sum_congr rfl fun x _ => by rw [mul_comm]; simp only [blk0, blk1])
      (Finset.sum_congr rfl fun x _ => by rw [mul_comm]; simp only [blk0, blk2])

/-- So are the values, and the row of ones below them. -/
theorem value_eq (c : Dev nD) (t : Fin cfg0.N) (d : Fin 128) :
    (∀ j, j < 16 → value (iblk m c 6 t) (X0_3 m c t) ⟨d, by omega⟩ j
      = Attention.value (V m c main_arg3) ⟨hd t * 128 + d, by have := hd_lt t; omega⟩ (16384 + j))
    ∧ ∀ j, j < 16384 → value (iblk m c 6 t) (X0_3 m c t) ⟨d, by omega⟩ (128 + j)
      = Attention.value (V m c main_arg3) ⟨hd t * 128 + d, by have := hd_lt t; omega⟩ j := by
  constructor <;> intro j hj
  · rw [value, dif_pos (by omega), withOnes, dif_pos d.isLt, Attention.value, dif_pos (by omega), blk6]
  · rw [value, dif_neg (by omega), dif_pos (by omega), withOnes, dif_pos d.isLt, Attention.value, dif_pos (by omega), blk3]
    simp only [Nat.add_sub_cancel_left]

theorem ones_eq (c : Dev nD) (t : Fin cfg0.N) (j : ℕ) (hj : j < 128 + 16384) :
    value (iblk m c 6 t) (X0_3 m c t) ⟨128, by omega⟩ j = 1 := by
  rw [value]
  split_ifs
  · rw [withOnes, dif_neg (by simp)]
  · rw [withOnes, dif_neg (by simp)]
  · omega

/-- A point's block of results is its block of the attention. -/
theorem outBlk_at (c : Dev nD) (t : Fin cfg0.N) (n : Fin 1280) (d : Fin 128) :
    outBlk m c t (ix2 n d) = Attention.attn (V m c main_arg0) (V m c main_arg1) (V m c main_arg2) (V m c main_arg3)
      ⟨qb t * 1280 + n, by have := qb_lt t; omega⟩ ⟨hd t * 128 + d, by have := hd_lt t; omega⟩ := by
  have hs := fun j hj => score_eq m c t n j hj
  have hv := value_eq m c t d
  have e : (⟨(hd t * 128 + d.val) / 128, by have := hd_lt t; omega⟩ : Fin 8) = ⟨hd t, hd_lt t⟩ := Fin.ext (by dsimp only; omega)
  have h1 := (acc_congr hs fun _ _ => rfl).trans (acc_rolled (by norm_num) (Attention.score (V m c main_arg0) (V m c main_arg1) (V m c main_arg2)
          ⟨qb t * 1280 + n, by have := qb_lt t; omega⟩ ⟨hd t, hd_lt t⟩) _ _ hv.1 hv.2)
  have h2 := (acc_congr hs fun j hj => ones_eq m c t j hj).trans (acc_rolled (by norm_num) (Attention.score (V m c main_arg0) (V m c main_arg1) (V m c main_arg2)
          ⟨qb t * 1280 + n, by have := qb_lt t; omega⟩ ⟨hd t, hd_lt t⟩) (fun _ => 1) (fun _ => 1) (fun _ _ => rfl) fun _ _ => rfl)
  rw [outBlk, block_at, Attention.attn, e]
  exact congrArg₂ Ideal.div h1 h2

/-- The array of results. -/
def G (c : Dev nD) : Vec Ideal S16640x1024 .bf16 := fun i =>
  Attention.attn (V m c main_arg0) (V m c main_arg1) (V m c main_arg2) (V m c main_arg3) (i 0) (i 1)

theorem final (c : Dev nD) : (dats m 0 c).arrAt 7 cfg0.N = G m c := by
  refine (dats m 0 c).arrAt_eq_of_covers 7 _ (by decide +kernel) fun t hf y => ?_
  blk_simp
  rw [after0_7]
  have e0 : (((win0_7.blk t).view.emb y) 0 : ℕ) = qb t * 1280 + (y 0 : ℕ) := by
    rw [show (((win0_7.blk t).view.emb y) 0 : ℕ) = win0_7.index t 0 * win0_7.size 0 + (y 0 : ℕ) from win0_7.rect_emb_val_off t y 0, idx7]; rfl
  have e1 : (((win0_7.blk t).view.emb y) 1 : ℕ) = hd t * 128 + (y 1 : ℕ) := by
    rw [show (((win0_7.blk t).view.emb y) 1 : ℕ) = win0_7.index t 1 * win0_7.size 1 + (y 1 : ℕ) from win0_7.rect_emb_val_off t y 1, idx7]; rfl
  refine (congrArg (outBlk m c t) (eq_ix2 (n0 := 1280) (n1 := 128) y)).trans ((outBlk_at m c t (y 0) (y 1)).trans ?_)
  exact congrArg₂ (Attention.attn _ _ _ _) (Fin.ext e0.symm) (Fin.ext e1.symm)

end Cert.KernelIdeal.Mla

end
-- ==== Proof.MlaRefIdeal.lean ====
/- The plain attention is the attention over 16400 keys, where queries and keys are real. -/
module

public import proofs.«01_k».proof.Proof.MlaAttention
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Mla

open Cert.ReferenceIdeal Cert.ReferenceIdeal.Gen Cert.ReferenceIdeal.Facts Cert.Online Cert.Attention
open Idealize.ShloMosaic Idealize.ShloMosaic.TcCoe Idealize.ShloMosaic.Tactic

variable (A0 : FVec Ideal S2048x16640 .bf16) (A1 : FVec Ideal S16640x1024 .bf16) (A2 : FVec Ideal S16640x128 .bf16) (A3 : FVec Ideal S1024x16640 .bf16)

/-- The queries, head by head. -/
def queries : FVec Ideal S16640x8x256 .bf16 :=
  shapeCast _ (transpose S16640x2048 [1, 0] A0 transposes_S2048x16640_S16640x2048_1_0) shapeCasts_S16640x2048_S16640x8x256

/-- The keys, head by head, the rotary half behind the plain one. -/
def keys : FVec Ideal S16400x8x256 .bf16 :=
  concatenate S16400x8x256 2 [⟨S16400x8x128, (shapeCast _ (extractStridedSlice S16400x1024 ![0, 0] A1 slices_S16640x1024_S16400x1024_0_0) shapeCasts_S16400x1024_S16400x8x128)⟩, ⟨S16400x8x128, (broadcastInDim S16400x8x128 ![0, 1, 2] bcast_S16400x1x128_S16400x8x128_0_1_2 (broadcastInDim S16400x1x128 ![0, 2] bcast_S16400x128_S16400x1x128_0_2 (extractStridedSlice S16400x128 ![0, 0] A2 slices_S16640x128_S16400x128_0_0)))⟩] concatenates_S16400x8x128_S16400x8x128_S16400x8x256_d2

/-- The values, head by head. -/
def values : FVec Ideal S16400x8x128 .bf16 :=
  shapeCast _ (transpose S16400x1024 [1, 0] (extractStridedSlice S1024x16400 ![0, 0] A3 slices_S1024x16640_S1024x16400_0_0) transposes_S1024x16400_S16400x1024_1_0) shapeCasts_S16400x1024_S16400x8x128

/-- The scores. -/
def scores (Q : FVec Ideal S16640x8x256 .bf16) (K : FVec Ideal S16400x8x256 .bf16) : FVec Ideal S8x16640x16400 .f32 :=
  mulf (Host.dotGeneral dot_S16640x8x256_S16400x8x256_S8x16640x16400_2_2_0_0_1_1 none Q K) (broadcastInDim S8x16640x16400 ![] bcast_S_S8x16640x16400 (Host.log (constant S_ .f32 0x40000000#32)))

/-- A number for each query, beside each of its keys. -/
def along (X : FVec Ideal S8x16640 .f32) : FVec Ideal S8x16640x16400 .f32 :=
  broadcastInDim S8x16640x16400 ![0, 1, 2] bcast_S8x16640x1_S8x16640x16400_0_1_2 (broadcastInDim S8x16640x1 ![0, 1] bcast_S8x16640_S8x16640x1_0_1 X)

/-- The greatest score of each query. -/
def greatest (S : FVec Ideal S8x16640x16400 .f32) : FVec Ideal S8x16640 .f32 :=
  maximumf (broadcastInDim S8x16640 ![] bcast_S_S8x16640 (constant S_ .f32 0xFF800000#32)) (Host.reduce FloatOps.maximumf S (constant S_ .f32 0xFF800000#32) reducesTo_S8x16640x16400_S8x16640_d2 h_S_)

/-- The exponentials. -/
def expos (S : FVec Ideal S8x16640x16400 .f32) : FVec Ideal S8x16640x16400 .f32 := Host.exp (subf S (along (greatest S)))

/-- The weights. -/
def weights (E : FVec Ideal S8x16640x16400 .f32) : FVec Ideal S8x16640x16400 .bf16 :=
  truncf .bf16 (Host.divf E (along (Host.reduceAdd E (constant S_ .f32 0x00000000#32) reducesTo_S8x16640x16400_S8x16640_d2 h_S_))) bitsLt_bf16_f32

/-- The weighted values, the heads side by side. -/
def weighted (W : FVec Ideal S8x16640x16400 .bf16) (X : FVec Ideal S16400x8x128 .bf16) : FVec Ideal S16640x1024 .bf16 :=
  shapeCast _ (truncf .bf16 (transpose S16640x8x128 [2, 0, 1] (Host.dotGeneral dot_S16400x8x128_S8x16640x16400_S8x128x16640_0_2_2_1_1_0 none X W) transposes_S8x128x16640_S16640x8x128_2_0_1) bitsLt_bf16_f32) shapeCasts_S16640x8x128_S16640x1024

theorem queries_at (q : Fin 16640) (h : Fin 8) (x : Fin 256) : queries A0 (ix3 q h x) = A0 (ix2 ⟨h.val * 256 + x, by omega⟩ q) := by
  unfold queries; pointwise

theorem values_at (k : Fin 16400) (h : Fin 8) (x : Fin 128) : values A3 (ix3 k h x) = A3 (ix2 ⟨h.val * 128 + x, by omega⟩ ⟨k, by omega⟩) := by
  unfold values; pointwise

theorem scores_at (h : Fin 8) (q : Fin 16640) (k : Fin 16400) :
    scores (queries A0) (keys A1 A2) (ix3 h q k) = score A0 A1 A2 q h k * Ideal.log (Ideal.ofBits .f32 1073741824#32) := by
  unfold scores queries keys
  pointwise
  rw [score, dif_pos (by omega)]

theorem along_at (X : FVec Ideal S8x16640 .f32) (h : Fin 8) (q : Fin 16640) (k : Fin 16400) : along X (ix3 h q k) = X (ix2 h q) := by
  unfold along; pointwise

theorem maxima_at (S : FVec Ideal S8x16640x16400 .f32) (h : Fin 8) (q : Fin 16640) :
    Host.reduce FloatOps.maximumf S (constant S_ .f32 0xFF800000#32) reducesTo_S8x16640x16400_S8x16640_d2 h_S_ (ix2 h q)
      = Finset.fold max (Ideal.ofBits .f32 0xFF800000#32) (fun k : Fin 16400 => S (ix3 h q k)) Finset.univ := by
  pointwise

theorem raised_at (R : FVec Ideal S8x16640 .f32) (h : Fin 8) (q : Fin 16640) :
    maximumf (broadcastInDim S8x16640 ![] bcast_S_S8x16640 (constant S_ .f32 0xFF800000#32)) R (ix2 h q) = max (Ideal.ofBits .f32 0xFF800000#32) (R (ix2 h q)) := by
  pointwise

theorem greatest_at (S : FVec Ideal S8x16640x16400 .f32) (h : Fin 8) (q : Fin 16640) :
    greatest S (ix2 h q) = max (Ideal.ofBits .f32 0xFF800000#32) (Finset.fold max (Ideal.ofBits .f32 0xFF800000#32) (fun k : Fin 16400 => S (ix3 h q k)) Finset.univ) := by
  unfold greatest; rw [raised_at, maxima_at]

theorem divided_at (E D : FVec Ideal S8x16640x16400 .f32) (i : S8x16640x16400.Idx) :
    truncf .bf16 (Host.divf E D) bitsLt_bf16_f32 i = Ideal.div (E i) (D i) := rfl

theorem expos_at (S : FVec Ideal S8x16640x16400 .f32) (h : Fin 8) (q : Fin 16640) (k : Fin 16400) :
    expos S (ix3 h q k) = Ideal.exp (S (ix3 h q k) - greatest S (ix2 h q)) := by
  rw [← along_at (greatest S) h q k]; rfl

theorem sums_at (E : FVec Ideal S8x16640x16400 .f32) (h : Fin 8) (q : Fin 16640) :
    Host.reduceAdd E (constant S_ .f32 0x00000000#32) reducesTo_S8x16640x16400_S8x16640_d2 h_S_ (ix2 h q) = ∑ k : Fin 16400, E (ix3 h q k) := by
  pointwise

theorem weights_at (E : FVec Ideal S8x16640x16400 .f32) (h : Fin 8) (q : Fin 16640) (k : Fin 16400) :
    weights E (ix3 h q k) = Ideal.div (E (ix3 h q k)) (∑ k : Fin 16400, E (ix3 h q k)) := by
  unfold weights; rw [divided_at, along_at, sums_at]

theorem weighted_at (W : FVec Ideal S8x16640x16400 .bf16) (X : FVec Ideal S16400x8x128 .bf16) (q : Fin 16640) (e : Fin 1024) :
    weighted W X (ix2 q e) = ∑ k : Fin 16400, X (ix3 k ⟨e.val / 128, by omega⟩ ⟨e.val % 128, by omega⟩) * W (ix3 ⟨e.val / 128, by omega⟩ q k) := by
  unfold weighted; pointwise

variable (m : (ℓ : Loc nD τ sig) → Buf (Elt Ideal) ℓ)

/-- An element of the plain attention. -/
theorem ref_at (c : Dev nD) (h0 : ∀ i, ∃ x : ℝ, m (c.tc.loc main_arg0) i = (x : EReal)) (h1 : ∀ i, ∃ x : ℝ, m (c.tc.loc main_arg1) i = (x : EReal))
    (h2 : ∀ i, ∃ x : ℝ, m (c.tc.loc main_arg2) i = (x : EReal)) (q : Fin 16640) (e : Fin 1024) :
    (Value.res_main_v30 m c : Vec Ideal S16640x1024 .bf16) (ix2 q e)
      = attn (m (c.tc.loc main_arg0)) (m (c.tc.loc main_arg1)) (m (c.tc.loc main_arg2)) (m (c.tc.loc main_arg3)) q e := by
  have e0 : (Value.res_main_v30 m c : Vec Ideal S16640x1024 .bf16)
      = weighted (weights (expos (scores (queries (m (c.tc.loc main_arg0))) (keys (m (c.tc.loc main_arg1)) (m (c.tc.loc main_arg2)))))) (values (m (c.tc.loc main_arg3))) := rfl
  rw [e0, weighted_at]
  simp only [weights_at, expos_at, greatest_at, scores_at]
  refine softmax_fin (N := 16400) (u := fun k => score (m (c.tc.loc main_arg0)) (m (c.tc.loc main_arg1)) (m (c.tc.loc main_arg2)) q ⟨e.val / 128, by omega⟩ k)
    (by norm_num) _ _ (fun j _ => score_real _ _ _ h0 h1 h2 q _ j) (fun j => rfl) (fun j => ?_)
  rw [values_at, value, dif_pos (by omega)]
  congr 2
  exact Fin.ext (by dsimp only; omega)

end Cert.ReferenceIdeal.Mla

end
-- ==== Proof.MlaFinite.lean ====
/- What the precondition says: queries and keys are real numbers. -/
module

public import proofs.«01_k».proof.Pre_finite
public import Idealize.ShloMosaic.Lib.ReduceAll
public import Idealize.ShloMosaic.Lib.Pointwise

@[expose] public section

set_option maxRecDepth 16384

noncomputable section

namespace Cert.Pre_finite

open Idealize.ShloMosaic Idealize.ShloMosaic.TcCoe Cert.Pre_finite.Facts

variable [Cert.Pre_finite.Facts]

omit [Cert.Pre_finite.Facts] in
/-- An element whose magnitude is below infinity is a real number. -/
theorem real_of_lt {s : Shape} (A : FVec Ideal s .bf16) (hb : S_.BroadcastsInDim s (![] : Fin 0 → Fin s.rank)) (i : s.Idx)
    (h : cmpf .olt (Host.absf A) (broadcastInDim s ![] hb (constant S_ .bf16 0x7F80#16)) i = 1#1) : ∃ r : ℝ, A i = (r : EReal) := by
  have h : Ideal.cmp .olt (max (A i : EReal) (-(A i))) (Ideal.ofBits .bf16 0x7F80#16) = (1#1 : BitVec 1) := h
  rw [show Ideal.ofBits .bf16 0x7F80#16 = ⊤ from by simp [Ideal.ofBits, Ideal.ieee]] at h
  have h : max (A i : EReal) (-(A i)) < ⊤ := by
    by_contra hn
    simp [Ideal.cmp, hn] at h
  generalize (A i : EReal) = x at h
  induction x using EReal.rec with
  | bot => simp at h
  | top => simp at h
  | coe r => exact ⟨r, rfl⟩

theorem reals {A0 : FVec Ideal S2048x16640 .bf16} {A1 : FVec Ideal S16640x1024 .bf16} {A2 : FVec Ideal S16640x128 .bf16} {A3 : FVec Ideal S1024x16640 .bf16}
    (h : fn A0 A1 A2 A3 = fun _ => 1#1) :
    (∀ i, ∃ r : ℝ, A0 i = (r : EReal)) ∧ (∀ i, ∃ r : ℝ, A1 i = (r : EReal)) ∧ ∀ i, ∃ r : ℝ, A2 i = (r : EReal) := by
  dsimp only [fn] at h
  have h := congrFun h (fun a => a.elim0)
  obtain ⟨h, h2⟩ := IntOp.andi_eq_one.1 h
  obtain ⟨h0, h1⟩ := IntOp.andi_eq_one.1 h
  exact ⟨fun i => real_of_lt A0 _ i (Host.reduce_andi_all _ _ _ _ _ h0 i), fun i => real_of_lt A1 _ i (Host.reduce_andi_all _ _ _ _ _ h1 i),
    fun i => real_of_lt A2 _ i (Host.reduce_andi_all _ _ _ _ _ h2 i)⟩

end Cert.Pre_finite

end
-- ==== Proof.MlaEquation.lean ====
/- The attention call computes the plain attention: both results are the attention over 16400 keys. -/
module

public import proofs.«01_k».proof.Defs
public import proofs.«01_k».proof.Proof.Gen.Pre_finite
public import proofs.«01_k».proof.Proof.MlaArrayIdeal
public import proofs.«01_k».proof.Proof.MlaRefIdeal
public import proofs.«01_k».proof.Proof.MlaFinite

@[expose] public section

set_option maxRecDepth 16384

noncomputable section

namespace Cert.Proof

open Idealize.ShloMosaic Idealize.ShloMosaic.TcCoe Idealize.SL.Sem
open Cert.KernelIdeal Cert.KernelIdeal.Gen

/-- The call's run, its array of results read. -/
theorem attention_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Mla.G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 7).trans (Mla.final m c), h.2.1 c⟩)
    (θ_run_and (Mla.run_main m ρ) (Mla.frame m ρ))

theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hpre hag =>
  ⟨fun c => Mla.G m c, attention_run m ρ, (θ_run _ _ _).mono (fun _ h c => ⟨(h c).1.trans (by
      obtain ⟨e0, e1, e2, e3⟩ := hag c
      obtain ⟨r0, r1, r2⟩ := Cert.Pre_finite.reals (hpre c)
      funext i
      rw [eq_ix2 (n0 := 16640) (n1 := 1024) i]
      refine (Cert.ReferenceIdeal.Mla.ref_at m' c (by rw [e0]; exact r0) (by rw [e1]; exact r1) (by rw [e2]; exact r2) (i 0) (i 1)).trans ?_
      rw [e0, e1, e2, e3]
      rfl), (h c).2⟩) (Cert.ReferenceIdeal.Value.run m' ρ')⟩

end Cert.Proof

end
-- ==== Proof.Quarters.lean ====
/- Four blocks side by side, as four stores leave them. -/
module

public import proofs.«01_k».proof.Proof.Reads
public import Idealize.ShloMosaic.Lib.WritesUnit
public import Idealize.ShloMosaic.Lib.Pointwise

@[expose] public section

namespace Cert.Reads

open Idealize.ShloMosaic

/-- Four blocks of 128 columns, side by side. -/
def quarters {α : Type} (w0 w1 w2 w3 : (⟨2, ![256, 128]⟩ : Shape).Idx → α) (y : (⟨2, ![256, 512]⟩ : Shape).Idx) : α :=
  (![w0, w1, w2, w3] : Fin 4 → (⟨2, ![256, 128]⟩ : Shape).Idx → α) ⟨(y 1).val / 128, by have : (y 1).val < 512 := (y 1).isLt; omega⟩
    (ix2 (n0 := 256) (n1 := 128) (y 0) ⟨(y 1).val % 128, Nat.mod_lt _ (by norm_num)⟩)

theorem quarters_of {α : Type} {w0 w1 w2 w3 : (⟨2, ![256, 128]⟩ : Shape).Idx → α} (y : (⟨2, ![256, 512]⟩ : Shape).Idx) (q : Fin 4)
    (h : (y 1).val / 128 = q.val) :
    quarters w0 w1 w2 w3 y = (![w0, w1, w2, w3] : Fin 4 → (⟨2, ![256, 128]⟩ : Shape).Idx → α) q
      (ix2 (n0 := 256) (n1 := 128) (y 0) ⟨(y 1).val % 128, Nat.mod_lt _ (by norm_num)⟩) := by
  unfold quarters
  rw [show (⟨(y 1).val / 128, by have : (y 1).val < 512 := (y 1).isLt; omega⟩ : Fin 4) = q from Fin.ext h]

variable {sig : RefSig} {κ : Kind} {sp : Space} {e : EltTy} {Val : EltTy → Type}

/-- Four stores side by side read as four blocks side by side. -/
theorem read_quarters (v : View sig κ sp ⟨2, ![256, 512]⟩ e) (f : v.ty.Contents Val) (w0 w1 w2 w3 : (⟨2, ![256, 128]⟩ : Shape).Idx → Val e)
    (i0 : ∀ a, (![0, 0] : Fin 2 → ℕ) a + (![256, 128] : Fin 2 → ℕ) a ≤ (⟨2, ![256, 512]⟩ : Shape).size a)
    (i1 : ∀ a, (![0, 128] : Fin 2 → ℕ) a + (![256, 128] : Fin 2 → ℕ) a ≤ (⟨2, ![256, 512]⟩ : Shape).size a)
    (i2 : ∀ a, (![0, 256] : Fin 2 → ℕ) a + (![256, 128] : Fin 2 → ℕ) a ≤ (⟨2, ![256, 512]⟩ : Shape).size a)
    (i3 : ∀ a, (![0, 384] : Fin 2 → ℕ) a + (![256, 128] : Fin 2 → ℕ) a ≤ (⟨2, ![256, 512]⟩ : Shape).size a) :
    v.read Val (v.writes Val f [⟨Rect.unit ![0, 384] ![256, 128] i3, w3⟩, ⟨Rect.unit ![0, 256] ![256, 128] i2, w2⟩,
      ⟨Rect.unit ![0, 128] ![256, 128] i1, w1⟩, ⟨Rect.unit ![0, 0] ![256, 128] i0, w0⟩]) = quarters w0 w1 w2 w3 := by
  funext y
  have hy : (y 1).val < 512 := (y 1).isLt
  have hx : ∀ (o : ℕ), (y 1).val = o + (y 1).val % 128 → ∀ a : Fin 2,
      (y a).val = (![0, o] : Fin 2 → ℕ) a + (ix2 (n0 := 256) (n1 := 128) (y 0) ⟨(y 1).val % 128, Nat.mod_lt _ (by norm_num)⟩ a).val := fun o ho =>
    Fin.forall_fin_two.mpr ⟨(Nat.zero_add _).symm, ho⟩
  by_cases h3 : 384 ≤ (y 1).val
  · rw [quarters_of y 3 (by show _ = 3; omega)]
    exact View.read_writes_cons_unit_of_mem v f i3 w3 _ y _ rfl (hx 384 (by omega))
  rw [View.read_writes_cons_unit_of_not_mem v f i3 w3 _ y rfl 1 (Or.inl (by show (y 1).val < 384; omega))]
  by_cases h2 : 256 ≤ (y 1).val
  · rw [quarters_of y 2 (by show _ = 2; omega)]
    exact View.read_writes_cons_unit_of_mem v f i2 w2 _ y _ rfl (hx 256 (by omega))
  rw [View.read_writes_cons_unit_of_not_mem v f i2 w2 _ y rfl 1 (Or.inl (by show (y 1).val < 256; omega))]
  by_cases h1 : 128 ≤ (y 1).val
  · rw [quarters_of y 1 (by show _ = 1; omega)]
    exact View.read_writes_cons_unit_of_mem v f i1 w1 _ y _ rfl (hx 128 (by omega))
  rw [View.read_writes_cons_unit_of_not_mem v f i1 w1 _ y rfl 1 (Or.inl (by show (y 1).val < 128; omega))]
  rw [quarters_of y 0 (by show _ = 0; omega)]
  exact View.read_writes_cons_unit_of_mem v f i0 w0 _ y _ rfl (hx 0 (by omega))

end Cert.Reads
-- ==== Proof.GqaBodyIdeal.lean ====
/- The grouped attention's body in the first layer, one grid point: what it carries through its loop over pairs of key chunks,
   one trip of that loop, and the block of results it stores, four heads side by side. -/
module

public import proofs.«01_k».proof.Proof.Gen.Kernel2Ideal.Skeleton
public import proofs.«01_k».proof.Proof.Gen.Kernel2Ideal.Loops
public import proofs.«01_k».proof.Proof.Gen.Kernel2Ideal.Frame
public import proofs.«01_k».proof.Proof.Reads
public import proofs.«01_k».proof.Proof.Quarters

@[expose] public section

set_option maxRecDepth 16384

noncomputable section

namespace Cert.Kernel2Ideal.Gqa

open Cert.Kernel2Ideal Cert.Kernel2Ideal.Gen Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer of core `c`, whole, at contents `f`. -/
abbrev pt {sp} {s : Shape} {e : EltTy} (c : Dev nD) (a : Memref sig .tc sp s e) (f : Buf (Elt F) (a.view.loc (c : Thread nD τ))) : sProp 𝕄 :=
  a.view.loc (c : Thread nD τ) ↦[a.view.set]{fullShare} f

/-- What the loop carries from trip to trip: the running maximum, the accumulator, the scores of the newest chunk with
    their maximum, the weights of the chunk before it and the factor its accumulator is to be scaled by. -/
structure St (F : FTy → Type) where
  m : Vec F S1x1024 .f32
  acc : Vec F S144x1024 .f32
  s : Vec F S1x2048x1024 .f32
  p : Vec F S1x2048x1024 .bf16
  mx : Vec F S1x1x1024 .f32
  al : Vec F S1x1x1024 .f32

/-- One trip: two chunks of keys `ka`, `kb` scored, two chunks of values accumulated. -/
def St.next (v4 : FVec F S128x1024 .bf16) (ka kb : Vec F S2048x128 .bf16) (va vb : Vec F S128x2048 .bf16) (S : St F) : St F :=
  let m1 := k0_pay7 S.m S.mx
  let mxa := k0_pay4 v4 ka
  ⟨k0_pay17 m1 mxa,
   k0_pay35 (k0_pay19 (k0_pay6 S.m S.mx)) (k0_pay11 S.al S.acc va S.p) vb (k0_pay10 (k0_pay8 S.s) (k0_pay9 S.m S.mx)),
   k0_pay13 v4 kb,
   k0_pay18 m1 mxa (k0_pay3 v4 ka),
   k0_pay14 (k0_pay12 v4 kb),
   k0_pay16 m1 mxa⟩

/-- The six buffers the loop writes, at contents that read `S`. -/
def held (c : Dev nD) (arg8 : Memref sig .tc .vmem S1x1024 .f32) (arg9 : Memref sig .tc .vmem S144x1024 .f32) (arg10 : Memref sig .tc .vmem S2x2048x1152 .f32) (arg11 : Memref sig .tc .vmem S2x2048x1152 .bf16) (arg12 : Memref sig .tc .vmem S2x1x1024 .f32) (arg13 : Memref sig .tc .vmem S2x1x1024 .f32) (S : St F) : sProp 𝕄 :=
  iprop(∃ f8 f9 f10 f11 f12 f13, pt c arg8 f8 ∗ pt c arg9 f9 ∗ pt c arg10 f10 ∗ pt c arg11 f11 ∗ pt c arg12 f12 ∗ pt c arg13 f13
    ∗ ⌜arg8.view.readAt (Elt F) (Rect.unit (s := S1x1024) ![0, 0] S1x1024.size inb_S1x1024_S1x1024_0_0).toLoadRect f8 = S.m⌝
    ∗ ⌜arg9.view.readAt (Elt F) (Rect.unit (s := S144x1024) ![0, 0] S144x1024.size inb_S144x1024_S144x1024_0_0).toLoadRect f9 = S.acc⌝
    ∗ ⌜arg10.view.readAt (Elt F) (Rect.unit (s := S2x2048x1152) ![1, 0, 0] S1x2048x1024.size inb_S2x2048x1152_S1x2048x1024_1_0_0).toLoadRect f10 = S.s⌝
    ∗ ⌜arg11.view.readAt (Elt F) (Rect.unit (s := S2x2048x1152) ![0, 0, 0] S1x2048x1024.size inb_S2x2048x1152_S1x2048x1024_0_0_0).toLoadRect f11 = S.p⌝
    ∗ ⌜arg12.view.readAt (Elt F) (Rect.unit (s := S2x1x1024) ![1, 0, 0] S1x1x1024.size inb_S2x1x1024_S1x1x1024_1_0_0).toLoadRect f12 = S.mx⌝
    ∗ ⌜arg13.view.readAt (Elt F) (Rect.unit (s := S2x1x1024) ![0, 0, 0] S1x1x1024.size inb_S2x1x1024_S1x1x1024_0_0_0).toLoadRect f13 = S.al⌝)

/-- The keys' first chunk a trip loads. -/
def krowsA (x : Vec F S16384x128 .bf16) (k : Fin k0_t1_loop.trips) : Vec F S2048x128 .bf16 :=
  View.ld x (Rect.unit (s := S16384x128) (k0_off1 k 2#32) S2048x128.size (k0_off1_inb k 0))
/-- The keys' second chunk a trip loads. -/
def krowsB (x : Vec F S16384x128 .bf16) (k : Fin k0_t1_loop.trips) : Vec F S2048x128 .bf16 :=
  View.ld x (Rect.unit (s := S16384x128) (k0_off1 k 3#32) S2048x128.size (k0_off1_inb k 1))
/-- The values' first chunk a trip loads. -/
def vcolsA (x : Vec F S128x16384 .bf16) (k : Fin k0_t1_loop.trips) : Vec F S128x2048 .bf16 :=
  View.ld x (Rect.unit (s := S128x16384) (k0_off2 k) S128x2048.size (k0_off2_inb k))
/-- The values' second chunk a trip loads. -/
def vcolsB (x : Vec F S128x16384 .bf16) (k : Fin k0_t1_loop.trips) : Vec F S128x2048 .bf16 :=
  View.ld x (Rect.unit (s := S128x16384) (k0_off3 k) S128x2048.size (k0_off3_inb k))

/-- Trip `k` from the whole blocks of keys and values. -/
def St.trip (v4 : FVec F S128x1024 .bf16) (x3 : Vec F S16384x128 .bf16) (x4 : Vec F S128x16384 .bf16) (k : Fin k0_t1_loop.trips) (S : St F) : St F :=
  S.next v4 (krowsA x3 k) (krowsB x3 k) (vcolsA x4 k) (vcolsB x4 k)

set_option maxHeartbeats 4000000 in
theorem trip_run (c : Dev nD) (i : grid0.Coords) (arg2 : Memref sig .tc .vmem S512x256 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S256x512 .bf16) (harg7 : arg7.IsWhole) (arg8 : Memref sig .tc .vmem S1x1024 .f32) (harg8 : arg8.IsWhole) (arg9 : Memref sig .tc .vmem S144x1024 .f32) (harg9 : arg9.IsWhole) (arg10 : Memref sig .tc .vmem S2x2048x1152 .f32) (harg10 : arg10.IsWhole) (arg11 : Memref sig .tc .vmem S2x2048x1152 .bf16) (harg11 : arg11.IsWhole) (arg12 : Memref sig .tc .vmem S2x1x1024 .f32) (harg12 : arg12.IsWhole) (arg13 : Memref sig .tc .vmem S2x1x1024 .f32) (harg13 : arg13.IsWhole) (v4 : FVec F S128x1024 .bf16) (v55 : FVec F S1x1024 .f32) (k : Fin k0_t1_loop.trips)
   (x3 : Vec F S16384x128 .bf16) (x4 : Vec F S128x16384 .bf16) (S : St F) :
   iprop(pt c arg3 (harg3.unread x3) ∗ pt c arg4 (harg4.unread x4)
     ∗ held c arg8 arg9 arg10 arg11 arg12 arg13 S)
   ⊢ wp frame (wpE (defs₀ (F := F)) Variants.none c none) Set.univ (k0_t1_body i arg2 harg2 arg3 harg3 arg4 harg4 arg5 harg5 arg6 harg6 arg7 harg7 arg8 harg8 arg9 harg9 arg10 harg10 arg11 harg11 arg12 harg12 arg13 harg13 v4 v55 k ())
     (fun _ => iprop(pt c arg3 (harg3.unread x3) ∗ pt c arg4 (harg4.unread x4)
     ∗ held c arg8 arg9 arg10 arg11 arg12 arg13 (S.trip v4 x3 x4 k))) := by
  unfold k0_t1_body held
  iintro ⟨H3, H4, %f8, %f9, %f10, %f11, %f12, %f13, H8, H9, H10, H11, H12, H13, %e8, %e9, %e10, %e11, %e12, %e13⟩
  sl_exec
  sl_step
  isplitl [H3]; · iexact H3
  isplitl [H4]; · iexact H4
  iexists _, _, _, _, _, _
  isplitl [H8]; · iexact H8
  isplitl [H9]; · iexact H9
  isplitl [H10]; · iexact H10
  isplitl [H11]; · iexact H11
  isplitl [H12]; · iexact H12
  isplitl [H13]; · iexact H13
  isplitr
  · ipureintro; sl_unfold_run_names; simp (disch := exact ⟨0, by decide⟩) only [readAt_hit, readCov_hit, readAt_miss, readCov_miss, readAt_unread]; rfl
  isplitr
  · ipureintro; sl_unfold_run_names; simp (disch := exact ⟨0, by decide⟩) only [readAt_hit, readCov_hit, readAt_miss, readCov_miss, readAt_unread]; rfl
  isplitr
  · ipureintro; sl_unfold_run_names; simp (disch := exact ⟨0, by decide⟩) only [readAt_hit, readCov_hit, readAt_miss, readCov_miss, readAt_unread]; rfl
  isplitr
  · ipureintro; sl_unfold_run_names; simp (disch := exact ⟨0, by decide⟩) only [readAt_hit, readCov_hit, readAt_miss, readCov_miss, readAt_unread]; rfl
  isplitr
  · ipureintro; sl_unfold_run_names; simp (disch := exact ⟨0, by decide⟩) only [readAt_hit, readCov_hit, readAt_miss, readCov_miss, readAt_unread]; dsimp only [St.trip, St.next, krowsB]
  ipureintro; sl_unfold_run_names; simp (disch := exact ⟨0, by decide⟩) only [readAt_hit, readCov_hit, readAt_miss, readCov_miss, readAt_unread]; rfl

/-- The state before trip `k`, from the state `S` before the first. -/
def stAt (v4 : FVec F S128x1024 .bf16) (x3 : Vec F S16384x128 .bf16) (x4 : Vec F S128x16384 .bf16) (S : St F) : ℕ → St F
  | 0 => S
  | k + 1 => if h : k < k0_t1_loop.trips then (stAt v4 x3 x4 S k).trip v4 x3 x4 ⟨k, h⟩ else stAt v4 x3 x4 S k

set_option warn.classDefReducibility false in
/-- The loop's invariant: the keys and values in place, the six buffers reading the state before the trip. -/
@[sl_loop] def loopInv (c : Dev nD) (i : grid0.Coords) (arg2 : Memref sig .tc .vmem S512x256 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S256x512 .bf16) (harg7 : arg7.IsWhole) (arg8 : Memref sig .tc .vmem S1x1024 .f32) (harg8 : arg8.IsWhole) (arg9 : Memref sig .tc .vmem S144x1024 .f32) (harg9 : arg9.IsWhole) (arg10 : Memref sig .tc .vmem S2x2048x1152 .f32) (harg10 : arg10.IsWhole) (arg11 : Memref sig .tc .vmem S2x2048x1152 .bf16) (harg11 : arg11.IsWhole) (arg12 : Memref sig .tc .vmem S2x1x1024 .f32) (harg12 : arg12.IsWhole) (arg13 : Memref sig .tc .vmem S2x1x1024 .f32) (harg13 : arg13.IsWhole) (v4 : FVec F S128x1024 .bf16) (v55 : FVec F S1x1024 .f32)
   (x3 : Vec F S16384x128 .bf16) (x4 : Vec F S128x16384 .bf16)
   (g8 : Buf (Elt F) (arg8.view.loc (c : Thread nD τ))) (g9 : Buf (Elt F) (arg9.view.loc (c : Thread nD τ))) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) :
   LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 v4 v55 where
  inv k _ := iprop(pt c arg3 (harg3.unread x3) ∗ pt c arg4 (harg4.unread x4)
     ∗ held c arg8 arg9 arg10 arg11 arg12 arg13 (stAt v4 x3 x4 ⟨arg8.view.readAt (Elt F) (Rect.unit (s := S1x1024) ![0, 0] S1x1024.size inb_S1x1024_S1x1024_0_0).toLoadRect g8,
     arg9.view.readAt (Elt F) (Rect.unit (s := S144x1024) ![0, 0] S144x1024.size inb_S144x1024_S144x1024_0_0).toLoadRect g9,
     arg10.view.readAt (Elt F) (Rect.unit (s := S2x2048x1152) ![1, 0, 0] S1x2048x1024.size inb_S2x2048x1152_S1x2048x1024_1_0_0).toLoadRect g10,
     arg11.view.readAt (Elt F) (Rect.unit (s := S2x2048x1152) ![0, 0, 0] S1x2048x1024.size inb_S2x2048x1152_S1x2048x1024_0_0_0).toLoadRect g11,
     arg12.view.readAt (Elt F) (Rect.unit (s := S2x1x1024) ![1, 0, 0] S1x1x1024.size inb_S2x1x1024_S1x1x1024_1_0_0).toLoadRect g12,
     arg13.view.readAt (Elt F) (Rect.unit (s := S2x1x1024) ![0, 0, 0] S1x1x1024.size inb_S2x1x1024_S1x1x1024_0_0_0).toLoadRect g13⟩ k))
  step k _ := by
    rw [stAt, dif_pos k.isLt]
    exact trip_run c i arg2 harg2 arg3 harg3 arg4 harg4 arg5 harg5 arg6 harg6 arg7 harg7 arg8 harg8 arg9 harg9 arg10 harg10 arg11 harg11 arg12 harg12 arg13 harg13 v4 v55 k x3 x4 _

/-- The queries of the four heads, side by side. -/
def stack (x2 : Vec F S512x256 .bf16) : FVec F S128x1024 .bf16 :=
  k0_pay20 (View.ld x2 (Rect.unit (s := S512x256) ![0, 0] S128x256.size inb_S512x256_S128x256_0_0))
    (View.ld x2 (Rect.unit (s := S512x256) ![128, 0] S128x256.size inb_S512x256_S128x256_128_0))
    (View.ld x2 (Rect.unit (s := S512x256) ![256, 0] S128x256.size inb_S512x256_S128x256_256_0))
    (View.ld x2 (Rect.unit (s := S512x256) ![384, 0] S128x256.size inb_S512x256_S128x256_384_0))

/-- The greatest score with the meta block, of each query. -/
def metaTop (x2 : Vec F S512x256 .bf16) (x5 : Vec F S128x128 .bf16) : FVec F S1x1024 .f32 :=
  k0_pay23 (View.ld x2 (Rect.unit (s := S512x256) ![0, 0] S128x256.size inb_S512x256_S128x256_0_0))
    (View.ld x2 (Rect.unit (s := S512x256) ![128, 0] S128x256.size inb_S512x256_S128x256_128_0))
    (View.ld x2 (Rect.unit (s := S512x256) ![256, 0] S128x256.size inb_S512x256_S128x256_256_0))
    (View.ld x2 (Rect.unit (s := S512x256) ![384, 0] S128x256.size inb_S512x256_S128x256_384_0)) x5

/-- The accumulator of the meta block. -/
def metaAcc (x2 : Vec F S512x256 .bf16) (x5 x6 : Vec F S128x128 .bf16) : FVec F S144x1024 .f32 :=
  k0_pay24 (View.ld x2 (Rect.unit (s := S512x256) ![0, 0] S128x256.size inb_S512x256_S128x256_0_0))
    (View.ld x2 (Rect.unit (s := S512x256) ![128, 0] S128x256.size inb_S512x256_S128x256_128_0))
    (View.ld x2 (Rect.unit (s := S512x256) ![256, 0] S128x256.size inb_S512x256_S128x256_256_0))
    (View.ld x2 (Rect.unit (s := S512x256) ![384, 0] S128x256.size inb_S512x256_S128x256_384_0)) x5 x6

/-- What the loop starts from: the meta block scored and accumulated, the first chunk's weights ready, the second scored. -/
def St.init (x2 : Vec F S512x256 .bf16) (k0 k1 : Vec F S2048x128 .bf16) (x5 x6 : Vec F S128x128 .bf16) : St F :=
  let v4 := stack x2
  let m := metaTop x2 x5
  let s0 := k0_pay26 v4 k0 (constant S2048x1024 .f32 0x00000000#32)
  let mx0 := k0_pay27 v4 k0 (constant S2048x1024 .f32 0x00000000#32)
  ⟨k0_pay33 (k0_pay31 m mx0), metaAcc x2 x5 x6, k0_pay29 v4 k1, k0_pay34 (k0_pay31 m mx0) s0, k0_pay30 v4 k1, k0_pay32 m mx0⟩

/-- The accumulator at the end: the last two chunks of values, `va` and `vb`, taken in. -/
def St.last (va vb : Vec F S128x2048 .bf16) (S : St F) : Vec F S144x1024 .f32 :=
  k0_pay44 (k0_pay42 (k0_pay37 S.m S.mx) (k0_pay41 S.al S.acc va S.p)) (k0_pay43 vb) (k0_pay40 (k0_pay39 S.m S.mx S.s))

/-- One head's results: the accumulator's weighted sums over its row of weights, in the 256 columns from `o` on. -/
def part (o : ℕ) (h0 : ∀ a, (![0, o] : Fin 2 → ℕ) a + S128x256.size a ≤ S144x1024.size a) (h1 : ∀ a, (![128, o] : Fin 2 → ℕ) a + S1x256.size a ≤ S144x1024.size a)
    (acc : Vec F S144x1024 .f32) : Vec F S256x128 .bf16 :=
  k0_pay45 (View.ld acc (Rect.unit (s := S144x1024) ![0, o] S128x256.size h0)) (View.ld acc (Rect.unit (s := S144x1024) ![128, o] S1x256.size h1))

/-- The block stored: the four heads side by side. -/
def fin (acc : Vec F S144x1024 .f32) : Vec F S256x512 .bf16 :=
  quarters (part 0 inb_S144x1024_S128x256_0_0 inb_S144x1024_S1x256_128_0 acc) (part 256 inb_S144x1024_S128x256_0_256 inb_S144x1024_S1x256_128_256 acc)
    (part 512 inb_S144x1024_S128x256_0_512 inb_S144x1024_S1x256_128_512 acc) (part 768 inb_S144x1024_S128x256_0_768 inb_S144x1024_S1x256_128_768 acc)

/-- The accumulator at the end of a point, of its queries `x2`, its keys `x3` and values `x4`, and the meta block's. -/
def total (x2 : Vec F S512x256 .bf16) (x3 : Vec F S16384x128 .bf16) (x4 : Vec F S128x16384 .bf16) (x5 x6 : Vec F S128x128 .bf16) : Vec F S144x1024 .f32 :=
  St.last (View.ld x4 (Rect.unit (s := S128x16384) ![0, 12288] S128x2048.size inb_S128x16384_S128x2048_0_12288))
    (View.ld x4 (Rect.unit (s := S128x16384) ![0, 14336] S128x2048.size inb_S128x16384_S128x2048_0_14336))
    (stAt (stack x2) x3 x4 (St.init x2
      (View.ld x3 (Rect.unit (s := S16384x128) ![0, 0] S2048x128.size inb_S16384x128_S2048x128_0_0))
      (View.ld x3 (Rect.unit (s := S16384x128) ![2048, 0] S2048x128.size inb_S16384x128_S2048x128_2048_0))
      x5 x6) k0_t1_loop.trips)

/-- The block a point stores. -/
def block (x2 : Vec F S512x256 .bf16) (x3 : Vec F S16384x128 .bf16) (x4 : Vec F S128x16384 .bf16) (x5 x6 : Vec F S128x128 .bf16) : Vec F S256x512 .bf16 :=
  fin (total x2 x3 x4 x5 x6)

set_option maxHeartbeats 4000000 in
/-- The body at one point: the blocks it is handed come back, the output's holding `block` of them. -/
theorem body_run (c : Dev nD) (i : grid0.Coords) (arg2 : Memref sig .tc .vmem S512x256 .bf16) (harg2 : arg2.IsWhole) (arg3 : Memref sig .tc .vmem S16384x128 .bf16) (harg3 : arg3.IsWhole) (arg4 : Memref sig .tc .vmem S128x16384 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S256x512 .bf16) (harg7 : arg7.IsWhole) (arg8 : Memref sig .tc .vmem S1x1024 .f32) (harg8 : arg8.IsWhole) (arg9 : Memref sig .tc .vmem S144x1024 .f32) (harg9 : arg9.IsWhole) (arg10 : Memref sig .tc .vmem S2x2048x1152 .f32) (harg10 : arg10.IsWhole) (arg11 : Memref sig .tc .vmem S2x2048x1152 .bf16) (harg11 : arg11.IsWhole) (arg12 : Memref sig .tc .vmem S2x1x1024 .f32) (harg12 : arg12.IsWhole) (arg13 : Memref sig .tc .vmem S2x1x1024 .f32) (harg13 : arg13.IsWhole)
   (x2 : Vec F S512x256 .bf16) (x3 : Vec F S16384x128 .bf16) (x4 : Vec F S128x16384 .bf16) (x5 x6 : Vec F S128x128 .bf16) (K : PUnit → sProp 𝕄) :
   iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
     ∗ (∃ f, pt c arg8 f) ∗ (∃ f, pt c arg9 f) ∗ (∃ f, pt c arg10 f) ∗ (∃ f, pt c arg11 f) ∗ (∃ f, pt c arg12 f) ∗ (∃ f, pt c arg13 f)
     ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (block x2 x3 x4 x5 x6)
     ∗ (∃ f, pt c arg8 f) ∗ (∃ f, pt c arg9 f) ∗ (∃ f, pt c arg10 f) ∗ (∃ f, pt c arg11 f) ∗ (∃ f, pt c arg12 f) ∗ (∃ f, pt c arg13 f)) -∗ K ⟨⟩))
   ⊢ wp frame (wpE (defs₀ (F := F)) Variants.none c none) Set.univ (cc0_gqa_attention i arg2 harg2 arg3 harg3 arg4 harg4 arg5 harg5 arg6 harg6 arg7 harg7 arg8 harg8 arg9 harg9 arg10 harg10 arg11 harg11 arg12 harg12 arg13 harg13) K := by
  simp only [cc0_gqa_attention_eq_skeleton]; unfold cc0_gqa_attention_skel
  unfold owns
  iintro ⟨⟨%f2, %h2, H2⟩, ⟨%f3, %h3, H3⟩, ⟨%f4, %h4, H4⟩, ⟨%f5, %h5, H5⟩, ⟨%f6, %h6, H6⟩, ⟨%d7, %f7, -, H7⟩, ⟨%f8, H8⟩, ⟨%f9, H9⟩, ⟨%f10, H10⟩, ⟨%f11, H11⟩, ⟨%f12, H12⟩, ⟨%f13, H13⟩, Hk⟩
  obtain rfl := harg2.eq_unread h2; obtain rfl := harg3.eq_unread h3; obtain rfl := harg4.eq_unread h4; obtain rfl := harg5.eq_unread h5
  obtain rfl := harg6.eq_unread h6
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_quarters _ _ _ _ _ _ _ _ _ _).trans ?_
    clear * -
    unfold body_run.sl.v129 body_run.sl.v130 body_run.sl.v136 body_run.sl.v137 body_run.sl.v143 body_run.sl.v144 body_run.sl.v150 body_run.sl.v151
    unfold body_run.sl.H9_2
    refine congrArg fin ?_
    refine (View.read_writes_full _ _ _ _ _).trans ?_
    sl_unfold_run_names
    simp (disch := exact ⟨0, by decide⟩) only [readAt_whole, readAt_hit, readCov_hit, readAt_miss, readCov_miss, readAt_unread]
    have e5 : View.ld x5 (Rect.unit (s := S128x128) ![0, 0] ![128, 128] inb_S128x128_S128x128_0_0) = x5 := ld_whole x5 _
    have e6 : View.ld x6 (Rect.unit (s := S128x128) ![0, 0] ![128, 128] inb_S128x128_S128x128_0_0) = x6 := ld_whole x6 _
    rw [e5, e6]
    rfl
  isplitl [H8]; · iexists _; iexact H8
  isplitl [H9]; · iexists _; iexact H9
  isplitl [H10]; · iexists _; iexact H10
  isplitl [H11]; · iexists _; iexact H11
  isplitl [H12]; · iexists _; iexact H12
  iexists _; iexact H13

end Cert.Kernel2Ideal.Gqa

end
-- ==== Proof.GqaFrameIdeal.lean ====
/- The frame of the grouped attention call: what each point leaves in the blocks it is handed, the body's triple at a generic point,
   the run of the whole call and the theorem that it ends with its arguments unchanged and its counters at zero. -/
module

public import proofs.«01_k».proof.Proof.GqaBodyIdeal
public import Idealize.ShloMosaic.Lib.Claim

@[expose] public section

set_option maxRecDepth 16384

noncomputable section

namespace Cert.Kernel2Ideal.Gqa

open Cert.Kernel2Ideal Cert.Kernel2Ideal.Gen Cert.Reads
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer's points-to is its location's. -/
theorem pt_whole (c : Dev nD) (b : Ref sig .tc) (f : Buf (Elt F) ((Memref.whole b).view.loc (c : Thread nD τ))) :
    pt c (Memref.whole b) f = (((c : Thread nD τ).loc b) ↦{fullShare} f) := by
  unfold pt; rw [show (Memref.whole b).view.set = Finset.univ from View.set_whole b]

/-- The block of results point `t` stores. -/
def outBlk (c : Dev nD) (t : Fin cfg0.N) : Vec F S256x512 .bf16 :=
  block (iblk m c 0 t) (X0_1 m c t) (X0_2 m c t) (iblk m c 3 t) (iblk m c 4 t)

/-- The call's proof data on core `c`: its arrays as they are found, each input's block left in place, the output's at
    `outBlk`, the scratch and the generator carried at any contents, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => outBlk m c t
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-- What the body is called with at point `t`, the blocks one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body's triple at a generic point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  rw [show (dats m 0 c).leavesExact 0 t = owns (c : Thread nD τ) (st0_0 t) fullShare ((dats m 0 c).after 0 t) from by
    unfold Dat.leavesExact; rw [liveAt0_0 t], after0_0]
  rw [show (dats m 0 c).leavesExact 1 t = owns (c : Thread nD τ) (st0_1 t) fullShare ((dats m 0 c).after 1 t) from by
    unfold Dat.leavesExact; rw [liveAt0_1 t], after0_1]
  rw [show (dats m 0 c).leavesExact 2 t = owns (c : Thread nD τ) (st0_2 t) fullShare ((dats m 0 c).after 2 t) from by
    unfold Dat.leavesExact; rw [liveAt0_2 t], after0_2]
  rw [show (dats m 0 c).leavesExact 3 t = owns (c : Thread nD τ) (st0_3 t) fullShare ((dats m 0 c).after 3 t) from by
    unfold Dat.leavesExact; rw [liveAt0_3 t], after0_3]
  rw [show (dats m 0 c).leavesExact 4 t = owns (c : Thread nD τ) (st0_4 t) fullShare ((dats m 0 c).after 4 t) from by
    unfold Dat.leavesExact; rw [liveAt0_4 t], after0_4]
  rw [show (dats m 0 c).leavesExact 5 t = owns (c : Thread nD τ) (st0_5 t) fullShare ((dats m 0 c).after 5 t) from by
    unfold Dat.leavesExact; rw [liveAt0_5 t], after0_5]
  simp only [← pt_whole]
  iintro ⟨⟨⟨⟨%s0, S0⟩, ⟨%s1, S1⟩, ⟨%s2, S2⟩, ⟨%s3, S3⟩, ⟨%s4, S4⟩, ⟨%s5, S5⟩⟩, Hp⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ _ _ _ _ _ _ _ _ _ _ _ _ (iblk m c 0 t) (X0_1 m c t) (X0_2 m c t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  iintro ⟨H0, H1, H2, H3, H4, H5, ⟨%s0, S0⟩, ⟨%s1, S1⟩, ⟨%s2, S2⟩, ⟨%s3, S3⟩, ⟨%s4, S4⟩, ⟨%s5, S5⟩⟩
  isplitl [S0 S1 S2 S3 S4 S5 Hp]
  · isplitl [S0 S1 S2 S3 S4 S5]
    · isplitl [S0]; · iexists _; iexact S0
      isplitl [S1]; · iexists _; iexact S1
      isplitl [S2]; · iexists _; iexact S2
      isplitl [S3]; · iexists _; iexact S3
      isplitl [S4]; · iexists _; iexact S4
      iexists _; iexact S5
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole call: its arrays at what the blocks stored make of them, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the call ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel2Ideal.Gqa

end
-- ==== Proof.GqaBlockIdeal.lean ====
/- What one grid point of the grouped attention computes, over the extended reals: for each query of its four heads the
   weighted values over the sum of weights, the scores taken in the order of the kernel. -/
module

public import proofs.«01_k».proof.Proof.GqaBodyIdeal
public import proofs.«01_k».proof.Proof.Online
public import Idealize.ShloMosaic.Lib.Pointwise

@[expose] public section

set_option maxRecDepth 16384

noncomputable section

namespace Cert.Kernel2Ideal.Gqa

open Cert.Kernel2Ideal Cert.Kernel2Ideal.Gen Cert.Online Cert.Reads
open Idealize.ShloMosaic

theorem negInf_word : Ideal.ofBits .f32 0xFF800000#32 = ⊥ := by simp [Ideal.ofBits, Ideal.ieee]

/-- Row `r` of a block of keys, scored with query `n` of the stacked heads. -/
def rowDot {N : ℕ} (v4 : Vec Ideal S128x1024 .bf16) (k : Vec Ideal ⟨2, ![N, 128]⟩ .bf16) (r : Fin N) (n : Fin 1024) : EReal :=
  ∑ x : Fin 128, k (ix2 r x) * v4 (ix2 x n)

/-- A block of values with the rows of ones below it. -/
def withOnes {N : ℕ} (v : Vec Ideal ⟨2, ![128, N]⟩ .bf16) (d : Fin 144) (r : Fin N) : EReal :=
  if h : d.val < 128 then v (ix2 ⟨d, h⟩ r) else 1

/-- The four heads of a block of queries, stacked along the columns: column `n` is query `n % 256` of head `n / 256`. -/
theorem stack_at (x2 : Vec Ideal S512x256 .bf16) (e : Fin 128) (n : Fin 1024) :
    stack x2 (ix2 e n) = x2 (ix2 ⟨n.val / 256 * 128 + e, by omega⟩ ⟨n.val % 256, by omega⟩) := by
  unfold stack k0_pay20
  pointwise
  split_ifs <;> exact congrArg x2 (congrArg₂ ix2 (Fin.ext (by dsimp only; omega)) (Fin.ext (by dsimp only; omega)))

theorem part_at (o : ℕ) (ho : o + 256 ≤ 1024) (h0) (h1) (a : Vec Ideal S144x1024 .f32) (r : Fin 256) (d : Fin 128) :
    part o h0 h1 a (ix2 r d) = Ideal.div (a (ix2 ⟨d, by omega⟩ ⟨o + r, by omega⟩)) (a (ix2 ⟨128, by omega⟩ ⟨o + r, by omega⟩)) := by
  unfold part k0_pay45
  pointwise

/-- Column `e` of the block stored is value `e % 128` of head `e / 128`. -/
theorem fin_at (a : Vec Ideal S144x1024 .f32) (r : Fin 256) (e : Fin 512) :
    fin a (ix2 r e) = Ideal.div (a (ix2 ⟨e.val % 128, by omega⟩ ⟨e.val / 128 * 256 + r, by omega⟩))
      (a (ix2 ⟨128, by omega⟩ ⟨e.val / 128 * 256 + r, by omega⟩)) := by
  have h : e.val / 128 < 4 := by omega
  have hc : ∀ (o : ℕ) (ho : o + 256 ≤ 1024) (h0) (h1), e.val / 128 * 256 = o →
      part o h0 h1 a (ix2 r ⟨e.val % 128, by omega⟩) = Ideal.div (a (ix2 ⟨e.val % 128, by omega⟩ ⟨e.val / 128 * 256 + r, by omega⟩))
      (a (ix2 ⟨128, by omega⟩ ⟨e.val / 128 * 256 + r, by omega⟩)) := by
    rintro o ho h0 h1 rfl
    exact part_at _ ho h0 h1 a r _
  unfold fin
  obtain h | h | h | h : e.val / 128 = 0 ∨ e.val / 128 = 1 ∨ e.val / 128 = 2 ∨ e.val / 128 = 3 := by omega
  · exact (quarters_of _ 0 h).trans (hc 0 (by norm_num) _ _ (by omega))
  · exact (quarters_of _ 1 h).trans (hc 256 (by norm_num) _ _ (by omega))
  · exact (quarters_of _ 2 h).trans (hc 512 (by norm_num) _ _ (by omega))
  · exact (quarters_of _ 3 h).trans (hc 768 (by norm_num) _ _ (by omega))

variable (v4 : Vec Ideal S128x1024 .bf16) (k : Vec Ideal S2048x128 .bf16)

theorem pay2_at (r : Fin 2048) (n : Fin 1024) : k0_pay2 v4 k (ix2 r n) = rowDot v4 k r n := by
  unfold k0_pay2 rowDot
  pointwise
theorem pay12_at (r : Fin 2048) (n : Fin 1024) : k0_pay12 v4 k (ix2 r n) = rowDot v4 k r n := pay2_at v4 k r n

theorem pay3_at (r : Fin 2048) (n : Fin 1024) : k0_pay3 v4 k (ix3 0 r n) = rowDot v4 k r n := by
  unfold k0_pay3
  pointwise
  exact pay2_at ..
theorem pay13_at (r : Fin 2048) (n : Fin 1024) : k0_pay13 v4 k (ix3 0 r n) = rowDot v4 k r n := pay3_at v4 k r n
theorem pay29_at (r : Fin 2048) (n : Fin 1024) : k0_pay29 v4 k (ix3 0 r n) = rowDot v4 k r n := pay3_at v4 k r n
theorem pay26_at (r : Fin 2048) (n : Fin 1024) : k0_pay26 v4 k (constant S2048x1024 .f32 0x00000000#32) (ix3 0 r n) = rowDot v4 k r n := pay3_at v4 k r n

theorem pay4_at (n : Fin 1024) (sc : ℕ → EReal) (h : ∀ r, rowDot v4 k r n = sc r.val) : k0_pay4 v4 k (ix3 0 0 n) = top sc 2048 := by
  unfold k0_pay4
  pointwise
  rw [negInf_word]
  exact fold_max_eq_top _ sc fun r => (pay2_at v4 k r n).trans (h r)
theorem pay14_at (n : Fin 1024) (sc : ℕ → EReal) (h : ∀ r, rowDot v4 k r n = sc r.val) : k0_pay14 (k0_pay12 v4 k) (ix3 0 0 n) = top sc 2048 :=
  pay4_at v4 k n sc h
theorem pay30_at (n : Fin 1024) (sc : ℕ → EReal) (h : ∀ r, rowDot v4 k r n = sc r.val) : k0_pay30 v4 k (ix3 0 0 n) = top sc 2048 :=
  pay4_at v4 k n sc h
theorem pay27_at (n : Fin 1024) (sc : ℕ → EReal) (h : ∀ r, rowDot v4 k r n = sc r.val) :
    k0_pay27 v4 k (constant S2048x1024 .f32 0x00000000#32) (ix3 0 0 n) = top sc 2048 :=
  pay4_at v4 k n sc h

section Max

variable (m : Vec Ideal S1x1024 .f32) (mx : Vec Ideal S1x1x1024 .f32) (n : Fin 1024)

theorem pay5_at : k0_pay5 m mx (ix2 0 n) = max (m (ix2 0 n)) (mx (ix3 0 0 n)) := by
  unfold k0_pay5; pointwise
theorem pay7_at : k0_pay7 m mx (ix2 0 n) = max (m (ix2 0 n)) (mx (ix3 0 0 n)) := by
  unfold k0_pay7; pointwise; exact pay5_at m mx n
theorem pay6_at : k0_pay6 m mx (ix3 0 0 n) = Ideal.exp2 (m (ix2 0 n) - max (m (ix2 0 n)) (mx (ix3 0 0 n))) := by
  unfold k0_pay6; pointwise; rw [pay5_at]; rfl

theorem pay17_at : k0_pay17 m mx (ix2 0 n) = max (m (ix2 0 n)) (mx (ix3 0 0 n)) := pay7_at m mx n
theorem pay16_at : k0_pay16 m mx (ix3 0 0 n) = Ideal.exp2 (m (ix2 0 n) - max (m (ix2 0 n)) (mx (ix3 0 0 n))) := pay6_at m mx n

theorem pay18_at (s : Vec Ideal S1x2048x1024 .f32) (r : Fin 2048) :
    k0_pay18 m mx s (ix3 0 r n) = Ideal.exp2 (s (ix3 0 r n) - max (m (ix2 0 n)) (mx (ix3 0 0 n))) := by
  unfold k0_pay18; pointwise
  rw [show k0_pay15 m mx (ix2 0 n) = _ from pay5_at m mx n]; rfl

end Max

section Acc

variable (al : Vec Ideal S1x1x1024 .f32) (a : Vec Ideal S144x1024 .f32) (v : Vec Ideal S128x2048 .bf16) (p : Vec Ideal S1x2048x1024 .bf16)
  (d : Fin 144) (n : Fin 1024)

theorem pay11_at : k0_pay11 al a v p (ix2 d n) = al (ix3 0 0 n) * a (ix2 d n) + ∑ r : Fin 2048, withOnes v d r * p (ix3 0 r n) := by
  unfold k0_pay11 withOnes; pointwise

end Acc

section Meta

variable (w0 w1 w2 w3 : Vec Ideal S128x256 .bf16) (x5 x6 : Vec Ideal S128x128 .bf16)

theorem pay21_at (r : Fin 128) (n : Fin 1024) :
    k0_pay21 w0 w1 w2 w3 x5 (ix2 r n) = if r.val < 16 then rowDot (k0_pay20 w0 w1 w2 w3) x5 r n else ⊥ := by
  have hs : IntOp.cmpi CmpIPredicate.slt (BitVec.ofNat 32 r.val) 16#32 = if r.val < 16 then 1#1 else 0#1 := by
    revert r; decide +kernel
  unfold k0_pay21 rowDot
  generalize k0_pay20 w0 w1 w2 w3 = v4
  pointwise
  rw [negInf_word]
  simp only [hs]
  split_ifs <;> rfl

theorem pay22_at (n : Fin 1024) (sc : ℕ → EReal)
    (h : ∀ r : Fin 128, (if r.val < 16 then rowDot (k0_pay20 w0 w1 w2 w3) x5 r n else ⊥) = sc r.val) : k0_pay22 w0 w1 w2 w3 x5 (ix2 0 n) = top sc 128 := by
  unfold k0_pay22
  pointwise
  rw [negInf_word]
  exact fold_max_eq_top _ sc fun r => (pay21_at w0 w1 w2 w3 x5 r n).trans (h r)
theorem pay23_at (n : Fin 1024) (sc : ℕ → EReal)
    (h : ∀ r : Fin 128, (if r.val < 16 then rowDot (k0_pay20 w0 w1 w2 w3) x5 r n else ⊥) = sc r.val) : k0_pay23 w0 w1 w2 w3 x5 (ix2 0 n) = top sc 128 := by
  unfold k0_pay23
  pointwise
  exact pay22_at w0 w1 w2 w3 x5 n sc h

theorem pay24_at (d : Fin 144) (n : Fin 1024) (sc v : ℕ → EReal)
    (h : ∀ r : Fin 128, (if r.val < 16 then rowDot (k0_pay20 w0 w1 w2 w3) x5 r n else ⊥) = sc r.val) (hv : ∀ r : Fin 128, withOnes x6 d r = v r.val) :
    k0_pay24 w0 w1 w2 w3 x5 x6 (ix2 d n) = acc sc v 128 := by
  have e : k0_pay24 w0 w1 w2 w3 x5 x6 (ix2 d n)
      = ∑ r : Fin 128, withOnes x6 d r * Ideal.exp2 (k0_pay21 w0 w1 w2 w3 x5 (ix2 r n) - k0_pay22 w0 w1 w2 w3 x5 (ix2 0 n)) := by
    unfold k0_pay24 withOnes
    pointwise
    rfl
  rw [e, acc, ← Fin.sum_univ_eq_sum_range (fun j => Ideal.exp2 (sc j - top sc 128) * v j)]
  refine Finset.sum_congr rfl fun r _ => ?_
  rw [pay21_at, h r, hv r, pay22_at w0 w1 w2 w3 x5 n sc h, mul_comm]

end Meta

/-- What holds at query `n` before a trip: `a` scores taken into the accumulator, the next 2048 weighed and waiting, the
    2048 after them scored. -/
structure Inv (sc : ℕ → EReal) (v : Fin 144 → ℕ → EReal) (n : Fin 1024) (a : ℕ) (S : St Ideal) : Prop where
  m : S.m (ix2 0 n) = top sc (a + 2048)
  acc : ∀ d : Fin 144, S.acc (ix2 d n) = acc sc (v d) a
  al : S.al (ix3 0 0 n) = Ideal.exp2 (top sc a - top sc (a + 2048))
  p : ∀ r : Fin 2048, S.p (ix3 0 r n) = Ideal.exp2 (sc (a + r) - top sc (a + 2048))
  s : ∀ r : Fin 2048, S.s (ix3 0 r n) = sc (a + 2048 + r)
  mx : S.mx (ix3 0 0 n) = top (fun i => sc (a + 2048 + i)) 2048

/-- One chunk's step of the accumulator, as the kernel writes it. -/
theorem acc_step (sc v : ℕ → EReal) (a : ℕ) {al b : EReal} {w p : Fin 2048 → EReal} (hal : al = Ideal.exp2 (top sc a - top sc (a + 2048)))
    (hb : b = acc sc v a) (hw : ∀ r : Fin 2048, w r = v (a + r)) (hp : ∀ r : Fin 2048, p r = Ideal.exp2 (sc (a + r) - top sc (a + 2048))) :
    al * b + ∑ r : Fin 2048, w r * p r = acc sc v (a + 2048) := by
  rw [← acc_add, hal, hb, ← Fin.sum_univ_eq_sum_range (fun i => Ideal.exp2 (sc (a + i) - top sc (a + 2048)) * v (a + i))]
  congr 1
  exact Finset.sum_congr rfl fun r _ => by rw [hw, hp, mul_comm]

theorem Inv.next {sc : ℕ → EReal} {v : Fin 144 → ℕ → EReal} {n : Fin 1024} {a : ℕ} {S : St Ideal} (h : Inv sc v n a S)
    {ka kb : Vec Ideal S2048x128 .bf16} {va vb : Vec Ideal S128x2048 .bf16}
    (ha : ∀ r, rowDot v4 ka r n = sc (a + 4096 + r)) (hb : ∀ r, rowDot v4 kb r n = sc (a + 4096 + 2048 + r))
    (hva : ∀ d r, withOnes va d r = v d (a + r)) (hvb : ∀ d r, withOnes vb d r = v d (a + 2048 + r)) :
    Inv sc v n (a + 4096) (S.next v4 ka kb va vb) := by
  have hm1 : k0_pay7 S.m S.mx (ix2 0 n) = top sc (a + 4096) := by
    rw [pay7_at, h.m, h.mx, ← top_add]
  have hma : k0_pay4 v4 ka (ix3 0 0 n) = top (fun i => sc (a + 4096 + i)) 2048 := pay4_at v4 ka n _ ha
  have ht : max (top sc (a + 4096)) (top (fun i => sc (a + 4096 + i)) 2048) = top sc (a + 4096 + 2048) := (top_add sc (a + 4096) 2048).symm
  have ht' : max (top sc (a + 2048)) (top (fun i => sc (a + 2048 + i)) 2048) = top sc (a + 2048 + 2048) := (top_add sc (a + 2048) 2048).symm
  refine ⟨?_, fun d => ?_, ?_, fun r => ?_, fun r => ?_, ?_⟩
  · dsimp only [St.next]
    rw [pay17_at, hm1, hma, ht]
  · refine (pay11_at (k0_pay6 S.m S.mx) (k0_pay11 S.al S.acc va S.p) vb (k0_pay18 S.m S.mx S.s) d n).trans ?_
    refine acc_step sc (v d) (a + 2048) ?_ ?_ (hvb d) fun r => ?_
    · rw [pay6_at, h.m, h.mx, ht']
    · exact (pay11_at _ _ va _ d n).trans (acc_step sc (v d) a h.al (h.acc d) (hva d) h.p)
    · rw [pay18_at, h.m, h.mx, ht', h.s]
  · dsimp only [St.next]
    rw [pay16_at, hm1, hma, ht]
  · dsimp only [St.next]
    rw [pay18_at, hm1, hma, ht, pay3_at, ha]
  · exact (pay13_at v4 kb r n).trans (hb r)
  · dsimp only [St.next]
    exact pay14_at v4 kb n (fun i => sc (a + 4096 + 2048 + i)) hb

theorem Inv.init {sc : ℕ → EReal} {v : Fin 144 → ℕ → EReal} {n : Fin 1024} (x2 : Vec Ideal S512x256 .bf16)
    {k0 k1 : Vec Ideal S2048x128 .bf16} {x5 x6 : Vec Ideal S128x128 .bf16}
    (hm : ∀ r : Fin 128, (if r.val < 16 then rowDot (stack x2) x5 r n else ⊥) = sc r.val)
    (hv : ∀ d (r : Fin 128), withOnes x6 d r = v d r.val)
    (h0 : ∀ r, rowDot (stack x2) k0 r n = sc (128 + r)) (h1 : ∀ r, rowDot (stack x2) k1 r n = sc (128 + 2048 + r)) :
    Inv sc v n 128 (St.init x2 k0 k1 x5 x6) := by
  have em : metaTop x2 x5 (ix2 0 n) = top sc 128 := pay23_at _ _ _ _ x5 n sc hm
  have e0 := pay27_at (stack x2) k0 n (fun i => sc (128 + i)) h0
  have ht := (top_add sc 128 2048).symm
  refine ⟨?_, fun d => ?_, ?_, fun r => ?_, fun r => ?_, ?_⟩
  · exact (pay7_at (metaTop x2 x5) _ n).trans (by rw [em, e0, ht])
  · exact pay24_at _ _ _ _ x5 x6 d n sc (v d) hm (hv d)
  · exact (pay6_at (metaTop x2 x5) _ n).trans (by rw [em, e0, ht])
  · exact (pay18_at (metaTop x2 x5) _ n _ r).trans (by rw [em, e0, ht, pay26_at, h0])
  · exact (pay29_at (stack x2) k1 r n).trans (h1 r)
  · dsimp only [St.init]
    exact pay30_at (stack x2) k1 n (fun i => sc (128 + 2048 + i)) h1

theorem Inv.last {sc : ℕ → EReal} {v : Fin 144 → ℕ → EReal} {n : Fin 1024} {a : ℕ} {S : St Ideal} (h : Inv sc v n a S)
    {va vb : Vec Ideal S128x2048 .bf16}
    (hva : ∀ d r, withOnes va d r = v d (a + r)) (hvb : ∀ d r, withOnes vb d r = v d (a + 2048 + r)) (d : Fin 144) :
    S.last va vb (ix2 d n) = Online.acc sc (v d) (a + 2048 + 2048) := by
  have ht' : max (top sc (a + 2048)) (top (fun i => sc (a + 2048 + i)) 2048) = top sc (a + 2048 + 2048) := (top_add sc (a + 2048) 2048).symm
  refine (pay11_at (k0_pay6 S.m S.mx) (k0_pay11 S.al S.acc va S.p) vb (k0_pay18 S.m S.mx S.s) d n).trans ?_
  refine acc_step sc (v d) (a + 2048) ?_ ?_ (hvb d) fun r => ?_
  · rw [pay6_at, h.m, h.mx, ht']
  · exact (pay11_at _ _ va _ d n).trans (acc_step sc (v d) a h.al (h.acc d) (hva d) h.p)
  · rw [pay18_at, h.m, h.mx, ht', h.s]

/-- The kernel's `j`-th score of query `n`: the meta block's 16 keys, its 112 masked rows, then the 16384 keys. -/
def score (x5 : Vec Ideal S128x128 .bf16) (x3 : Vec Ideal S16384x128 .bf16) (n : Fin 1024) (j : ℕ) : EReal :=
  if h : j < 128 then (if j < 16 then rowDot v4 x5 ⟨j, h⟩ n else ⊥)
  else if h : j - 128 < 16384 then rowDot v4 x3 ⟨j - 128, h⟩ n else ⊥

/-- The value of row `d` that goes with the `j`-th score. -/
def value (x6 : Vec Ideal S128x128 .bf16) (x4 : Vec Ideal S128x16384 .bf16) (d : Fin 144) (j : ℕ) : EReal :=
  if h : j < 128 then withOnes x6 d ⟨j, h⟩ else if h : j - 128 < 16384 then withOnes x4 d ⟨j - 128, h⟩ else 0

theorem rowDot_ld (x3 : Vec Ideal S16384x128 .bf16) (x5 : Vec Ideal S128x128 .bf16) (o : ℕ) {off : Fin 2 → ℕ} (inb)
    (h : off = ![o, 0]) (r : Fin 2048) (n : Fin 1024) :
    rowDot v4 (View.ld x3 (Rect.unit (s := S16384x128) off S2048x128.size inb)) r n = score v4 x5 x3 n (128 + o + r) := by
  subst h
  have hb : o + 2048 ≤ 16384 := inb 0
  have e : 128 + o + r.val - 128 = o + r.val := by omega
  rw [score, dif_neg (by omega), dif_pos (by omega)]
  unfold rowDot
  have hr : (⟨128 + o + r.val - 128, by omega⟩ : Fin 16384) = ⟨o + r.val, by omega⟩ := Fin.ext e
  rw [hr]
  have hl : ∀ (x : Vec Ideal S16384x128 .bf16) (y : Fin 128),
      View.ld x (Rect.unit (s := S16384x128) ![o, 0] S2048x128.size inb) (ix2 r y) = x (ix2 (⟨o + r.val, by omega⟩ : Fin 16384) y) := by
    intro x y
    refine congrArg x (funext fun a => Fin.ext ?_)
    revert a
    refine Fin.forall_fin_two.mpr ⟨?_, ?_⟩
    · show o + 1 * r.val = o + r.val
      omega
    · show 0 + 1 * y.val = y.val
      omega
  exact Finset.sum_congr rfl fun x _ => congrArg (· * _) (hl x3 x)

theorem withOnes_ld (x4 : Vec Ideal S128x16384 .bf16) (x6 : Vec Ideal S128x128 .bf16) (o : ℕ) {off : Fin 2 → ℕ} (inb)
    (h : off = ![0, o]) (d : Fin 144) (r : Fin 2048) :
    withOnes (View.ld x4 (Rect.unit (s := S128x16384) off S128x2048.size inb)) d r = value x6 x4 d (128 + o + r) := by
  subst h
  have hb : o + 2048 ≤ 16384 := inb 1
  have e : 128 + o + r.val - 128 = o + r.val := by omega
  rw [value, dif_neg (by omega), dif_pos (by omega)]
  unfold withOnes
  have hr : (⟨128 + o + r.val - 128, by omega⟩ : Fin 16384) = ⟨o + r.val, by omega⟩ := Fin.ext e
  rw [hr]
  split_ifs with hd
  · refine congrArg x4 (funext fun a => Fin.ext ?_)
    revert a
    refine Fin.forall_fin_two.mpr ⟨?_, ?_⟩
    · show 0 + 1 * d.val = d.val
      omega
    · show o + 1 * r.val = o + r.val
      omega
  · rfl

theorem off1_eq (k : Fin k0_t1_loop.trips) (r : Fin 2) : k0_off1 k (BitVec.ofNat 32 (2 + r.val)) = ![4096 + 4096 * k.val + 2048 * r.val, 0] := by
  revert k r; decide +kernel
theorem off2_eq (k : Fin k0_t1_loop.trips) : k0_off2 k = ![0, 4096 * k.val] := by
  revert k; decide +kernel
theorem off3_eq (k : Fin k0_t1_loop.trips) : k0_off3 k = ![0, 2048 + 4096 * k.val] := by
  revert k; decide +kernel

variable (x3 : Vec Ideal S16384x128 .bf16) (x4 : Vec Ideal S128x16384 .bf16) (x5 x6 : Vec Ideal S128x128 .bf16)

/-- What holds before every trip. -/
theorem inv_at (S : St Ideal) (n : Fin 1024) (h : Inv (score v4 x5 x3 n) (value x6 x4) n 128 S) (k : ℕ) (hk : k ≤ k0_t1_loop.trips) :
    Inv (score v4 x5 x3 n) (value x6 x4) n (128 + 4096 * k) (stAt v4 x3 x4 S k) := by
  induction k with
  | zero => exact h
  | succ k ih =>
    have ih := ih (Nat.le_of_succ_le hk)
    rw [stAt, dif_pos (show k < k0_t1_loop.trips from hk)]
    refine (?_ : 128 + 4096 * (k + 1) = 128 + 4096 * k + 4096) ▸ Inv.next v4 ih (fun r => ?_) (fun r => ?_) (fun d r => ?_) (fun d r => ?_)
    · ring
    · exact (rowDot_ld v4 x3 x5 _ _ (off1_eq ⟨k, hk⟩ 0) r n).trans (congrArg _ (by simp; ring))
    · exact (rowDot_ld v4 x3 x5 _ _ (off1_eq ⟨k, hk⟩ 1) r n).trans (congrArg _ (by simp; ring))
    · exact (withOnes_ld x4 x6 _ _ (off2_eq ⟨k, hk⟩) d r).trans (congrArg _ (by simp))
    · exact (withOnes_ld x4 x6 _ _ (off3_eq ⟨k, hk⟩) d r).trans (congrArg _ (by simp; ring))

/-- The accumulator at the end of a point: row `d`'s weighted sum over every score of query `n`. -/
theorem total_at (x2 : Vec Ideal S512x256 .bf16) (n : Fin 1024) (d : Fin 144) :
    total x2 x3 x4 x5 x6 (ix2 d n) = acc (score (stack x2) x5 x3 n) (value x6 x4 d) 16512 := by
  have h0 : Inv (score (stack x2) x5 x3 n) (value x6 x4) n 128 (St.init x2 (View.ld x3 (Rect.unit (s := S16384x128) ![0, 0] S2048x128.size inb_S16384x128_S2048x128_0_0))
      (View.ld x3 (Rect.unit (s := S16384x128) ![2048, 0] S2048x128.size inb_S16384x128_S2048x128_2048_0)) x5 x6) := by
    refine Inv.init x2 (fun r => ?_) (fun d r => ?_) (fun r => ?_) fun r => ?_
    · rw [score, dif_pos r.isLt]
    · rw [value, dif_pos r.isLt]
    · exact rowDot_ld (stack x2) x3 x5 0 _ rfl r n
    · exact rowDot_ld (stack x2) x3 x5 2048 _ rfl r n
  have h3 := inv_at (stack x2) x3 x4 x5 x6 _ n h0 k0_t1_loop.trips le_rfl
  exact h3.last (va := View.ld x4 (Rect.unit (s := S128x16384) ![0, 12288] S128x2048.size inb_S128x16384_S128x2048_0_12288))
    (vb := View.ld x4 (Rect.unit (s := S128x16384) ![0, 14336] S128x2048.size inb_S128x16384_S128x2048_0_14336))
    (fun d r => withOnes_ld x4 x6 12288 _ rfl d r) (fun d r => withOnes_ld x4 x6 14336 _ rfl d r) d

/-- The block a grid point stores: each query's weighted values over its sum of weights, head by head. -/
theorem block_at (x2 : Vec Ideal S512x256 .bf16) (r : Fin 256) (e : Fin 512) :
    block x2 x3 x4 x5 x6 (ix2 r e)
      = Ideal.div (acc (score (stack x2) x5 x3 ⟨e.val / 128 * 256 + r, by omega⟩) (value x6 x4 ⟨e.val % 128, by omega⟩) 16512)
          (acc (score (stack x2) x5 x3 ⟨e.val / 128 * 256 + r, by omega⟩) (value x6 x4 ⟨128, by omega⟩) 16512) := by
  unfold block
  rw [fin_at, total_at, total_at]

end Cert.Kernel2Ideal.Gqa

end
-- ==== Proof.GqaAttention.lean ====
/- The grouped attention over 16400 keys, as a function of its three arrays: eight heads of queries over two heads of keys and
   values, every element the weighted values over the sum of weights. -/
module

public import proofs.«01_k».proof.Proof.MlaAttention

@[expose] public section

noncomputable section

namespace Cert.Grouped

open Cert.Online Cert.Attention
open Idealize.ShloMosaic

variable (A0 : Vec Ideal ⟨2, ![1024, 16640]⟩ .bf16) (A1 : Vec Ideal ⟨2, ![16640, 256]⟩ .bf16) (A2 : Vec Ideal ⟨2, ![256, 16640]⟩ .bf16)

/-- The score of query `q` of head `h` with key `k`: four heads share a head of keys. -/
def score (q : Fin 16640) (h : Fin 8) (k : ℕ) : EReal :=
  if hk : k < 16640 then ∑ x : Fin 128, A0 (ix2 ⟨h.val * 128 + x, by omega⟩ q) * A1 (ix2 ⟨k, hk⟩ ⟨h.val / 4 * 128 + x, by omega⟩) else 0

/-- Of the values of key `k`, the one that element `e` of a result weighs. -/
def value (e : Fin 1024) (k : ℕ) : EReal := if hk : k < 16640 then A2 (ix2 ⟨e.val / 512 * 128 + e.val % 128, by omega⟩ ⟨k, hk⟩) else 0

/-- The attention. -/
def attn (q : Fin 16640) (e : Fin 1024) : EReal :=
  Ideal.div (acc (score A0 A1 q ⟨e.val / 128, by omega⟩) (value A2 e) 16400) (acc (score A0 A1 q ⟨e.val / 128, by omega⟩) (fun _ => 1) 16400)

/-- Real queries and keys have real scores. -/
theorem score_real (h0 : ∀ i, ∃ x : ℝ, A0 i = x) (h1 : ∀ i, ∃ x : ℝ, A1 i = x) (q : Fin 16640) (h : Fin 8) (k : ℕ) :
    ∃ x : ℝ, score A0 A1 q h k = x := by
  unfold score
  split_ifs
  · exact sum_real _ _ fun x => mul_real (h0 _) (h1 _)
  · exact ⟨0, rfl⟩

end Cert.Grouped

end
-- ==== Proof.GqaArrayIdeal.lean ====
/- The grouped attention call over its arrays: every element of the result as the weighted values over the sum of weights, in the order in
   which the call takes the keys. -/
module

public import proofs.«01_k».proof.Proof.GqaFrameIdeal
public import proofs.«01_k».proof.Proof.GqaBlockIdeal
public import proofs.«01_k».proof.Proof.GqaAttention
public import Idealize.ShloMosaic.Lib.Pipeline.ValueKit

@[expose] public section

set_option maxRecDepth 16384

noncomputable section

namespace Cert.Kernel2Ideal.Gqa

open Cert.Kernel2Ideal Cert.Kernel2Ideal.Gen Cert.Reads Cert.Online
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The head of keys and the block of queries of a grid point. -/
abbrev hd (t : Fin cfg0.N) : ℕ := (grid0.coords t 0).val
abbrev qb (t : Fin cfg0.N) : ℕ := (grid0.coords t 1).val

theorem hd_lt : ∀ t : Fin cfg0.N, hd t < 2 := by decide +kernel
theorem qb_lt : ∀ t : Fin cfg0.N, qb t < 65 := by decide +kernel

theorem idx0 : ∀ t : Fin cfg0.N, win0_0.index t = ![hd t, qb t] := by decide +kernel
theorem idx1 : ∀ t : Fin cfg0.N, win0_1.index t = ![0, hd t] := by decide +kernel
theorem idx2 : ∀ t : Fin cfg0.N, win0_2.index t = ![hd t, 0] := by decide +kernel
theorem idx3 : ∀ t : Fin cfg0.N, win0_3.index t = ![128, hd t] := by decide +kernel
theorem idx4 : ∀ t : Fin cfg0.N, win0_4.index t = ![hd t, 128] := by decide +kernel
theorem idx5 : ∀ t : Fin cfg0.N, win0_5.index t = ![qb t, hd t] := by decide +kernel

theorem blk0 (c : Dev nD) (t : Fin cfg0.N) (e : Fin 512) (n : Fin 256) :
    (iblk m c 0 t : Vec Ideal S512x256 .bf16) (ix2 e n) = V m c main_arg0 (ix2 ⟨hd t * 512 + e, by have := hd_lt t; omega⟩ ⟨qb t * 256 + n, by have := qb_lt t; omega⟩) := by
  blk_simp [iblk, idx0]
  blk_ext [idx0]

theorem blk3 (c : Dev nD) (t : Fin cfg0.N) (e : Fin 128) (n : Fin 128) :
    (iblk m c 3 t : Vec Ideal S128x128 .bf16) (ix2 e n) = V m c main_arg1 (ix2 ⟨16384 + e, by omega⟩ ⟨hd t * 128 + n, by have := hd_lt t; omega⟩) := by
  blk_simp [iblk, idx3]
  blk_ext [idx3]

theorem blk4 (c : Dev nD) (t : Fin cfg0.N) (e : Fin 128) (n : Fin 128) :
    (iblk m c 4 t : Vec Ideal S128x128 .bf16) (ix2 e n) = V m c main_arg2 (ix2 ⟨hd t * 128 + e, by have := hd_lt t; omega⟩ ⟨16384 + n, by omega⟩) := by
  blk_simp [iblk, idx4]
  blk_ext [idx4]

theorem blk1 (c : Dev nD) (t : Fin cfg0.N) (e : Fin 16384) (n : Fin 128) :
    (X0_1 m c t : Vec Ideal S16384x128 .bf16) (ix2 e n) = V m c main_arg1 (ix2 ⟨e, by omega⟩ ⟨hd t * 128 + n, by have := hd_lt t; omega⟩) := by
  unfold X0_1 Window.fill
  rw [dif_pos (moved0_1 t _)]
  blk_simp [iblk]
  refine congrArg (V m c main_arg1) (funext fun a => Fin.ext ?_)
  rw [show (((win0_1.blk t).view.emb _) a : ℕ) = win0_1.index t a * win0_1.size a + (ix2 e n a : ℕ) from win0_1.rect_emb_val_off t _ a, idx1]
  match a with
  | ⟨0, _⟩ => simp [ix2]
  | ⟨1, _⟩ => simp [ix2]

theorem blk2 (c : Dev nD) (t : Fin cfg0.N) (e : Fin 128) (n : Fin 16384) :
    (X0_2 m c t : Vec Ideal S128x16384 .bf16) (ix2 e n) = V m c main_arg2 (ix2 ⟨hd t * 128 + e, by have := hd_lt t; omega⟩ ⟨n, by omega⟩) := by
  unfold X0_2 Window.fill
  rw [dif_pos (moved0_2 t _)]
  blk_simp [iblk]
  refine congrArg (V m c main_arg2) (funext fun a => Fin.ext ?_)
  rw [show (((win0_2.blk t).view.emb _) a : ℕ) = win0_2.index t a * win0_2.size a + (ix2 e n a : ℕ) from win0_2.rect_emb_val_off t _ a, idx2]
  match a with
  | ⟨0, _⟩ => simp [ix2]
  | ⟨1, _⟩ => simp [ix2]

/-- A stacked query's product with a row of keys of its group, read off the arrays. -/
theorem product_eq (c : Dev nD) (t : Fin cfg0.N) (n : Fin 1024) {N : ℕ} (k : Vec Ideal ⟨2, ![N, 128]⟩ .bf16) (r : Fin N) (j : Fin 16640)
    (hk : ∀ x : Fin 128, k (ix2 r x) = V m c main_arg1 (ix2 j ⟨hd t * 128 + x, by have := hd_lt t; omega⟩)) :
    rowDot (stack (iblk m c 0 t)) k r n = Grouped.score (V m c main_arg0) (V m c main_arg1)
      ⟨qb t * 256 + n.val % 256, by have := qb_lt t; omega⟩ ⟨hd t * 4 + n.val / 256, by have := hd_lt t; omega⟩ j.val := by
  unfold rowDot Grouped.score
  rw [dif_pos j.isLt]
  refine Finset.sum_congr rfl fun x _ => ?_
  rw [mul_comm, stack_at, blk0, hk]
  refine congrArg₂ (· * ·) (congrArg (V m c main_arg0) (congrArg₂ ix2 (Fin.ext ?_) rfl)) (congrArg (V m c main_arg1) (congrArg₂ ix2 rfl (Fin.ext ?_)))
  · dsimp only; omega
  · dsimp only; omega

/-- The scores of a point's block are the array's, in the order in which the call takes the keys. -/
theorem score_eq (c : Dev nD) (t : Fin cfg0.N) (n : Fin 1024) (j : ℕ) (hj : j < 128 + 16384) :
    score (stack (iblk m c 0 t)) (iblk m c 3 t) (X0_1 m c t) n j
      = rolled 128 16 16384 ⊥ (Grouped.score (V m c main_arg0) (V m c main_arg1)
          ⟨qb t * 256 + n.val % 256, by have := qb_lt t; omega⟩ ⟨hd t * 4 + n.val / 256, by have := hd_lt t; omega⟩) j := by
  unfold score rolled
  rcases lt_or_ge j 128 with h | h
  · rw [dif_pos h, if_pos h]
    split_ifs with h1
    · exact product_eq m c t n _ _ ⟨16384 + j, by omega⟩ fun x => blk3 m c t ⟨j, h⟩ x
    · rfl
  · rw [dif_neg (by omega), dif_pos (by omega), if_neg (by omega)]
    exact product_eq m c t n _ _ ⟨j - 128, by omega⟩ fun x => blk1 m c t ⟨j - 128, by omega⟩ x

/-- So are the values, and the row of ones below them. -/
theorem value_eq (c : Dev nD) (t : Fin cfg0.N) (e : Fin 512) :
    (∀ j, j < 16 → value (iblk m c 4 t) (X0_2 m c t) ⟨e.val % 128, by omega⟩ j
      = Grouped.value (V m c main_arg2) ⟨hd t * 512 + e, by have := hd_lt t; omega⟩ (16384 + j))
    ∧ ∀ j, j < 16384 → value (iblk m c 4 t) (X0_2 m c t) ⟨e.val % 128, by omega⟩ (128 + j)
      = Grouped.value (V m c main_arg2) ⟨hd t * 512 + e, by have := hd_lt t; omega⟩ j := by
  have hd' : e.val % 128 < 128 := by omega
  constructor <;> intro j hj
  · rw [value, dif_pos (by omega), withOnes, dif_pos hd', Grouped.value, dif_pos (by omega), blk4]
    exact congrArg (V m c main_arg2) (congrArg₂ ix2 (Fin.ext (by dsimp only; omega)) rfl)
  · rw [value, dif_neg (by omega), dif_pos (by omega), withOnes, dif_pos hd', Grouped.value, dif_pos (by omega), blk2]
    exact congrArg (V m c main_arg2) (congrArg₂ ix2 (Fin.ext (by dsimp only; omega)) (Fin.ext (by dsimp only; omega)))

theorem ones_eq (c : Dev nD) (t : Fin cfg0.N) (j : ℕ) (hj : j < 128 + 16384) :
    value (iblk m c 4 t) (X0_2 m c t) ⟨128, by omega⟩ j = 1 := by
  rw [value]
  split_ifs
  · rw [withOnes, dif_neg (by simp)]
  · rw [withOnes, dif_neg (by simp)]
  · omega

/-- A point's block of results is its block of the attention. -/
theorem outBlk_at (c : Dev nD) (t : Fin cfg0.N) (r : Fin 256) (e : Fin 512) :
    outBlk m c t (ix2 r e) = Grouped.attn (V m c main_arg0) (V m c main_arg1) (V m c main_arg2)
      ⟨qb t * 256 + r, by have := qb_lt t; omega⟩ ⟨hd t * 512 + e, by have := hd_lt t; omega⟩ := by
  have hq : (⟨qb t * 256 + (e.val / 128 * 256 + r.val) % 256, by have := qb_lt t; omega⟩ : Fin 16640) = ⟨qb t * 256 + r, by have := qb_lt t; omega⟩ :=
    Fin.ext (by dsimp only; omega)
  have hh : (⟨hd t * 4 + (e.val / 128 * 256 + r.val) / 256, by have := hd_lt t; omega⟩ : Fin 8) = ⟨(hd t * 512 + e.val) / 128, by have := hd_lt t; omega⟩ :=
    Fin.ext (by dsimp only; omega)
  have hs := fun j hj => score_eq m c t ⟨e.val / 128 * 256 + r, by omega⟩ j hj
  simp only [hq, hh] at hs
  have hv := value_eq m c t e
  have h1 := (acc_congr hs fun _ _ => rfl).trans (acc_rolled (by norm_num) (Grouped.score (V m c main_arg0) (V m c main_arg1)
          ⟨qb t * 256 + r, by have := qb_lt t; omega⟩ ⟨(hd t * 512 + e.val) / 128, by have := hd_lt t; omega⟩) _ _ hv.1 hv.2)
  have h2 := (acc_congr hs fun j hj => ones_eq m c t j hj).trans (acc_rolled (by norm_num) (Grouped.score (V m c main_arg0) (V m c main_arg1)
          ⟨qb t * 256 + r, by have := qb_lt t; omega⟩ ⟨(hd t * 512 + e.val) / 128, by have := hd_lt t; omega⟩) (fun _ => 1) (fun _ => 1) (fun _ _ => rfl) fun _ _ => rfl)
  rw [outBlk, block_at, Grouped.attn]
  exact congrArg₂ Ideal.div h1 h2

/-- The array of results. -/
def G (c : Dev nD) : Vec Ideal S16640x1024 .bf16 := fun i =>
  Grouped.attn (V m c main_arg0) (V m c main_arg1) (V m c main_arg2) (i 0) (i 1)

theorem final (c : Dev nD) : (dats m 0 c).arrAt 5 cfg0.N = G m c := by
  refine (dats m 0 c).arrAt_eq_of_covers 5 _ (by decide +kernel) fun t hf y => ?_
  blk_simp
  rw [after0_5]
  have e0 : (((win0_5.blk t).view.emb y) 0 : ℕ) = qb t * 256 + (y 0 : ℕ) := by
    rw [show (((win0_5.blk t).view.emb y) 0 : ℕ) = win0_5.index t 0 * win0_5.size 0 + (y 0 : ℕ) from win0_5.rect_emb_val_off t y 0, idx5]; rfl
  have e1 : (((win0_5.blk t).view.emb y) 1 : ℕ) = hd t * 512 + (y 1 : ℕ) := by
    rw [show (((win0_5.blk t).view.emb y) 1 : ℕ) = win0_5.index t 1 * win0_5.size 1 + (y 1 : ℕ) from win0_5.rect_emb_val_off t y 1, idx5]; rfl
  refine (congrArg (outBlk m c t) (eq_ix2 (n0 := 256) (n1 := 512) y)).trans ((outBlk_at m c t (y 0) (y 1)).trans ?_)
  exact congrArg₂ (Grouped.attn _ _ _) (Fin.ext e0.symm) (Fin.ext e1.symm)

end Cert.Kernel2Ideal.Gqa

end
-- ==== Proof.GqaRefIdeal.lean ====
/- The plain grouped attention is the grouped attention over 16400 keys, where queries and keys are real. -/
module

public import proofs.«01_k».proof.Proof.GqaAttention
public import proofs.«01_k».proof.Proof.Gen.Reference2Ideal.Run
public import Idealize.ShloMosaic.Lib.Pointwise
public import Idealize.ShloMosaic.Lib.Tactic.CleanTypes

@[expose] public section

set_option maxRecDepth 16384

noncomputable section

namespace Cert.Reference2Ideal.Gqa

open Cert.Reference2Ideal Cert.Reference2Ideal.Gen Cert.Reference2Ideal.Facts Cert.Online Cert.Grouped
open Idealize.ShloMosaic Idealize.ShloMosaic.TcCoe Idealize.ShloMosaic.Tactic

variable (A0 : FVec Ideal S1024x16640 .bf16) (A1 : FVec Ideal S16640x256 .bf16) (A2 : FVec Ideal S256x16640 .bf16)

/-- The queries, head by head, the four heads of a group together. -/
def queries : FVec Ideal S16640x2x4x128 .bf16 :=
  shapeCast _ (transpose S16640x1024 [1, 0] A0 transposes_S1024x16640_S16640x1024_1_0) shapeCasts_S16640x1024_S16640x2x4x128

/-- The keys, head by head. -/
def keys : FVec Ideal S16400x2x128 .bf16 :=
  shapeCast _ (extractStridedSlice S16400x256 ![0, 0] A1 slices_S16640x256_S16400x256_0_0) shapeCasts_S16400x256_S16400x2x128

/-- The values, head by head. -/
def values : FVec Ideal S16400x2x128 .bf16 :=
  shapeCast _ (transpose S16400x256 [1, 0] (extractStridedSlice S256x16400 ![0, 0] A2 slices_S256x16640_S256x16400_0_0) transposes_S256x16400_S16400x256_1_0) shapeCasts_S16400x256_S16400x2x128

/-- The products of queries and keys. -/
def products (Q : FVec Ideal S16640x2x4x128 .bf16) (K : FVec Ideal S16400x2x128 .bf16) : FVec Ideal S2x4x16640x16400 .f32 :=
  transpose S2x4x16640x16400 [0, 3, 2, 1] (Host.dotGeneral dot_S16400x2x128_S16640x2x4x128_S2x16400x16640x4_2_3_0_02_1_1 none K Q) transposes_S2x16400x16640x4_S2x4x16640x16400_0_3_2_1

/-- The scores. -/
def scores (Q : FVec Ideal S16640x2x4x128 .bf16) (K : FVec Ideal S16400x2x128 .bf16) : FVec Ideal S2x4x16640x16400 .f32 :=
  mulf (products Q K) (broadcastInDim S2x4x16640x16400 ![] bcast_S_S2x4x16640x16400 (Host.log (constant S_ .f32 0x40000000#32)))

/-- A number for each query, beside each of its keys. -/
def along (X : FVec Ideal S2x4x16640 .f32) : FVec Ideal S2x4x16640x16400 .f32 :=
  broadcastInDim S2x4x16640x16400 ![0, 1, 2, 3] bcast_S2x4x16640x1_S2x4x16640x16400_0_1_2_3 (broadcastInDim S2x4x16640x1 ![0, 1, 2] bcast_S2x4x16640_S2x4x16640x1_0_1_2 X)

/-- The greatest score of each query. -/
def greatest (S : FVec Ideal S2x4x16640x16400 .f32) : FVec Ideal S2x4x16640 .f32 :=
  maximumf (broadcastInDim S2x4x16640 ![] bcast_S_S2x4x16640 (constant S_ .f32 0xFF800000#32)) (Host.reduce FloatOps.maximumf S (constant S_ .f32 0xFF800000#32) reducesTo_S2x4x16640x16400_S2x4x16640_d3 h_S_)

/-- The exponentials. -/
def expos (S : FVec Ideal S2x4x16640x16400 .f32) : FVec Ideal S2x4x16640x16400 .f32 := Host.exp (subf S (along (greatest S)))

/-- The weights. -/
def weights (E : FVec Ideal S2x4x16640x16400 .f32) : FVec Ideal S2x4x16640x16400 .bf16 :=
  truncf .bf16 (Host.divf E (along (Host.reduceAdd E (constant S_ .f32 0x00000000#32) reducesTo_S2x4x16640x16400_S2x4x16640_d3 h_S_))) bitsLt_bf16_f32

/-- The weighted values, the heads side by side. -/
def weighted (W : FVec Ideal S2x4x16640x16400 .bf16) (X : FVec Ideal S16400x2x128 .bf16) : FVec Ideal S16640x1024 .bf16 :=
  shapeCast _ (truncf .bf16 (transpose S16640x2x4x128 [3, 0, 2, 1] (Host.dotGeneral dot_S16400x2x128_S2x4x16640x16400_S2x128x4x16640_0_3_2_12_1_0 none X W) transposes_S2x128x4x16640_S16640x2x4x128_3_0_2_1) bitsLt_bf16_f32) shapeCasts_S16640x2x4x128_S16640x1024

theorem queries_at (q : Fin 16640) (h : Fin 2) (u : Fin 4) (x : Fin 128) :
    queries A0 (ix4 q h u x) = A0 (ix2 ⟨(h.val * 4 + u) * 128 + x, by omega⟩ q) := by
  unfold queries; pointwise
  exact congrArg A0 (congrArg₂ ix2 (Fin.ext (by dsimp only; omega)) rfl)

theorem keys_at (k : Fin 16400) (h : Fin 2) (x : Fin 128) : keys A1 (ix3 k h x) = A1 (ix2 ⟨k, by omega⟩ ⟨h.val * 128 + x, by omega⟩) := by
  unfold keys; pointwise

theorem values_at (k : Fin 16400) (h : Fin 2) (x : Fin 128) : values A2 (ix3 k h x) = A2 (ix2 ⟨h.val * 128 + x, by omega⟩ ⟨k, by omega⟩) := by
  unfold values; pointwise

theorem products_at (Q : FVec Ideal S16640x2x4x128 .bf16) (K : FVec Ideal S16400x2x128 .bf16) (h : Fin 2) (u : Fin 4) (q : Fin 16640) (k : Fin 16400) :
    products Q K (ix4 h u q k) = ∑ x : Fin 128, K (ix3 k h x) * Q (ix4 q h u x) := by
  unfold products; pointwise

theorem scores_at (h : Fin 2) (u : Fin 4) (q : Fin 16640) (k : Fin 16400) :
    scores (queries A0) (keys A1) (ix4 h u q k) = score A0 A1 q ⟨h.val * 4 + u, by omega⟩ k * Ideal.log (Ideal.ofBits .f32 1073741824#32) := by
  have e : scores (queries A0) (keys A1) (ix4 h u q k) = products (queries A0) (keys A1) (ix4 h u q k) * Ideal.log (Ideal.ofBits .f32 1073741824#32) := rfl
  rw [e, products_at, score, dif_pos (by omega)]
  refine congrArg (· * _) (Finset.sum_congr rfl fun x _ => ?_)
  rw [keys_at, queries_at, mul_comm]
  refine congrArg (_ * ·) (congrArg A1 (congrArg₂ ix2 rfl (Fin.ext ?_)))
  dsimp only; omega

theorem along_at (X : FVec Ideal S2x4x16640 .f32) (h : Fin 2) (u : Fin 4) (q : Fin 16640) (k : Fin 16400) : along X (ix4 h u q k) = X (ix3 h u q) := by
  unfold along; pointwise

theorem maxima_at (S : FVec Ideal S2x4x16640x16400 .f32) (h : Fin 2) (u : Fin 4) (q : Fin 16640) :
    Host.reduce FloatOps.maximumf S (constant S_ .f32 0xFF800000#32) reducesTo_S2x4x16640x16400_S2x4x16640_d3 h_S_ (ix3 h u q)
      = Finset.fold max (Ideal.ofBits .f32 0xFF800000#32) (fun k : Fin 16400 => S (ix4 h u q k)) Finset.univ := by
  pointwise

theorem raised_at (R : FVec Ideal S2x4x16640 .f32) (h : Fin 2) (u : Fin 4) (q : Fin 16640) :
    maximumf (broadcastInDim S2x4x16640 ![] bcast_S_S2x4x16640 (constant S_ .f32 0xFF800000#32)) R (ix3 h u q) = max (Ideal.ofBits .f32 0xFF800000#32) (R (ix3 h u q)) := by
  pointwise

theorem greatest_at (S : FVec Ideal S2x4x16640x16400 .f32) (h : Fin 2) (u : Fin 4) (q : Fin 16640) :
    greatest S (ix3 h u q) = max (Ideal.ofBits .f32 0xFF800000#32) (Finset.fold max (Ideal.ofBits .f32 0xFF800000#32) (fun k : Fin 16400 => S (ix4 h u q k)) Finset.univ) := by
  unfold greatest; rw [raised_at, maxima_at]

theorem divided_at (E D : FVec Ideal S2x4x16640x16400 .f32) (i : S2x4x16640x16400.Idx) :
    truncf .bf16 (Host.divf E D) bitsLt_bf16_f32 i = Ideal.div (E i) (D i) := rfl

theorem expos_at (S : FVec Ideal S2x4x16640x16400 .f32) (h : Fin 2) (u : Fin 4) (q : Fin 16640) (k : Fin 16400) :
    expos S (ix4 h u q k) = Ideal.exp (S (ix4 h u q k) - greatest S (ix3 h u q)) := by
  rw [← along_at (greatest S) h u q k]; rfl

theorem sums_at (E : FVec Ideal S2x4x16640x16400 .f32) (h : Fin 2) (u : Fin 4) (q : Fin 16640) :
    Host.reduceAdd E (constant S_ .f32 0x00000000#32) reducesTo_S2x4x16640x16400_S2x4x16640_d3 h_S_ (ix3 h u q) = ∑ k : Fin 16400, E (ix4 h u q k) := by
  pointwise

theorem weights_at (E : FVec Ideal S2x4x16640x16400 .f32) (h : Fin 2) (u : Fin 4) (q : Fin 16640) (k : Fin 16400) :
    weights E (ix4 h u q k) = Ideal.div (E (ix4 h u q k)) (∑ k : Fin 16400, E (ix4 h u q k)) := by
  unfold weights; rw [divided_at, along_at, sums_at]

theorem weighted_at (W : FVec Ideal S2x4x16640x16400 .bf16) (X : FVec Ideal S16400x2x128 .bf16) (q : Fin 16640) (e : Fin 1024) :
    weighted W X (ix2 q e) = ∑ k : Fin 16400, X (ix3 k ⟨e.val / 512, by omega⟩ ⟨e.val % 128, by omega⟩)
      * W (ix4 ⟨e.val / 512, by omega⟩ ⟨e.val / 128 % 4, by omega⟩ q k) := by
  unfold weighted; pointwise

variable (m : (ℓ : Loc nD τ sig) → Buf (Elt Ideal) ℓ)

/-- An element of the plain grouped attention. -/
theorem ref_at (c : Dev nD) (h0 : ∀ i, ∃ x : ℝ, m (c.tc.loc main_arg0) i = (x : EReal)) (h1 : ∀ i, ∃ x : ℝ, m (c.tc.loc main_arg1) i = (x : EReal))
    (q : Fin 16640) (e : Fin 1024) :
    (Value.res_out0 m c : Vec Ideal S16640x1024 .bf16) (ix2 q e)
      = attn (m (c.tc.loc main_arg0)) (m (c.tc.loc main_arg1)) (m (c.tc.loc main_arg2)) q e := by
  have e0 : (Value.res_out0 m c : Vec Ideal S16640x1024 .bf16)
      = weighted (weights (expos (scores (queries (m (c.tc.loc main_arg0))) (keys (m (c.tc.loc main_arg1)))))) (values (m (c.tc.loc main_arg2))) := rfl
  have eh : (⟨e.val / 512 * 4 + e.val / 128 % 4, by omega⟩ : Fin 8) = ⟨e.val / 128, by omega⟩ := Fin.ext (by dsimp only; omega)
  rw [e0, weighted_at]
  simp only [weights_at, expos_at, greatest_at, scores_at, eh]
  refine Attention.softmax_fin (N := 16400) (u := fun k => score (m (c.tc.loc main_arg0)) (m (c.tc.loc main_arg1)) q ⟨e.val / 128, by omega⟩ k)
    (by norm_num) _ _ (fun j _ => score_real _ _ h0 h1 q _ j) (fun j => rfl) (fun j => ?_)
  rw [values_at, value, dif_pos (by omega)]

end Cert.Reference2Ideal.Gqa

end
-- ==== Proof.GqaFinite.lean ====
/- What the precondition of the grouped attention says: queries and keys are real numbers. -/
module

public import proofs.«01_k».proof.Pre_finite2
public import proofs.«01_k».proof.Proof.MlaFinite

@[expose] public section

set_option maxRecDepth 16384

noncomputable section

namespace Cert.Pre_finite2

open Idealize.ShloMosaic Idealize.ShloMosaic.TcCoe Cert.Pre_finite2.Facts

variable [Cert.Pre_finite2.Facts]

theorem reals {A0 : FVec Ideal S1024x16640 .bf16} {A1 : FVec Ideal S16640x256 .bf16} {A2 : FVec Ideal S256x16640 .bf16}
    (h : fn A0 A1 A2 = fun _ => 1#1) : (∀ i, ∃ r : ℝ, A0 i = (r : EReal)) ∧ ∀ i, ∃ r : ℝ, A1 i = (r : EReal) := by
  dsimp only [fn] at h
  obtain ⟨h0, h1⟩ := IntOp.andi_eq_one.1 (congrFun h (fun a => a.elim0))
  exact ⟨fun i => Pre_finite.real_of_lt A0 _ i (Host.reduce_andi_all _ _ _ _ _ h0 i),
    fun i => Pre_finite.real_of_lt A1 _ i (Host.reduce_andi_all _ _ _ _ _ h1 i)⟩

end Cert.Pre_finite2

end
-- ==== Proof.GqaEquation.lean ====
/- The grouped attention call computes the plain grouped attention: both results are the grouped attention over 16400 keys. -/
module

public import proofs.«01_k».proof.Defs
public import proofs.«01_k».proof.Proof.Gen.Pre_finite2
public import proofs.«01_k».proof.Proof.GqaArrayIdeal
public import proofs.«01_k».proof.Proof.GqaRefIdeal
public import proofs.«01_k».proof.Proof.GqaFinite

@[expose] public section

set_option maxRecDepth 16384

noncomputable section

namespace Cert.Proof

open Idealize.ShloMosaic Idealize.ShloMosaic.TcCoe Idealize.SL.Sem
open Cert.Kernel2Ideal Cert.Kernel2Ideal.Gen

/-- The call's run, its array of results read. -/
theorem grouped_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Gqa.G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 5).trans (Gqa.final m c), h.2.1 c⟩)
    (θ_run_and (Gqa.run_main m ρ) (Gqa.frame m ρ))

theorem grouped : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := fun m ρ m' ρ' hpre hag =>
  ⟨fun c => Gqa.G m c, grouped_run m ρ, (θ_run _ _ _).mono (fun _ h c => ⟨(h c).1.trans (by
      obtain ⟨e0, e1, e2⟩ := hag c
      obtain ⟨r0, r1⟩ := Cert.Pre_finite2.reals (hpre c)
      funext i
      rw [eq_ix2 (n0 := 16640) (n1 := 1024) i]
      refine (Cert.Reference2Ideal.Gqa.ref_at m' c (by rw [e0]; exact r0) (by rw [e1]; exact r1) (i 0) (i 1)).trans ?_
      rw [e0, e1, e2]
      rfl), (h c).2⟩) (Cert.Reference2Ideal.Value.run m' ρ')⟩

end Cert.Proof

end
-- ==== Proof.Ffn.lean ====
/- The gated feed-forward layer with its two normalizations, as a function of its arrays: every element of both results. -/
module

public import Idealize.ShloMosaic.Lib.Pointwise
public import Idealize.ShloMosaic.Lib.Pipeline.ValueKit

@[expose] public section

noncomputable section

namespace Cert.Ffn

open Idealize.ShloMosaic

/-- An element of a row normalized by its mean square. -/
def norm (y : Fin 2048 → EReal) (e : Fin 2048) : EReal :=
  y e * Ideal.rsqrt (Ideal.div (∑ x, y x * y x) (Ideal.ofBits .f32 1157627904#32) + Ideal.ofBits .f32 897988541#32)

variable (X : Vec Ideal ⟨2, ![16640, 2048]⟩ .bf16) (Wg Wu : Vec Ideal ⟨2, ![2048, 7168]⟩ .f32) (Wd : Vec Ideal ⟨2, ![7168, 2048]⟩ .f32)
  (H : Vec Ideal ⟨2, ![16640, 2048]⟩ .f32) (P N : Vec Ideal ⟨2, ![1, 2048]⟩ .f32)

/-- Hidden element `f` of row `q`, before the gate. -/
def proj (W : Vec Ideal ⟨2, ![2048, 7168]⟩ .f32) (q : Fin 16640) (f : Fin 7168) : EReal := ∑ x : Fin 2048, X (ix2 q x) * W (ix2 x f)

/-- Hidden element `f` of row `q`, gated. -/
def act (q : Fin 16640) (f : Fin 7168) : EReal := proj X Wg q f * Ideal.logistic (proj X Wg q f) * proj X Wu q f

/-- What hidden element `f` brings to element `e` of row `q`. -/
def lane (q : Fin 16640) (e : Fin 2048) (f : ℕ) : EReal :=
  if hf : f < 7168 then act X Wg Wu q ⟨f, hf⟩ * Wd (ix2 ⟨f, hf⟩ e) else 0

/-- The same over a chunk of 512 hidden elements. -/
def chunk (q : Fin 16640) (e : Fin 2048) (k : ℕ) : EReal := ∑ f ∈ Finset.range 512, lane X Wg Wu Wd q e (k * 512 + f)

/-- The layer, before its normalization. -/
def down (q : Fin 16640) (e : Fin 2048) : EReal := ∑ f : Fin 7168, act X Wg Wu q f * Wd (ix2 f e)

/-- The first result: the layer, normalized, onto the residual. -/
def out (q : Fin 16640) (e : Fin 2048) : EReal := H (ix2 q e) + norm (down X Wg Wu Wd q) e * P (ix2 0 e)

/-- The second result: the first one normalized. -/
def next (q : Fin 16640) (e : Fin 2048) : EReal := norm (out X Wg Wu Wd H P q) e * N (ix2 0 e)

/-- The chunks together are all the hidden elements. -/
theorem sum_chunks (q : Fin 16640) (e : Fin 2048) : ∑ k ∈ Finset.range 14, chunk X Wg Wu Wd q e k = down X Wg Wu Wd q e := by
  have h := (Finset.sum_range_mul_split 14 512 (lane X Wg Wu Wd q e)).symm
  refine h.trans ?_
  rw [← Fin.sum_univ_eq_sum_range]
  exact Finset.sum_congr rfl fun f _ => by rw [lane, dif_pos f.isLt]

end Cert.Ffn

end
-- ==== Proof.FfnBlockIdeal.lean ====
/- The feed-forward call, point by point: what each grid point's body computes from its blocks, and the running sums over the chunks of
   the hidden elements. -/
module

public import proofs.«01_k».proof.Proof.Gen.Kernel3Ideal.Value
public import proofs.«01_k».proof.Proof.Ffn
public import Idealize.ShloMosaic.Lib.Pipeline.ValueKit
public import Idealize.ShloMosaic.Lib.Pointwise

@[expose] public section

set_option maxRecDepth 16384

noncomputable section

namespace Cert.Kernel3Ideal.Ffn

open Cert.Kernel3Ideal Cert.Kernel3Ideal.Gen Cert.Ffn
open Idealize.ShloMosaic Idealize.ShloMosaic.TcCoe Idealize.ShloMosaic.Tactic
open Idealize.SL.Sem
open Idealize.ShloMosaic.Pipeline (Dat Cfg Window)

theorem pay1_at (r : Fin 640) (e : Fin 2048) : (k0_pay1 (F := Ideal)) (ix2 r e) = 0 := by
  unfold k0_pay1
  pointwise

theorem pay2_at (v3 : Vec Ideal S640x2048 .bf16) (v4 v7 : Vec Ideal S2048x512 .bf16) (v14 : Vec Ideal S640x2048 .f32) (v16 : Vec Ideal S512x2048 .bf16) (r : Fin 640) (e : Fin 2048) :
    k0_pay2 v3 v4 v7 v14 v16 (ix2 r e) = v14 (ix2 r e) + ∑ x : Fin 512,
      ((∑ y : Fin 2048, v3 (ix2 r y) * v4 (ix2 y x)) * Ideal.logistic (∑ y : Fin 2048, v3 (ix2 r y) * v4 (ix2 y x)) *
        ∑ y : Fin 2048, v3 (ix2 r y) * v7 (ix2 y x)) * v16 (ix2 x e) := by
  unfold k0_pay2
  pointwise

theorem pay3_at (v24 v25 : Vec Ideal S640x2048 .f32) (v27 : Vec Ideal S1x2048 .f32) (r : Fin 640) (e : Fin 2048) :
    k0_pay3 v24 v25 v27 (ix2 r e) = v24 (ix2 r e) + norm (fun x => v25 (ix2 r x)) e * v27 (ix2 0 e) := by
  unfold k0_pay3
  pointwise
  rfl

theorem pay4_at (v24 v25 : Vec Ideal S640x2048 .f32) (v27 v42 : Vec Ideal S1x2048 .f32) (r : Fin 640) (e : Fin 2048) :
    k0_pay4 v24 v25 v27 v42 (ix2 r e) = norm (fun x => k0_pay3 v24 v25 v27 (ix2 r x)) e * v42 (ix2 0 e) := by
  unfold k0_pay4
  generalize k0_pay3 v24 v25 v27 = h
  pointwise
  rfl

variable (m : (ℓ : Loc nD τ sig) → Buf (Elt Ideal) ℓ)

/-- The block of rows and the chunk of hidden elements of a grid point. -/
theorem idx0 : ∀ t : Fin cfg0.N, win0_0.index t = ![t.val / 14, 0] := by decide +kernel
theorem idx1 : ∀ t : Fin cfg0.N, win0_1.index t = ![0, t.val % 14] := by decide +kernel
theorem idx2 : ∀ t : Fin cfg0.N, win0_2.index t = ![0, t.val % 14] := by decide +kernel
theorem idx3 : ∀ t : Fin cfg0.N, win0_3.index t = ![t.val % 14, 0] := by decide +kernel
theorem idx4 : ∀ t : Fin cfg0.N, win0_4.index t = ![t.val / 14, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val / 14, 0] := by decide +kernel
theorem idx8 : ∀ t : Fin cfg0.N, win0_8.index t = ![t.val / 14, 0] := by decide +kernel

theorem N_eq : cfg0.N = 364 := by decide +kernel

theorem V0 (c : Dev nD) (i : Fin 2048) (j : Fin 7168) : (V m c main_v0 : Vec Ideal S2048x7168 .bf16) (ix2 i j) = m (c.tc.loc main_arg1) (ix2 i j) := by
  entry_read
  rfl

theorem V1 (c : Dev nD) (i : Fin 2048) (j : Fin 7168) : (V m c main_v1 : Vec Ideal S2048x7168 .bf16) (ix2 i j) = m (c.tc.loc main_arg2) (ix2 i j) := by
  entry_read
  rfl

theorem V2 (c : Dev nD) (i : Fin 7168) (j : Fin 2048) : (V m c main_v2 : Vec Ideal S7168x2048 .bf16) (ix2 i j) = m (c.tc.loc main_arg3) (ix2 i j) := by
  entry_read
  rfl

/-- The row of the arrays that row `r` of a point's blocks is. -/
abbrev row (n : ℕ) (hn : n < 364) (r : Fin 640) : Fin 16640 := ⟨n / 14 * 640 + r, by omega⟩

theorem blk0 (c : Dev nD) (t : Fin cfg0.N) (r : Fin 640) (e : Fin 2048) :
    (iblk m c 0 t : Vec Ideal S640x2048 .bf16) (ix2 r e) = m (c.tc.loc main_arg0) (ix2 (row t (N_eq ▸ t.isLt) r) e) := by
  rw [← V_main_arg0 m c]
  blk_simp [iblk, idx0]
  blk_ext [idx0]

theorem blk1 (c : Dev nD) (t : Fin cfg0.N) (r : Fin 2048) (e : Fin 512) :
    (iblk m c 1 t : Vec Ideal S2048x512 .bf16) (ix2 r e) = m (c.tc.loc main_arg1) (ix2 r ⟨t.val % 14 * 512 + e, by omega⟩) := by
  rw [← V0 m c]
  blk_simp [iblk, idx1]
  blk_ext [idx1]

theorem blk2 (c : Dev nD) (t : Fin cfg0.N) (r : Fin 2048) (e : Fin 512) :
    (iblk m c 2 t : Vec Ideal S2048x512 .bf16) (ix2 r e) = m (c.tc.loc main_arg2) (ix2 r ⟨t.val % 14 * 512 + e, by omega⟩) := by
  rw [← V1 m c]
  blk_simp [iblk, idx2]
  blk_ext [idx2]

theorem blk3 (c : Dev nD) (t : Fin cfg0.N) (r : Fin 512) (e : Fin 2048) :
    (iblk m c 3 t : Vec Ideal S512x2048 .bf16) (ix2 r e) = m (c.tc.loc main_arg3) (ix2 ⟨t.val % 14 * 512 + r, by omega⟩ e) := by
  rw [← V2 m c]
  blk_simp [iblk, idx3]
  blk_ext [idx3]

theorem blk4 (c : Dev nD) (t : Fin cfg0.N) (r : Fin 640) (e : Fin 2048) :
    (iblk m c 4 t : Vec Ideal S640x2048 .f32) (ix2 r e) = m (c.tc.loc main_arg4) (ix2 (row t (N_eq ▸ t.isLt) r) e) := by
  rw [← V_main_arg4 m c]
  blk_simp [iblk, idx4]
  blk_ext [idx4]

theorem blk5 (c : Dev nD) (t : Fin cfg0.N) (e : Fin 2048) :
    (iblk m c 5 t : Vec Ideal S1x2048 .f32) (ix2 0 e) = m (c.tc.loc main_arg5) (ix2 0 e) := by
  rw [← V_main_arg5 m c]
  blk_simp [iblk, idx5]
  blk_ext [idx5]

theorem blk6 (c : Dev nD) (t : Fin cfg0.N) (e : Fin 2048) :
    (iblk m c 6 t : Vec Ideal S1x2048 .f32) (ix2 0 e) = m (c.tc.loc main_arg6) (ix2 0 e) := by
  rw [← V_main_arg6 m c]
  blk_simp [iblk, idx6]
  blk_ext [idx6]

/-- The sums over a point's chunk. -/
abbrev part (c : Dev nD) (q : Fin 16640) (e : Fin 2048) (k : ℕ) : EReal :=
  chunk (m (c.tc.loc main_arg0)) (m (c.tc.loc main_arg1)) (m (c.tc.loc main_arg2)) (m (c.tc.loc main_arg3)) q e k

/-- The layer of a row. -/
abbrev layer (c : Dev nD) (q : Fin 16640) (e : Fin 2048) : EReal :=
  down (m (c.tc.loc main_arg0)) (m (c.tc.loc main_arg1)) (m (c.tc.loc main_arg2)) (m (c.tc.loc main_arg3)) q e

/-- A point's body adds its chunk to what it finds. -/
theorem step_at (c : Dev nD) (t : Fin cfg0.N) (v : Vec Ideal S640x2048 .f32) (r : Fin 640) (e : Fin 2048) :
    k0_pay2 (iblk m c 0 t) (iblk m c 1 t) (iblk m c 2 t) v (iblk m c 3 t) (ix2 r e)
      = v (ix2 r e) + part m c (row t (N_eq ▸ t.isLt) r) e (t.val % 14) := by
  rw [pay2_at]
  refine congrArg (v (ix2 r e) + ·) ?_
  rw [part, chunk, ← Fin.sum_univ_eq_sum_range]
  refine Finset.sum_congr rfl fun x _ => ?_
  rw [lane, dif_pos (by omega), act, proj, proj]
  simp only [blk0, blk1, blk2, blk3]

theorem outA (c : Dev nD) (t : Fin cfg0.N) (h0 : t.val % 14 = 0) :
    (outsAt0 m c t.val t.isLt).1 = k0_pay2 (iblk m c 0 t) (iblk m c 1 t) (iblk m c 2 t) (k0_pay1 (F := Ideal)) (iblk m c 3 t) := by
  rw [outsAt0_A m c t h0 (by omega)]
  dsimp only
  frame_out

theorem outB (c : Dev nD) (t : Fin cfg0.N) (h0 : ¬ t.val % 14 = 0) (h1 : ¬ t.val % 14 = 13) :
    (outsAt0 m c t.val t.isLt).1 = k0_pay2 (iblk m c 0 t) (iblk m c 1 t) (iblk m c 2 t) (outsAt0 m c (t.val - 1) (by omega)).1 (iblk m c 3 t) := by
  rw [outsAt0_B m c t h0 h1]
  dsimp only
  frame_out

/-- The last point of a block of rows: its sums. -/
def sums (c : Dev nD) (t : Fin cfg0.N) : Vec Ideal S640x2048 .f32 :=
  k0_pay2 (iblk m c 0 t) (iblk m c 1 t) (iblk m c 2 t) (outsAt0 m c (t.val - 1) (by omega)).1 (iblk m c 3 t)

theorem outC (c : Dev nD) (t : Fin cfg0.N) (h0 : ¬ t.val % 14 = 0) (h1 : t.val % 14 = 13) :
    (outsAt0 m c t.val t.isLt).1 = k0_pay3 (iblk m c 4 t) (sums m c t) (iblk m c 5 t) := by
  rw [outsAt0_C m c t h0 h1, sums]
  dsimp only
  frame_out

theorem nextC (c : Dev nD) (t : Fin cfg0.N) (h0 : ¬ t.val % 14 = 0) (h1 : t.val % 14 = 13) :
    (outsAt0 m c t.val t.isLt).2 = k0_pay4 (iblk m c 4 t) (sums m c t) (iblk m c 5 t) (iblk m c 6 t) := by
  rw [outsAt0_C m c t h0 h1, sums]
  dsimp only
  frame_out

/-- Before the last chunk of a block of rows, its block holds the sums over the chunks so far. -/
theorem running (c : Dev nD) (r : Fin 640) (e : Fin 2048) : ∀ (n : ℕ) (hn : n < cfg0.N), ¬ n % 14 = 13 →
    (outsAt0 m c n hn).1 (ix2 r e) = ∑ k ∈ Finset.range (n % 14 + 1), part m c (row n (N_eq ▸ hn) r) e k := by
  intro n
  induction n with
  | zero =>
    intro hn _
    refine (congrFun (outA m c ⟨0, hn⟩ rfl) _).trans ?_
    rw [step_at, pay1_at]
    simp
  | succ n ih =>
    intro hn h1
    by_cases h0 : (n + 1) % 14 = 0
    · refine (congrFun (outA m c ⟨n + 1, hn⟩ h0) _).trans ?_
      rw [step_at, pay1_at]
      simp [h0]
    · refine (congrFun (outB m c ⟨n + 1, hn⟩ h0 h1) _).trans ?_
      rw [step_at]
      have e1 : (n + 1) % 14 = n % 14 + 1 := by omega
      have e2 : row (n + 1) (N_eq ▸ hn) r = row n (by have := N_eq; omega) r := Fin.ext (by simp only [row]; omega)
      rw [show (outsAt0 m c ((⟨n + 1, hn⟩ : Fin cfg0.N).val - 1) _).1 (ix2 r e) = _ from ih (by omega) (by omega)]
      simp only [e1, e2]
      rw [Finset.sum_range_succ _ (n % 14 + 1)]

/-- At the last chunk, all of them. -/
theorem sums_at (c : Dev nD) (t : Fin cfg0.N) (h1 : t.val % 14 = 13) (r : Fin 640) (e : Fin 2048) :
    sums m c t (ix2 r e) = layer m c (row t (N_eq ▸ t.isLt) r) e := by
  rw [sums, step_at, running m c r e (t.val - 1) (by omega) (by omega), layer, ← sum_chunks]
  have e1 : (t.val - 1) % 14 + 1 = 13 := by omega
  have e2 : row (t.val - 1) (by have := t.isLt; have := N_eq; omega) r = row t (N_eq ▸ t.isLt) r := Fin.ext (by simp only [row]; omega)
  rw [e1, e2, h1, Finset.sum_range_succ _ 13]

/-- What the last point of a block of rows leaves: the first result, -/
theorem out_at (c : Dev nD) (t : Fin cfg0.N) (h1 : t.val % 14 = 13) (r : Fin 640) (e : Fin 2048) :
    (outsAt0 m c t.val t.isLt).1 (ix2 r e) = out (m (c.tc.loc main_arg0)) (m (c.tc.loc main_arg1)) (m (c.tc.loc main_arg2)) (m (c.tc.loc main_arg3))
      (m (c.tc.loc main_arg4)) (m (c.tc.loc main_arg5)) (row t (N_eq ▸ t.isLt) r) e := by
  rw [outC m c t (by omega) h1, pay3_at, out, blk4, blk5]
  simp only [sums_at m c t h1]

/-- and the second. -/
theorem next_at (c : Dev nD) (t : Fin cfg0.N) (h1 : t.val % 14 = 13) (r : Fin 640) (e : Fin 2048) :
    (outsAt0 m c t.val t.isLt).2 (ix2 r e) = next (m (c.tc.loc main_arg0)) (m (c.tc.loc main_arg1)) (m (c.tc.loc main_arg2)) (m (c.tc.loc main_arg3))
      (m (c.tc.loc main_arg4)) (m (c.tc.loc main_arg5)) (m (c.tc.loc main_arg6)) (row t (N_eq ▸ t.isLt) r) e := by
  rw [nextC m c t (by omega) h1, pay4_at, next, blk6]
  simp only [← outC m c t (by omega) h1, out_at m c t h1]

/-- The arrays of results. -/
def G7 (c : Dev nD) : Vec Ideal S16640x2048 .f32 := fun i =>
  out (m (c.tc.loc main_arg0)) (m (c.tc.loc main_arg1)) (m (c.tc.loc main_arg2)) (m (c.tc.loc main_arg3)) (m (c.tc.loc main_arg4)) (m (c.tc.loc main_arg5)) (i 0) (i 1)
def G8 (c : Dev nD) : Vec Ideal S16640x2048 .bf16 := fun i =>
  next (m (c.tc.loc main_arg0)) (m (c.tc.loc main_arg1)) (m (c.tc.loc main_arg2)) (m (c.tc.loc main_arg3)) (m (c.tc.loc main_arg4)) (m (c.tc.loc main_arg5))
    (m (c.tc.loc main_arg6)) (i 0) (i 1)

theorem last7 : ∀ t : Fin cfg0.N, (cfg0.win 7).flush t = true → t.val % 14 = 13 := by decide +kernel
theorem last8 : ∀ t : Fin cfg0.N, (cfg0.win 8).flush t = true → t.val % 14 = 13 := by decide +kernel

theorem final7 (c : Dev nD) : (dats m 0 c).arrAt 7 cfg0.N = G7 m c := by
  refine (dats m 0 c).arrAt_eq_of_covers 7 _ (by decide +kernel) fun t hf y => ?_
  blk_simp
  rw [after0_7]
  have e0 : (((win0_7.blk t).view.emb y) 0 : ℕ) = t.val / 14 * 640 + (y 0 : ℕ) := by
    rw [show (((win0_7.blk t).view.emb y) 0 : ℕ) = win0_7.index t 0 * win0_7.size 0 + (y 0 : ℕ) from win0_7.rect_emb_val_off t y 0, idx7]; rfl
  have e1 : (((win0_7.blk t).view.emb y) 1 : ℕ) = (y 1 : ℕ) := by
    rw [show (((win0_7.blk t).view.emb y) 1 : ℕ) = win0_7.index t 1 * win0_7.size 1 + (y 1 : ℕ) from win0_7.rect_emb_val_off t y 1, idx7]; exact Nat.zero_add _
  refine (congrArg (outsAt0 m c t.val t.isLt).1 (eq_ix2 (n0 := 640) (n1 := 2048) y)).trans ((out_at m c t (last7 t hf) (y 0) (y 1)).trans ?_)
  exact congrArg₂ (out _ _ _ _ _ _) (Fin.ext e0.symm) (Fin.ext e1.symm)

theorem final8 (c : Dev nD) : (dats m 0 c).arrAt 8 cfg0.N = G8 m c := by
  refine (dats m 0 c).arrAt_eq_of_covers 8 _ (by decide +kernel) fun t hf y => ?_
  blk_simp
  rw [after0_8]
  have e0 : (((win0_8.blk t).view.emb y) 0 : ℕ) = t.val / 14 * 640 + (y 0 : ℕ) := by
    rw [show (((win0_8.blk t).view.emb y) 0 : ℕ) = win0_8.index t 0 * win0_8.size 0 + (y 0 : ℕ) from win0_8.rect_emb_val_off t y 0, idx8]; rfl
  have e1 : (((win0_8.blk t).view.emb y) 1 : ℕ) = (y 1 : ℕ) := by
    rw [show (((win0_8.blk t).view.emb y) 1 : ℕ) = win0_8.index t 1 * win0_8.size 1 + (y 1 : ℕ) from win0_8.rect_emb_val_off t y 1, idx8]; exact Nat.zero_add _
  refine (congrArg (outsAt0 m c t.val t.isLt).2 (eq_ix2 (n0 := 640) (n1 := 2048) y)).trans ((next_at m c t (last8 t hf) (y 0) (y 1)).trans ?_)
  exact congrArg₂ (next _ _ _ _ _ _ _) (Fin.ext e0.symm) (Fin.ext e1.symm)

end Cert.Kernel3Ideal.Ffn

end
-- ==== Proof.FfnRefIdeal.lean ====
/- The plain feed-forward layer is the layer: both of its results, element by element. -/
module

public import proofs.«01_k».proof.Proof.Ffn
public import proofs.«01_k».proof.Proof.Gen.Reference3Ideal.Run
public import Idealize.ShloMosaic.Lib.Pointwise
public import Idealize.ShloMosaic.Lib.Tactic.CleanTypes

@[expose] public section

set_option maxRecDepth 16384

noncomputable section

namespace Cert.Reference3Ideal.Ffn

open Cert.Reference3Ideal Cert.Reference3Ideal.Gen Cert.Reference3Ideal.Facts Cert.Ffn
open Idealize.ShloMosaic Idealize.ShloMosaic.TcCoe Idealize.ShloMosaic.Tactic

variable (X : FVec Ideal S16640x2048 .bf16) (Wg Wu : FVec Ideal S2048x7168 .f32) (Wd : FVec Ideal S7168x2048 .f32)
  (H : FVec Ideal S16640x2048 .f32) (P N : FVec Ideal S1x2048 .f32)

/-- A product with a weight. -/
def product (W : FVec Ideal S2048x7168 .f32) : FVec Ideal S16640x7168 .f32 :=
  Host.dotGeneral dot_S16640x2048_S2048x7168_S16640x7168_1_0_0_1_n_n none (extf .f32 X bitsLt_bf16_f32) W

/-- The gate. -/
def gated (A B : FVec Ideal S16640x7168 .f32) : FVec Ideal S16640x7168 .f32 :=
  mulf (mulf A (Host.divf (broadcastInDim S16640x7168 ![] bcast_S_S16640x7168 (constant S_ .f32 0x3F800000#32)) (addf (broadcastInDim S16640x7168 ![] bcast_S_S16640x7168 (constant S_ .f32 0x3F800000#32)) (Host.exp (Host.negf A))))) B

/-- The product with the last weight. -/
def lowered (A : FVec Ideal S16640x7168 .f32) : FVec Ideal S16640x2048 .f32 :=
  Host.dotGeneral dot_S16640x7168_S7168x2048_S16640x2048_1_0_0_1_n_n none A Wd

/-- A normalization. -/
def normed (Y : FVec Ideal S16640x2048 .f32) (P : FVec Ideal S1x2048 .f32) : FVec Ideal S16640x2048 .f32 :=
  mulf (mulf Y (broadcastInDim S16640x2048 ![0, 1] bcast_S16640x1_S16640x2048_0_1 (Host.rsqrt (addf (Host.divf (broadcastInDim S16640x1 ![0] bcast_S16640_S16640x1_0 (Host.reduceAdd (mulf Y Y) (constant S_ .f32 0x00000000#32) reducesTo_S16640x2048_S16640_d1 h_S_)) (broadcastInDim S16640x1 ![] bcast_S_S16640x1 (constant S_ .f32 0x45000000#32))) (broadcastInDim S16640x1 ![] bcast_S_S16640x1 (constant S_ .f32 0x358637BD#32)))))) (broadcastInDim S16640x2048 ![0, 1] bcast_S1x2048_S16640x2048_0_1 (broadcastInDim S1x2048 ![1] bcast_S2048_S1x2048_1 (shapeCast _ P shapeCasts_S1x2048_S2048)))

/-- The first result and the second. -/
def first : FVec Ideal S16640x2048 .f32 := addf H (normed (lowered Wd (gated (product X Wg) (product X Wu))) P)
def second (Y : FVec Ideal S16640x2048 .f32) : FVec Ideal S16640x2048 .bf16 := truncf .bf16 (normed Y N) bitsLt_bf16_f32

theorem product_at (W : FVec Ideal S2048x7168 .f32) (q : Fin 16640) (f : Fin 7168) : product X W (ix2 q f) = proj X W q f := by
  unfold product proj; pointwise

theorem gated_at (A B : FVec Ideal S16640x7168 .f32) (q : Fin 16640) (f : Fin 7168) :
    gated A B (ix2 q f) = A (ix2 q f) * Ideal.logistic (A (ix2 q f)) * B (ix2 q f) := by
  unfold gated
  pointwise
  rfl

theorem lowered_at (A : FVec Ideal S16640x7168 .f32) (q : Fin 16640) (e : Fin 2048) :
    lowered Wd A (ix2 q e) = ∑ f : Fin 7168, A (ix2 q f) * Wd (ix2 f e) := by
  unfold lowered; pointwise

theorem normed_at (Y : FVec Ideal S16640x2048 .f32) (q : Fin 16640) (e : Fin 2048) :
    normed Y P (ix2 q e) = norm (fun x => Y (ix2 q x)) e * P (ix2 0 e) := by
  unfold normed
  pointwise
  rfl

theorem first_at (q : Fin 16640) (e : Fin 2048) : first X Wg Wu Wd H P (ix2 q e) = out X Wg Wu Wd H P q e := by
  have e0 : first X Wg Wu Wd H P (ix2 q e) = H (ix2 q e) + normed (lowered Wd (gated (product X Wg) (product X Wu))) P (ix2 q e) := rfl
  rw [e0, normed_at, out]
  simp only [lowered_at, gated_at, product_at]
  rfl

theorem second_at (q : Fin 16640) (e : Fin 2048) : second N (first X Wg Wu Wd H P) (ix2 q e) = next X Wg Wu Wd H P N q e := by
  have e0 : second N (first X Wg Wu Wd H P) (ix2 q e) = normed (first X Wg Wu Wd H P) N (ix2 q e) := rfl
  rw [e0, normed_at, next]
  simp only [first_at]

end Cert.Reference3Ideal.Ffn

end
-- ==== Proof.FfnEquation.lean ====
/- The feed-forward call computes the plain layer: both of its results. -/
module

public import proofs.«01_k».proof.Defs
public import proofs.«01_k».proof.Proof.FfnBlockIdeal
public import proofs.«01_k».proof.Proof.FfnRefIdeal

@[expose] public section

set_option maxRecDepth 16384

noncomputable section

namespace Cert.Proof

open Idealize.ShloMosaic Idealize.ShloMosaic.TcCoe Idealize.SL.Sem

open Cert.Kernel3Ideal Cert.Kernel3Ideal.Gen in
/-- The call's run, its arrays of results read. -/
theorem feed_forward_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3_0) = Ffn.G7 m c
      ∧ r.2.mem ((c.tc : Thread nD τ).loc main_v3_1) = Ffn.G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (Ffn.final7 m c), (h c).2.1.trans (Ffn.final8 m c), (h c).2.2⟩)
    (Cert.Kernel3Ideal.Value.run_blocks m ρ)

open Cert.Reference3Ideal Cert.Reference3Ideal.Gen in
/-- The plain layer's run, its results as the layer's stages. -/
theorem layer_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = Ffn.first (m (c.tc.loc main_arg0)) (m (c.tc.loc main_arg1)) (m (c.tc.loc main_arg2))
        (m (c.tc.loc main_arg3)) (m (c.tc.loc main_arg4)) (m (c.tc.loc main_arg5))
      ∧ r.2.mem ((c.tc : Thread nD τ).loc main_v35) = Ffn.second (m (c.tc.loc main_arg6)) (Ffn.first (m (c.tc.loc main_arg0)) (m (c.tc.loc main_arg1))
        (m (c.tc.loc main_arg2)) (m (c.tc.loc main_arg3)) (m (c.tc.loc main_arg4)) (m (c.tc.loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl, (h c).2.1.trans rfl, (h c).2.2⟩) (Cert.Reference3Ideal.Value.run m ρ)

theorem feed_forward : Cert.algebraic_Kernel3Ideal_Reference3Ideal (hKernel3Ideal := Cert.Kernel3Ideal.Gen.facts)
    (hReference3Ideal := Cert.Reference3Ideal.Gen.facts) := fun m ρ m' ρ' _ hag =>
  ⟨fun c => Cert.Kernel3Ideal.Ffn.G7 m c, fun c => Cert.Kernel3Ideal.Ffn.G8 m c, feed_forward_run m ρ,
    (θ_run _ _ _).mono (fun _ h c => ⟨(h c).1.trans (by
      obtain ⟨e0, e1, e2, e3, e4, e5, e6⟩ := hag c
      rw [e0, e1, e2, e3, e4, e5]
      funext i
      rw [eq_ix2 (n0 := 16640) (n1 := 2048) i]
      exact Cert.Reference3Ideal.Ffn.first_at _ _ _ _ _ _ (i 0) (i 1)), (h c).2.1.trans (by
      obtain ⟨e0, e1, e2, e3, e4, e5, e6⟩ := hag c
      rw [e0, e1, e2, e3, e4, e5, e6]
      funext i
      rw [eq_ix2 (n0 := 16640) (n1 := 2048) i]
      exact Cert.Reference3Ideal.Ffn.second_at _ _ _ _ _ _ _ (i 0) (i 1)), (h c).2.2⟩) (layer_run m' ρ')⟩

end Cert.Proof

end
-- ==== Proof.MoeFrame.lean ====
/- The mixture-of-experts feed-forward's schedule for any tables whose expert numbers are below eight.

   The call prefetches two tables: the expert of each tile and the count of tiles in use. Which block of a weight
   array a grid point reads depends on them, and so does whether the point computes at all. Here the tables are
   arbitrary, subject to the range; each fact about a grid point is proved from the point's coordinates. -/
module

public import proofs.«01_k».proof.Proof.Gen.Kernel4.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel4.Moe

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions of the logic the frame is proved in, at this instance. -/
local notation "𝕄" => MT nD τ sig Unit (Elt Bits) ℕ (UR sig nD τ) ℕ

/-- The resource algebra of the pipeline's staging cells. -/
abbrev EP : Emb (UR sig nD τ) 𝕄 := emb₁

/-- Two tables within range: the expert of each tile, and the count of tiles in use. -/
structure Tables where
  te : S41.Idx → BitVec 32
  nu : S1.Idx → BitVec 32
  range : ∀ x, (te x).toNat < 8

variable (ch : Tables)

/-- The tables as the pipeline takes them. -/
def pfN : pre0.Contents (Elt Bits) := fun | ⟨0, _⟩ => ch.te | ⟨1, _⟩ => ch.nu | ⟨_ + 2, h⟩ => absurd h (by simp)

/-- The launch memory holds these tables. -/
def Pinned (m : (ℓ : Loc nD τ sig) → Buf (Elt Bits) ℓ) : Prop :=
  (∀ c : Dev nD, m ((c : Thread nD τ).loc main_arg0) = ch.te) ∧ (∀ c : Dev nD, m ((c : Thread nD τ).loc main_arg1) = ch.nu)

theorem step_le (c : BitVec 1) (i : grid0.Coords) : (Scalar.select c (BitVec.ofNat 32 (i 1).val) 13#32 : BitVec 32).toNat ≤ 13 := by
  have hi : (i 1).val < 14 := (i 1).isLt
  unfold Scalar.select
  split
  · rw [BitVec.toNat_ofNat, Nat.mod_eq_of_lt (by omega)]; omega
  · decide

theorem inb_1 (i : grid0.Coords) (a : Fin 3) :
    (cc0_transform_1 k0_off1_inb numel1_S1 inb_S1_S1_0 (pfN ch) i a + 1) * S1x2048x512.size a ≤ S8x2048x7168.size a := by
  fin_cases a
  · have h := ch.range ((Rect.unit (s := S41) (k0_off1 i) S1.size (k0_off1_inb i)).emb (Shape.Idx.first (numel1_S1.symm ▸ Nat.one_pos)))
    exact (Nat.mul_one _).trans_le h
  · exact Nat.le_refl 2048
  · have h := step_le (Scalar.cmpi .slt (BitVec.ofNat 32 (i 0).val) ((pfN ch).at 1 (Rect.unit (s := S1) ![0] S1.size inb_S1_S1_0) numel1_S1)) i
    exact (Nat.mul_le_mul_right 512 (Nat.succ_le_succ h))

theorem inb_2 (i : grid0.Coords) (a : Fin 3) :
    (cc0_transform_2 k0_off1_inb numel1_S1 inb_S1_S1_0 (pfN ch) i a + 1) * S1x2048x512.size a ≤ S8x2048x7168.size a := by
  fin_cases a
  · have h := ch.range ((Rect.unit (s := S41) (k0_off1 i) S1.size (k0_off1_inb i)).emb (Shape.Idx.first (numel1_S1.symm ▸ Nat.one_pos)))
    exact (Nat.mul_one _).trans_le h
  · exact Nat.le_refl 2048
  · have h := step_le (Scalar.cmpi .slt (BitVec.ofNat 32 (i 0).val) ((pfN ch).at 1 (Rect.unit (s := S1) ![0] S1.size inb_S1_S1_0) numel1_S1)) i
    exact (Nat.mul_le_mul_right 512 (Nat.succ_le_succ h))

theorem inb_3 (i : grid0.Coords) (a : Fin 3) :
    (cc0_transform_3 k0_off1_inb numel1_S1 inb_S1_S1_0 (pfN ch) i a + 1) * S1x512x2048.size a ≤ S8x7168x2048.size a := by
  fin_cases a
  · have h := ch.range ((Rect.unit (s := S41) (k0_off1 i) S1.size (k0_off1_inb i)).emb (Shape.Idx.first (numel1_S1.symm ▸ Nat.one_pos)))
    exact (Nat.mul_one _).trans_le h
  · have h := step_le (Scalar.cmpi .slt (BitVec.ofNat 32 (i 0).val) ((pfN ch).at 1 (Rect.unit (s := S1) ![0] S1.size inb_S1_S1_0) numel1_S1)) i
    exact (Nat.mul_le_mul_right 512 (Nat.succ_le_succ h))
  · exact Nat.le_refl 2048

/-- Every block the tables name lies inside its weight array. -/
theorem ok_pfN : ok0 (F := Bits) (pfN ch) := ⟨fun i => ⟨inb_1 ch i, .inl rfl⟩, fun i => ⟨inb_2 ch i, .inl rfl⟩, fun i => ⟨inb_3 ch i, .inl rfl⟩⟩

/-- The pipeline at the tables, of 574 points. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x2048 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x2048x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x2048x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x512x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point -/

abbrev P0_0 (t : Fin (cfgA ch).N) : Prop := k0_cond1 (crd ch t) = 1#1
abbrev P0_1 (t : Fin (cfgA ch).N) : Prop := k0_cond2 (crd ch t) (View.readAt (Elt Bits) (tbM0_1).view (Rect.unit (s := S1) ![0] S1.size inb_S1_S1_0).toLoadRect (ch.nu) (Shape.Idx.first (numel1_S1.symm ▸ Nat.one_pos))) = 1#1

/-! ## The schedule, from a point's coordinates -/

/-- Tables of zeros: what does not depend on the tables is computed at these. -/
def zero : Tables := ⟨fun _ => 0#32, fun _ => 0#32, fun _ => by decide⟩

theorem flush_zero : ∀ t : Fin (cfgA zero).N, ((cfgA zero).win (4 : Fin 5)).flush t = decide (t.val % 14 = 13) := by decide +kernel
theorem cond1_zero : ∀ t : Fin (cfgA zero).N, (k0_cond1 (crd zero t) = 1#1) ↔ t.val % 14 = 0 := by decide +kernel

theorem flush_4 (t : Fin (cfgA ch).N) : ((cfgA ch).win (4 : Fin 5)).flush t = decide (t.val % 14 = 13) := flush_zero t
theorem cond1_iff (t : Fin (cfgA ch).N) : P0_0 ch t ↔ t.val % 14 = 0 := cond1_zero t

/-- The count of tiles in use. -/
def used : BitVec 32 := ch.nu fun a => ⟨0, (by decide : ∀ a, 0 < S1.size a) a⟩

theorem used_eq (x : S1.Idx) : ch.nu x = used ch := by
  unfold used
  refine congrArg ch.nu (funext fun a => ?_)
  have h : (x a).val < 1 := (x a).isLt.trans_le ((by decide : ∀ a, S1.size a ≤ 1) a)
  exact Fin.ext (show (x a).val = 0 by omega)

theorem word_eq : View.readAt (Elt Bits) (tbM0_1).view (Rect.unit (s := S1) ![0] S1.size inb_S1_S1_0).toLoadRect ch.nu (Shape.Idx.first (numel1_S1.symm ▸ Nat.one_pos)) = used ch :=
  used_eq ch _

theorem atD_eq : (pfN ch).atD 1 ![0] = used ch := by
  unfold Pipeline.Prefetch.Contents.atD
  rw [dif_pos (by decide)]
  exact used_eq ch _

theorem cond2_iff (t : Fin (cfgA ch).N) : P0_1 ch t ↔ k0_cond2 (crd ch t) (used ch) = 1#1 := by
  show k0_cond2 _ _ = _ ↔ _
  rw [word_eq]

theorem idle_4 (t : Fin (cfgA ch).N) : (cfgA ch).idle (4 : Fin 5) ((cfgA ch).grid.coords t)
    = (!(k0_cond1 (crd ch t) == 1#1) && !(k0_cond2 (crd ch t) (used ch) == 1#1)) := by
  show (!(k0_cond1 (crd ch t) == 1#1) && !(k0_cond2 (crd ch t) ((pfN ch).atD 1 ![0]) == 1#1)) = _
  rw [atD_eq]

/-- Whether the output's buffer holds nothing yet before a position: at the start of a tile. -/
def frTab0_4 (n : ℕ) : Bool := decide (n % 14 = 0)

theorem frTab0_4_step (t : Fin (cfgA ch).N) :
    frTab0_4 (t.val + 1) = (((cfgA ch).win (4 : Fin 5)).flush t || ((cfgA ch).idle (4 : Fin 5) ((cfgA ch).grid.coords t) && frTab0_4 t.val)) := by
  rw [flush_4, idle_4]
  unfold frTab0_4
  by_cases h : t.val % 14 = 0
  · rw [(cond1_iff ch t).2 h]
    simp [show ¬(t.val + 1) % 14 = 0 by omega, show ¬t.val % 14 = 13 by omega]
  · have e : ((t.val + 1) % 14 = 0) ↔ (t.val % 14 = 13) := by omega
    simp [h, e]

theorem freshF0_4 (t : Fin (cfgA ch).N) : (cfgA ch).fresh (4 : Fin 5) t.val = frTab0_4 t.val :=
  Pipeline.Cfg.fresh_tab (cfgA ch) (4 : Fin 5) frTab0_4 rfl (frTab0_4_step ch) t.val (Nat.le_of_lt t.isLt)

theorem sched0_A (t : Fin (cfgA ch).N) (h0 : P0_0 ch t) (h1 : P0_1 ch t) :
    (cfgA ch).idle (4 : Fin 5) ((cfgA ch).grid.coords t) = false ∧ ((cfgA ch).win (4 : Fin 5)).flush t = false ∧ (cfgA ch).fresh (4 : Fin 5) t.val = true := by
  have e := (cond1_iff ch t).1 h0
  rw [freshF0_4, idle_4, flush_4]
  exact ⟨by rw [show k0_cond1 (crd ch t) = 1#1 from h0]; rfl, decide_eq_false (by omega), decide_eq_true e⟩

theorem sched0_C (t : Fin (cfgA ch).N) (h0 : P0_0 ch t) (h1 : ¬P0_1 ch t) :
    (cfgA ch).idle (4 : Fin 5) ((cfgA ch).grid.coords t) = false ∧ ((cfgA ch).win (4 : Fin 5)).flush t = false ∧ (cfgA ch).fresh (4 : Fin 5) t.val = true := by
  have e := (cond1_iff ch t).1 h0
  rw [freshF0_4, idle_4, flush_4]
  exact ⟨by rw [show k0_cond1 (crd ch t) = 1#1 from h0]; rfl, decide_eq_false (by omega), decide_eq_true e⟩

theorem sched0_B (t : Fin (cfgA ch).N) (h0 : ¬P0_0 ch t) (h1 : P0_1 ch t) :
    (cfgA ch).idle (4 : Fin 5) ((cfgA ch).grid.coords t) = false ∧ (cfgA ch).fresh (4 : Fin 5) t.val = false := by
  have e := fun h => h0 ((cond1_iff ch t).2 h)
  rw [freshF0_4, idle_4]
  exact ⟨by rw [(cond2_iff ch t).1 h1]; exact Bool.and_false _, decide_eq_false e⟩

theorem sched0_D (t : Fin (cfgA ch).N) (h0 : ¬P0_0 ch t) (h1 : ¬P0_1 ch t) :
    (cfgA ch).idle (4 : Fin 5) ((cfgA ch).grid.coords t) = true ∧ (cfgA ch).fresh (4 : Fin 5) t.val = false := by
  have e := fun h => h0 ((cond1_iff ch t).2 h)
  rw [freshF0_4, idle_4]
  refine ⟨?_, decide_eq_false e⟩
  rw [beq_eq_false_iff_ne.2 h0, beq_eq_false_iff_ne.2 fun h => h1 ((cond2_iff ch t).2 h)]
  rfl

/-! ## What the outputs and scratches hold after each point -/

/-- What the output's buffer holds after a point, from what it held before: the path taken there says. -/
def step0 (c : Dev nD) (t : Fin (cfgA ch).N) (prev : (S1024x2048.Idx → Elt Bits .f32)) : (S1024x2048.Idx → Elt Bits .f32) :=
  if q0 : P0_0 ch t then
    if q1 : P0_1 ch t then
      out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1
    else
      out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1
  else
    if q1 : P0_1 ch t then
      out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) prev q0 q1
    else
      (if (cfgA ch).fresh (4 : Fin 5) t.val then default else prev)

/-- What the output's buffer holds after each position. -/
def traj0 (c : Dev nD) : (n : ℕ) → n < (cfgA ch).N → (S1024x2048.Idx → Elt Bits .f32)
  | 0, h => step0 ch m ρ c ⟨0, h⟩ default
  | n + 1, h => step0 ch m ρ c ⟨n + 1, h⟩ (traj0 c n (Nat.lt_of_succ_lt h))

/-- What it held before a point. -/
def prev0 (c : Dev nD) (t : Fin (cfgA ch).N) : (S1024x2048.Idx → Elt Bits .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S1024x2048.Idx → Elt Bits .f32)) (q0 : P0_0 ch t) (q1 : P0_1 ch t) :
    step0 ch m ρ c t prev = out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1 := by
  unfold step0; simp only [dif_pos q0, dif_pos q1]

theorem step0_B (c : Dev nD) (t : Fin (cfgA ch).N) (prev : (S1024x2048.Idx → Elt Bits .f32)) (q0 : ¬P0_0 ch t) (q1 : P0_1 ch t) :
    step0 ch m ρ c t prev = out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) prev q0 q1 := by
  unfold step0; simp only [dif_neg q0, dif_pos q1]

theorem step0_C (c : Dev nD) (t : Fin (cfgA ch).N) (prev : (S1024x2048.Idx → Elt Bits .f32)) (q0 : P0_0 ch t) (q1 : ¬P0_1 ch t) :
    step0 ch m ρ c t prev = out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1 := by
  unfold step0; simp only [dif_pos q0, dif_neg q1]

theorem step0_D (c : Dev nD) (t : Fin (cfgA ch).N) (prev : (S1024x2048.Idx → Elt Bits .f32)) (q0 : ¬P0_0 ch t) (q1 : ¬P0_1 ch t) :
    step0 ch m ρ c t prev = (if (cfgA ch).fresh (4 : Fin 5) t.val then default else prev) := by
  unfold step0; simp only [dif_neg q0, dif_neg q1]

/-! ## The pipeline's proof data -/

/-- What it held before a position. -/
def prev0T (c : Dev nD) (t : Fin ((cfgA ch).N + 1)) : (S1024x2048.Idx → Elt Bits .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- What is held besides the buffers: the tables. -/
def Phi (m : (ℓ : Loc nD τ sig) → Buf (Elt Bits) ℓ) (ρ : Dev nD → PrngReg) (c : Dev nD) (t : Fin ((cfgA ch).N + 1)) : sProp 𝕄 :=
  iprop((tbM0_0.view.loc (c : Thread nD τ) ↦{fullShare.right} ch.te) ∗ (tbM0_1.view.loc (c : Thread nD τ) ↦{fullShare.right} ch.nu))

/-- The proof data of the pipeline. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt)
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt) := rfl

/-! ## What each window's staging buffer holds when the body runs -/

/-- Input 0 holds its block. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input 1 holds its block. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input 2 holds its block. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input 3 holds its block. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- A point that stores nothing leaves the output as it was. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -⟩ := sched0_A ch t q0 q1
      rw [i4] at hi; exact absurd hi (by decide)
    · obtain ⟨i4, -, -⟩ := sched0_C ch t q0 q1
      rw [i4] at hi; exact absurd hi (by decide)
  · by_cases q1 : P0_1 ch t
    · obtain ⟨i4, -⟩ := sched0_B ch t q0 q1
      rw [i4] at hi; exact absurd hi (by decide)
    · rw [step0_D ch m ρ c t _ q0 q1]
      simp only [hf, Bool.false_eq_true, ↓reduceIte]
      unfold prev0; rw [dif_neg ht]

/-- The output holds what the point before left, or nothing known at the start of a tile. -/
theorem before0_4 (c : Dev nD) (t : Fin (cfgA ch).N) (d) :
    (dats ch m ρ 0 c).before (4 : Fin 5) t d = if (cfgA ch).fresh (4 : Fin 5) t.val then d else (prev0 ch m ρ c t) := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at a point. -/
abbrev bodyAt0 (t : Fin (cfgA ch).N) : Prog (TpuEff nD τ sig (Elt Bits) Λ₀ .tc) PUnit :=
  cc0_moe_ffn (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body runs at a point, by the path taken there. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4⟩ := sched0_A ch t q0 q1
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4⟩ := sched0_C ch t q0 q1
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 ch t
    · obtain ⟨i4, fr4⟩ := sched0_B ch t q0 q1
      rewrite [i4]
      simp only [before0_0, before0_1, before0_2, before0_3, before0_4, after0_0, after0_1, after0_2, after0_3, after0_4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) _ q0 q1).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _)
    · obtain ⟨i4, fr4⟩ := sched0_D ch t q0 q1
      cases f4 : ((cfgA ch).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ, fr4, Bool.false_eq_true, ↓reduceIte]
        iintro ⟨⟨HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The body runs at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The element the launch starts from. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, -⟩
  isplitl [HT0]
  · iexact HT0
  iexact HT1

/-- At the last point the tables are let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -⟩
  isplitr; · iempintro
  iempintro

/-- The final memory: every array at what the pipeline computes, every table unchanged. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every run ends there, with every counter at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- The arguments end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- The frame, from a memory that holds the tables. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Kernel4.Moe

end
-- ==== Proof.MoeFrameIdeal.lean ====
/- The mixture-of-experts feed-forward's schedule for any tables whose expert numbers are below eight.

   The call prefetches two tables: the expert of each tile and the count of tiles in use. Which block of a weight
   array a grid point reads depends on them, and so does whether the point computes at all. Here the tables are
   arbitrary, subject to the range; each fact about a grid point is proved from the point's coordinates. -/
module

public import proofs.«01_k».proof.Proof.Gen.Kernel4Ideal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Kernel4Ideal.Moe

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The assertions of the logic the frame is proved in, at this instance. -/
local notation "𝕄" => MT nD τ sig Unit (Elt Ideal) ℕ (UR sig nD τ) ℕ

/-- The resource algebra of the pipeline's staging cells. -/
abbrev EP : Emb (UR sig nD τ) 𝕄 := emb₁

/-- Two tables within range: the expert of each tile, and the count of tiles in use. -/
structure Tables where
  te : S41.Idx → BitVec 32
  nu : S1.Idx → BitVec 32
  range : ∀ x, (te x).toNat < 8

variable (ch : Tables)

/-- The tables as the pipeline takes them. -/
def pfN : pre0.Contents (Elt Ideal) := fun | ⟨0, _⟩ => ch.te | ⟨1, _⟩ => ch.nu | ⟨_ + 2, h⟩ => absurd h (by simp)

/-- The launch memory holds these tables. -/
def Pinned (m : (ℓ : Loc nD τ sig) → Buf (Elt Ideal) ℓ) : Prop :=
  (∀ c : Dev nD, m ((c : Thread nD τ).loc main_arg0) = ch.te) ∧ (∀ c : Dev nD, m ((c : Thread nD τ).loc main_arg1) = ch.nu)

theorem step_le (c : BitVec 1) (i : grid0.Coords) : (Scalar.select c (BitVec.ofNat 32 (i 1).val) 13#32 : BitVec 32).toNat ≤ 13 := by
  have hi : (i 1).val < 14 := (i 1).isLt
  unfold Scalar.select
  split
  · rw [BitVec.toNat_ofNat, Nat.mod_eq_of_lt (by omega)]; omega
  · decide

theorem inb_1 (i : grid0.Coords) (a : Fin 3) :
    (cc0_transform_1 k0_off1_inb numel1_S1 inb_S1_S1_0 (pfN ch) i a + 1) * S1x2048x512.size a ≤ S8x2048x7168.size a := by
  fin_cases a
  · have h := ch.range ((Rect.unit (s := S41) (k0_off1 i) S1.size (k0_off1_inb i)).emb (Shape.Idx.first (numel1_S1.symm ▸ Nat.one_pos)))
    exact (Nat.mul_one _).trans_le h
  · exact Nat.le_refl 2048
  · have h := step_le (Scalar.cmpi .slt (BitVec.ofNat 32 (i 0).val) ((pfN ch).at 1 (Rect.unit (s := S1) ![0] S1.size inb_S1_S1_0) numel1_S1)) i
    exact (Nat.mul_le_mul_right 512 (Nat.succ_le_succ h))

theorem inb_2 (i : grid0.Coords) (a : Fin 3) :
    (cc0_transform_2 k0_off1_inb numel1_S1 inb_S1_S1_0 (pfN ch) i a + 1) * S1x2048x512.size a ≤ S8x2048x7168.size a := by
  fin_cases a
  · have h := ch.range ((Rect.unit (s := S41) (k0_off1 i) S1.size (k0_off1_inb i)).emb (Shape.Idx.first (numel1_S1.symm ▸ Nat.one_pos)))
    exact (Nat.mul_one _).trans_le h
  · exact Nat.le_refl 2048
  · have h := step_le (Scalar.cmpi .slt (BitVec.ofNat 32 (i 0).val) ((pfN ch).at 1 (Rect.unit (s := S1) ![0] S1.size inb_S1_S1_0) numel1_S1)) i
    exact (Nat.mul_le_mul_right 512 (Nat.succ_le_succ h))

theorem inb_3 (i : grid0.Coords) (a : Fin 3) :
    (cc0_transform_3 k0_off1_inb numel1_S1 inb_S1_S1_0 (pfN ch) i a + 1) * S1x512x2048.size a ≤ S8x7168x2048.size a := by
  fin_cases a
  · have h := ch.range ((Rect.unit (s := S41) (k0_off1 i) S1.size (k0_off1_inb i)).emb (Shape.Idx.first (numel1_S1.symm ▸ Nat.one_pos)))
    exact (Nat.mul_one _).trans_le h
  · have h := step_le (Scalar.cmpi .slt (BitVec.ofNat 32 (i 0).val) ((pfN ch).at 1 (Rect.unit (s := S1) ![0] S1.size inb_S1_S1_0) numel1_S1)) i
    exact (Nat.mul_le_mul_right 512 (Nat.succ_le_succ h))
  · exact Nat.le_refl 2048

/-- Every block the tables name lies inside its weight array. -/
theorem ok_pfN : ok0 (F := Ideal) (pfN ch) := ⟨fun i => ⟨inb_1 ch i, .inl rfl⟩, fun i => ⟨inb_2 ch i, .inl rfl⟩, fun i => ⟨inb_3 ch i, .inl rfl⟩⟩

/-- The pipeline at the tables, of 574 points. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1024x2048 .bf16 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x2048x512 .f32 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x2048x512 .f32 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x512x2048 .f32 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S1024x2048 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point -/

abbrev P0_0 (t : Fin (cfgA ch).N) : Prop := k0_cond1 (crd ch t) = 1#1
abbrev P0_1 (t : Fin (cfgA ch).N) : Prop := k0_cond2 (crd ch t) (View.readAt (Elt Ideal) (tbM0_1).view (Rect.unit (s := S1) ![0] S1.size inb_S1_S1_0).toLoadRect (ch.nu) (Shape.Idx.first (numel1_S1.symm ▸ Nat.one_pos))) = 1#1

/-! ## The schedule, from a point's coordinates -/

/-- Tables of zeros: what does not depend on the tables is computed at these. -/
def zero : Tables := ⟨fun _ => 0#32, fun _ => 0#32, fun _ => by decide⟩

theorem flush_zero : ∀ t : Fin (cfgA zero).N, ((cfgA zero).win (4 : Fin 5)).flush t = decide (t.val % 14 = 13) := by decide +kernel
theorem cond1_zero : ∀ t : Fin (cfgA zero).N, (k0_cond1 (crd zero t) = 1#1) ↔ t.val % 14 = 0 := by decide +kernel

theorem flush_4 (t : Fin (cfgA ch).N) : ((cfgA ch).win (4 : Fin 5)).flush t = decide (t.val % 14 = 13) := flush_zero t
theorem cond1_iff (t : Fin (cfgA ch).N) : P0_0 ch t ↔ t.val % 14 = 0 := cond1_zero t

/-- The count of tiles in use. -/
def used : BitVec 32 := ch.nu fun a => ⟨0, (by decide : ∀ a, 0 < S1.size a) a⟩

theorem used_eq (x : S1.Idx) : ch.nu x = used ch := by
  unfold used
  refine congrArg ch.nu (funext fun a => ?_)
  have h : (x a).val < 1 := (x a).isLt.trans_le ((by decide : ∀ a, S1.size a ≤ 1) a)
  exact Fin.ext (show (x a).val = 0 by omega)

theorem word_eq : View.readAt (Elt Ideal) (tbM0_1).view (Rect.unit (s := S1) ![0] S1.size inb_S1_S1_0).toLoadRect ch.nu (Shape.Idx.first (numel1_S1.symm ▸ Nat.one_pos)) = used ch :=
  used_eq ch _

theorem atD_eq : (pfN ch).atD 1 ![0] = used ch := by
  unfold Pipeline.Prefetch.Contents.atD
  rw [dif_pos (by decide)]
  exact used_eq ch _

theorem cond2_iff (t : Fin (cfgA ch).N) : P0_1 ch t ↔ k0_cond2 (crd ch t) (used ch) = 1#1 := by
  show k0_cond2 _ _ = _ ↔ _
  rw [word_eq]

theorem idle_4 (t : Fin (cfgA ch).N) : (cfgA ch).idle (4 : Fin 5) ((cfgA ch).grid.coords t)
    = (!(k0_cond1 (crd ch t) == 1#1) && !(k0_cond2 (crd ch t) (used ch) == 1#1)) := by
  show (!(k0_cond1 (crd ch t) == 1#1) && !(k0_cond2 (crd ch t) ((pfN ch).atD 1 ![0]) == 1#1)) = _
  rw [atD_eq]

/-- Whether the output's buffer holds nothing yet before a position: at the start of a tile. -/
def frTab0_4 (n : ℕ) : Bool := decide (n % 14 = 0)

theorem frTab0_4_step (t : Fin (cfgA ch).N) :
    frTab0_4 (t.val + 1) = (((cfgA ch).win (4 : Fin 5)).flush t || ((cfgA ch).idle (4 : Fin 5) ((cfgA ch).grid.coords t) && frTab0_4 t.val)) := by
  rw [flush_4, idle_4]
  unfold frTab0_4
  by_cases h : t.val % 14 = 0
  · rw [(cond1_iff ch t).2 h]
    simp [show ¬(t.val + 1) % 14 = 0 by omega, show ¬t.val % 14 = 13 by omega]
  · have e : ((t.val + 1) % 14 = 0) ↔ (t.val % 14 = 13) := by omega
    simp [h, e]

theorem freshF0_4 (t : Fin (cfgA ch).N) : (cfgA ch).fresh (4 : Fin 5) t.val = frTab0_4 t.val :=
  Pipeline.Cfg.fresh_tab (cfgA ch) (4 : Fin 5) frTab0_4 rfl (frTab0_4_step ch) t.val (Nat.le_of_lt t.isLt)

theorem sched0_A (t : Fin (cfgA ch).N) (h0 : P0_0 ch t) (h1 : P0_1 ch t) :
    (cfgA ch).idle (4 : Fin 5) ((cfgA ch).grid.coords t) = false ∧ ((cfgA ch).win (4 : Fin 5)).flush t = false ∧ (cfgA ch).fresh (4 : Fin 5) t.val = true := by
  have e := (cond1_iff ch t).1 h0
  rw [freshF0_4, idle_4, flush_4]
  exact ⟨by rw [show k0_cond1 (crd ch t) = 1#1 from h0]; rfl, decide_eq_false (by omega), decide_eq_true e⟩

theorem sched0_C (t : Fin (cfgA ch).N) (h0 : P0_0 ch t) (h1 : ¬P0_1 ch t) :
    (cfgA ch).idle (4 : Fin 5) ((cfgA ch).grid.coords t) = false ∧ ((cfgA ch).win (4 : Fin 5)).flush t = false ∧ (cfgA ch).fresh (4 : Fin 5) t.val = true := by
  have e := (cond1_iff ch t).1 h0
  rw [freshF0_4, idle_4, flush_4]
  exact ⟨by rw [show k0_cond1 (crd ch t) = 1#1 from h0]; rfl, decide_eq_false (by omega), decide_eq_true e⟩

theorem sched0_B (t : Fin (cfgA ch).N) (h0 : ¬P0_0 ch t) (h1 : P0_1 ch t) :
    (cfgA ch).idle (4 : Fin 5) ((cfgA ch).grid.coords t) = false ∧ (cfgA ch).fresh (4 : Fin 5) t.val = false := by
  have e := fun h => h0 ((cond1_iff ch t).2 h)
  rw [freshF0_4, idle_4]
  exact ⟨by rw [(cond2_iff ch t).1 h1]; exact Bool.and_false _, decide_eq_false e⟩

theorem sched0_D (t : Fin (cfgA ch).N) (h0 : ¬P0_0 ch t) (h1 : ¬P0_1 ch t) :
    (cfgA ch).idle (4 : Fin 5) ((cfgA ch).grid.coords t) = true ∧ (cfgA ch).fresh (4 : Fin 5) t.val = false := by
  have e := fun h => h0 ((cond1_iff ch t).2 h)
  rw [freshF0_4, idle_4]
  refine ⟨?_, decide_eq_false e⟩
  rw [beq_eq_false_iff_ne.2 h0, beq_eq_false_iff_ne.2 fun h => h1 ((cond2_iff ch t).2 h)]
  rfl

/-! ## What the outputs and scratches hold after each point -/

/-- What the output's buffer holds after a point, from what it held before: the path taken there says. -/
def step0 (c : Dev nD) (t : Fin (cfgA ch).N) (prev : (S1024x2048.Idx → Elt Ideal .f32)) : (S1024x2048.Idx → Elt Ideal .f32) :=
  if q0 : P0_0 ch t then
    if q1 : P0_1 ch t then
      out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1
    else
      out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1
  else
    if q1 : P0_1 ch t then
      out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) prev q0 q1
    else
      (if (cfgA ch).fresh (4 : Fin 5) t.val then default else prev)

/-- What the output's buffer holds after each position. -/
def traj0 (c : Dev nD) : (n : ℕ) → n < (cfgA ch).N → (S1024x2048.Idx → Elt Ideal .f32)
  | 0, h => step0 ch m ρ c ⟨0, h⟩ default
  | n + 1, h => step0 ch m ρ c ⟨n + 1, h⟩ (traj0 c n (Nat.lt_of_succ_lt h))

/-- What it held before a point. -/
def prev0 (c : Dev nD) (t : Fin (cfgA ch).N) : (S1024x2048.Idx → Elt Ideal .f32) :=
  if h : t.val = 0 then default else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

theorem step0_A (c : Dev nD) (t : Fin (cfgA ch).N) (prev : (S1024x2048.Idx → Elt Ideal .f32)) (q0 : P0_0 ch t) (q1 : P0_1 ch t) :
    step0 ch m ρ c t prev = out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1 := by
  unfold step0; simp only [dif_pos q0, dif_pos q1]

theorem step0_B (c : Dev nD) (t : Fin (cfgA ch).N) (prev : (S1024x2048.Idx → Elt Ideal .f32)) (q0 : ¬P0_0 ch t) (q1 : P0_1 ch t) :
    step0 ch m ρ c t prev = out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) prev q0 q1 := by
  unfold step0; simp only [dif_neg q0, dif_pos q1]

theorem step0_C (c : Dev nD) (t : Fin (cfgA ch).N) (prev : (S1024x2048.Idx → Elt Ideal .f32)) (q0 : P0_0 ch t) (q1 : ¬P0_1 ch t) :
    step0 ch m ρ c t prev = out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1 := by
  unfold step0; simp only [dif_pos q0, dif_neg q1]

theorem step0_D (c : Dev nD) (t : Fin (cfgA ch).N) (prev : (S1024x2048.Idx → Elt Ideal .f32)) (q0 : ¬P0_0 ch t) (q1 : ¬P0_1 ch t) :
    step0 ch m ρ c t prev = (if (cfgA ch).fresh (4 : Fin 5) t.val then default else prev) := by
  unfold step0; simp only [dif_neg q0, dif_neg q1]

/-! ## The pipeline's proof data -/

/-- What it held before a position. -/
def prev0T (c : Dev nD) (t : Fin ((cfgA ch).N + 1)) : (S1024x2048.Idx → Elt Ideal .f32) :=
  if h : t.val = 0 then default else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- What is held besides the buffers: the tables. -/
def Phi (m : (ℓ : Loc nD τ sig) → Buf (Elt Ideal) ℓ) (ρ : Dev nD → PrngReg) (c : Dev nD) (t : Fin ((cfgA ch).N + 1)) : sProp 𝕄 :=
  iprop((tbM0_0.view.loc (c : Thread nD τ) ↦{fullShare.right} ch.te) ∗ (tbM0_1.view.loc (c : Thread nD τ) ↦{fullShare.right} ch.nu))

/-- The proof data of the pipeline. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt)
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt) := rfl

/-! ## What each window's staging buffer holds when the body runs -/

/-- Input 0 holds its block. -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input 1 holds its block. -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input 2 holds its block. -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input 3 holds its block. -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- A point that stores nothing leaves the output as it was. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · by_cases q1 : P0_1 ch t
    · obtain ⟨i4, -, -⟩ := sched0_A ch t q0 q1
      rw [i4] at hi; exact absurd hi (by decide)
    · obtain ⟨i4, -, -⟩ := sched0_C ch t q0 q1
      rw [i4] at hi; exact absurd hi (by decide)
  · by_cases q1 : P0_1 ch t
    · obtain ⟨i4, -⟩ := sched0_B ch t q0 q1
      rw [i4] at hi; exact absurd hi (by decide)
    · rw [step0_D ch m ρ c t _ q0 q1]
      simp only [hf, Bool.false_eq_true, ↓reduceIte]
      unfold prev0; rw [dif_neg ht]

/-- The output holds what the point before left, or nothing known at the start of a tile. -/
theorem before0_4 (c : Dev nD) (t : Fin (cfgA ch).N) (d) :
    (dats ch m ρ 0 c).before (4 : Fin 5) t d = if (cfgA ch).fresh (4 : Fin 5) t.val then d else (prev0 ch m ρ c t) := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at a point. -/
abbrev bodyAt0 (t : Fin (cfgA ch).N) : Prog (TpuEff nD τ sig (Elt Ideal) Λ₀ .tc) PUnit :=
  cc0_moe_ffn (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t)

set_option maxHeartbeats 4000000 in
/-- The body runs at a point, by the path taken there. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i4, f4, fr4⟩ := sched0_A ch t q0 q1
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_A_4 c _ _ _ _ _ _ _ _ _ _ _ _ _ _ _ _ _ _ _)
    · obtain ⟨i4, f4, fr4⟩ := sched0_C ch t q0 q1
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_C_4 c _ _ _ _ _ _ _ _ _ _ _ _ _ _ _ _ _ _ _)
  · by_cases q1 : P0_1 ch t
    · obtain ⟨i4, fr4⟩ := sched0_B ch t q0 q1
      rewrite [i4]
      simp only [before0_0, before0_1, before0_2, before0_3, before0_4, after0_0, after0_1, after0_2, after0_3, after0_4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      iintro ⟨⟨HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) _ q0 q1).2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, ⟨%e4, H4⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _)
    · obtain ⟨i4, fr4⟩ := sched0_D ch t q0 q1
      cases f4 : ((cfgA ch).win (4 : Fin 5)).flush t
      · rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ]
        iintro ⟨⟨HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1]
        unfold Phi; simp only [prev0T_castSucc, prev0T_succ, traj0_eq, step0_D ch m ρ c t _ q0 q1, Fin.val_castSucc, Fin.val_succ, fr4, Bool.false_eq_true, ↓reduceIte]
        iintro ⟨⟨HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ch.te) (ch.nu) (iblk ch m ρ c (0 : Fin 5) t) (iblk ch m ρ c (1 : Fin 5) t) (iblk ch m ρ c (2 : Fin 5) t) (iblk ch m ρ c (3 : Fin 5) t) q0 q1).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        iintro ⟨H0, H1, H2, H3, HT0, HT1, H4⟩
        isplitl [HT0 HT1]
        · isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The body runs at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The element the launch starts from. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables. -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, -⟩
  isplitl [HT0]
  · iexact HT0
  iexact HT1

/-- At the last point the tables are let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨-, -⟩
  isplitr; · iempintro
  iempintro

/-- The final memory: every array at what the pipeline computes, every table unchanged. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- Every run ends there, with every counter at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- The arguments end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- The frame, from a memory that holds the tables. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Kernel4Ideal.Moe

end
-- ==== Proof.Moe.lean ====
/- The mixture-of-experts feed-forward as a function of its arrays and its tables: every element of the result. -/
module

public import Idealize.ShloMosaic.Lib.Pointwise
public import Idealize.ShloMosaic.Lib.Pipeline.ValueKit

@[expose] public section

noncomputable section

namespace Cert.Moe

open Idealize.ShloMosaic

variable (X : Vec Ideal ⟨2, ![41984, 2048]⟩ .bf16) (Wg Wu : Vec Ideal ⟨3, ![8, 2048, 7168]⟩ .f32) (Wd : Vec Ideal ⟨3, ![8, 7168, 2048]⟩ .f32)

/-- Hidden element `f` of row `q` under expert `g`, before the gate. -/
def proj (W : Vec Ideal ⟨3, ![8, 2048, 7168]⟩ .f32) (g : Fin 8) (q : Fin 41984) (f : Fin 7168) : EReal :=
  ∑ x : Fin 2048, X (ix2 q x) * W (ix3 g x f)

/-- Hidden element `f` of row `q` under expert `g`, gated. -/
def act (g : Fin 8) (q : Fin 41984) (f : Fin 7168) : EReal := proj X Wg g q f * Ideal.logistic (proj X Wg g q f) * proj X Wu g q f

/-- What hidden element `f` brings to element `e` of row `q`. -/
def lane (g : Fin 8) (q : Fin 41984) (e : Fin 2048) (f : ℕ) : EReal :=
  if hf : f < 7168 then act X Wg Wu g q ⟨f, hf⟩ * Wd (ix3 g ⟨f, hf⟩ e) else 0

/-- The same over a chunk of 512 hidden elements. -/
def chunk (g : Fin 8) (q : Fin 41984) (e : Fin 2048) (k : ℕ) : EReal := ∑ f ∈ Finset.range 512, lane X Wg Wu Wd g q e (k * 512 + f)

/-- Row `q` under expert `g`. -/
def down (g : Fin 8) (q : Fin 41984) (e : Fin 2048) : EReal := ∑ f : Fin 7168, act X Wg Wu g q f * Wd (ix3 g f e)

/-- The chunks together are all the hidden elements. -/
theorem sum_chunks (g : Fin 8) (q : Fin 41984) (e : Fin 2048) : ∑ k ∈ Finset.range 14, chunk X Wg Wu Wd g q e k = down X Wg Wu Wd g q e := by
  have h := (Finset.sum_range_mul_split 14 512 (lane X Wg Wu Wd g q e)).symm
  refine h.trans ?_
  rw [← Fin.sum_univ_eq_sum_range]
  exact Finset.sum_congr rfl fun f _ => by rw [lane, dif_pos f.isLt]

/-- The tile a row lies in. -/
def tile (q : Fin 41984) : Fin 41 := ⟨q / 1024, by omega⟩

/-- Whether tile `b` is in use, by the count of tiles. -/
def live (n : BitVec 32) (b : ℕ) : Prop := Scalar.cmpi .slt (BitVec.ofNat 32 b) n = 1#1

instance (n : BitVec 32) (b : ℕ) : Decidable (live n b) := inferInstanceAs (Decidable (_ = _))

/-- An expert's number read off a table's word. -/
def expert (w : BitVec 32) (h : w.toNat < 8) : Fin 8 := ⟨w.toNat, h⟩

/-- The result: a row of a tile in use under the tile's expert, zero elsewhere. -/
def out (te : Vec Ideal ⟨1, ![41]⟩ .i32) (h : ∀ x, BitVec.toNat (te x) < 8) (n : BitVec 32) (q : Fin 41984) (e : Fin 2048) : EReal :=
  if live n (tile q) then down X Wg Wu Wd (expert (te (ix1 (tile q))) (h _)) q e else 0

end Cert.Moe

end
-- ==== Proof.MoeBlockIdeal.lean ====
/- The mixture-of-experts call, point by point: what each grid point's body computes from its blocks, the running sums over the chunks of
   the hidden elements, and the array of results. -/
module

public import proofs.«01_k».proof.Proof.MoeFrameIdeal
public import proofs.«01_k».proof.Proof.Moe
public import Idealize.ShloMosaic.Lib.Pipeline.ValueKit
public import Idealize.ShloMosaic.Lib.Pointwise

@[expose] public section

set_option maxRecDepth 16384

noncomputable section

namespace Cert.Kernel4Ideal.Moe

open Cert.Kernel4Ideal Cert.Kernel4Ideal.Gen Cert.Moe
open Idealize.ShloMosaic Idealize.ShloMosaic.TcCoe Idealize.ShloMosaic.Tactic
open Idealize.SL.Sem
open Idealize.ShloMosaic.Pipeline (Dat Cfg Window)

theorem pay1_at (r : Fin 1024) (e : Fin 2048) : (k0_pay1 (F := Ideal)) (ix2 r e) = 0 := by
  unfold k0_pay1
  pointwise

theorem pay2_at (v7 : Vec Ideal S1024x2048 .bf16) (v8 v12 : Vec Ideal S1x2048x512 .f32) (v20 : Vec Ideal S1024x2048 .f32) (v22 : Vec Ideal S1x512x2048 .f32) (r : Fin 1024) (e : Fin 2048) :
    k0_pay2 v7 v8 v12 v20 v22 (ix2 r e) = v20 (ix2 r e) + ∑ x : Fin 512,
      ((∑ y : Fin 2048, v7 (ix2 r y) * v8 (ix3 0 y x)) * Ideal.logistic (∑ y : Fin 2048, v7 (ix2 r y) * v8 (ix3 0 y x)) *
        ∑ y : Fin 2048, v7 (ix2 r y) * v12 (ix3 0 y x)) * v22 (ix3 0 x e) := by
  unfold k0_pay2
  pointwise

variable (ch : Tables) (m : (ℓ : Loc nD τ sig) → Buf (Elt Ideal) ℓ) (ρ : Dev nD → PrngReg)

theorem N_eq : (cfgA ch).N = 574 := (by decide +kernel : (cfgA zero).N = 574)

theorem crd_zero : ∀ t : Fin (cfgA zero).N, (crd zero t 0).val = t.val / 14 ∧ (crd zero t 1).val = t.val % 14 := by decide +kernel
theorem crd_0 (t : Fin (cfgA ch).N) : (crd ch t 0).val = t.val / 14 := (crd_zero t).1
theorem crd_1 (t : Fin (cfgA ch).N) : (crd ch t 1).val = t.val % 14 := (crd_zero t).2

theorem idx0_zero : ∀ t : Fin (cfgA zero).N, ((cfgA zero).win (0 : Fin 5)).index t = ![t.val / 14, 0] := by decide +kernel
theorem idx4_zero : ∀ t : Fin (cfgA zero).N, ((cfgA zero).win (4 : Fin 5)).index t = ![t.val / 14, 0] := by decide +kernel
theorem idx0 (t : Fin (cfgA ch).N) : ((cfgA ch).win (0 : Fin 5)).index t = ![t.val / 14, 0] := idx0_zero t
theorem idx4 (t : Fin (cfgA ch).N) : ((cfgA ch).win (4 : Fin 5)).index t = ![t.val / 14, 0] := idx4_zero t

theorem bit_iff : ∀ b : BitVec 1, Scalar.cmpi .ne (Scalar.extui b : BitVec 32) 0#32 = 1#1 ↔ b = 1#1 := by decide

theorem cond2_live (t : Fin (cfgA ch).N) : P0_1 ch t ↔ live (used ch) (t.val / 14) := by
  rw [cond2_iff, ← crd_0 ch t]
  exact bit_iff _

/-- The expert of a tile. -/
def ex (b : Fin 41) : Fin 8 := expert (ch.te (ix1 b)) (ch.range _)

/-- The tile of a position. -/
abbrev tl (n : ℕ) (hn : n < 574) : Fin 41 := ⟨n / 14, by omega⟩

theorem off_val : ∀ i : Fin 41, (Scalar.indexCast (BitVec.ofNat 32 i.val) : Index).toNat = i.val := by decide
theorem step_val : ∀ i : Fin 14, (BitVec.ofNat 32 i.val).toNat = i.val := by decide

theorem word_te (t : Fin (cfgA ch).N) : ch.te ((Rect.unit (s := S41) (k0_off1 (crd ch t)) S1.size (k0_off1_inb (crd ch t))).emb (Shape.Idx.first (numel1_S1.symm ▸ Nat.one_pos)))
    = ch.te (ix1 (tl t (N_eq ch ▸ t.isLt))) := by
  refine congrArg ch.te (funext fun a => Fin.ext ?_)
  fin_cases a
  exact (Nat.add_zero _).trans ((off_val ⟨(crd ch t 0).val, (crd ch t 0).isLt⟩).trans (crd_0 ch t))

theorem pick (t : Fin (cfgA ch).N) (hl : live (used ch) (t.val / 14)) :
    (Scalar.select (Scalar.cmpi .slt (BitVec.ofNat 32 (crd ch t 0).val) ((pfN ch).at 1 (Rect.unit (s := S1) ![0] S1.size inb_S1_S1_0) numel1_S1)) (BitVec.ofNat 32 (crd ch t 1).val) 13#32 : BitVec 32).toNat = t.val % 14 := by
  rw [show (pfN ch).at 1 (Rect.unit (s := S1) ![0] S1.size inb_S1_S1_0) numel1_S1 = used ch from used_eq ch _, crd_0 ch t]
  rw [show Scalar.cmpi .slt (BitVec.ofNat 32 (t.val / 14)) (used ch) = 1#1 from hl]
  exact (step_val ⟨(crd ch t 1).val, (crd ch t 1).isLt⟩).trans (crd_1 ch t)

theorem idx1 (t : Fin (cfgA ch).N) (hl : live (used ch) (t.val / 14)) :
    ((cfgA ch).win (1 : Fin 5)).index t = ![(ex ch (tl t (N_eq ch ▸ t.isLt))).val, 0, t.val % 14] := by
  have h : _ = (ch.te (ix1 (tl t.val (N_eq ch ▸ t.isLt)))).toNat := congrArg BitVec.toNat (word_te ch t)
  funext a
  match a with
  | ⟨0, _⟩ => exact h
  | ⟨1, _⟩ => rfl
  | ⟨2, _⟩ => exact pick ch t hl

theorem idx2 (t : Fin (cfgA ch).N) (hl : live (used ch) (t.val / 14)) :
    ((cfgA ch).win (2 : Fin 5)).index t = ![(ex ch (tl t (N_eq ch ▸ t.isLt))).val, 0, t.val % 14] := by
  have h : _ = (ch.te (ix1 (tl t.val (N_eq ch ▸ t.isLt)))).toNat := congrArg BitVec.toNat (word_te ch t)
  funext a
  match a with
  | ⟨0, _⟩ => exact h
  | ⟨1, _⟩ => rfl
  | ⟨2, _⟩ => exact pick ch t hl

theorem idx3 (t : Fin (cfgA ch).N) (hl : live (used ch) (t.val / 14)) :
    ((cfgA ch).win (3 : Fin 5)).index t = ![(ex ch (tl t (N_eq ch ▸ t.isLt))).val, t.val % 14, 0] := by
  have h : _ = (ch.te (ix1 (tl t.val (N_eq ch ▸ t.isLt)))).toNat := congrArg BitVec.toNat (word_te ch t)
  funext a
  match a with
  | ⟨0, _⟩ => exact h
  | ⟨1, _⟩ => exact pick ch t hl
  | ⟨2, _⟩ => rfl

/-- The row of the arrays that row `r` of a position's blocks is. -/
abbrev row (n : ℕ) (hn : n < 574) (r : Fin 1024) : Fin 41984 := ⟨n / 14 * 1024 + r, by omega⟩

/-- The blocks of a point. -/
def b0 (c : Dev nD) (t : Fin (cfgA ch).N) : Vec Ideal S1024x2048 .bf16 := iblk ch m ρ c 0 t
def b1 (c : Dev nD) (t : Fin (cfgA ch).N) : Vec Ideal S1x2048x512 .f32 := iblk ch m ρ c 1 t
def b2 (c : Dev nD) (t : Fin (cfgA ch).N) : Vec Ideal S1x2048x512 .f32 := iblk ch m ρ c 2 t
def b3 (c : Dev nD) (t : Fin (cfgA ch).N) : Vec Ideal S1x512x2048 .f32 := iblk ch m ρ c 3 t

theorem blk0 (c : Dev nD) (t : Fin (cfgA ch).N) (r : Fin 1024) (e : Fin 2048) :
    b0 ch m ρ c t (ix2 r e) = m (c.tc.loc main_arg2) (ix2 (row t (N_eq ch ▸ t.isLt) r) e) := by
  refine congrArg (m (c.tc.loc main_arg2)) (funext fun a => Fin.ext ?_)
  refine (((cfgA ch).win (0 : Fin 5)).rect_emb_val_off t (ix2 r e) a).trans ?_
  rw [idx0]
  match a with
  | ⟨0, _⟩ => rfl
  | ⟨1, _⟩ => exact Nat.zero_add _

theorem blk1 (c : Dev nD) (t : Fin (cfgA ch).N) (hl : live (used ch) (t.val / 14)) (r : Fin 2048) (e : Fin 512) :
    b1 ch m ρ c t (ix3 0 r e)
      = m (c.tc.loc main_arg3) (ix3 (ex ch (tl t (N_eq ch ▸ t.isLt))) r ⟨t.val % 14 * 512 + e, by omega⟩) := by
  refine congrArg (m (c.tc.loc main_arg3)) (funext fun a => Fin.ext ?_)
  refine (((cfgA ch).win (1 : Fin 5)).rect_emb_val_off t (ix3 0 r e) a).trans ?_
  rw [idx1 ch t hl]
  match a with
  | ⟨0, _⟩ => exact Nat.mul_one _
  | ⟨1, _⟩ => exact Nat.zero_add _
  | ⟨2, _⟩ => rfl

theorem blk2 (c : Dev nD) (t : Fin (cfgA ch).N) (hl : live (used ch) (t.val / 14)) (r : Fin 2048) (e : Fin 512) :
    b2 ch m ρ c t (ix3 0 r e)
      = m (c.tc.loc main_arg4) (ix3 (ex ch (tl t (N_eq ch ▸ t.isLt))) r ⟨t.val % 14 * 512 + e, by omega⟩) := by
  refine congrArg (m (c.tc.loc main_arg4)) (funext fun a => Fin.ext ?_)
  refine (((cfgA ch).win (2 : Fin 5)).rect_emb_val_off t (ix3 0 r e) a).trans ?_
  rw [idx2 ch t hl]
  match a with
  | ⟨0, _⟩ => exact Nat.mul_one _
  | ⟨1, _⟩ => exact Nat.zero_add _
  | ⟨2, _⟩ => rfl

theorem blk3 (c : Dev nD) (t : Fin (cfgA ch).N) (hl : live (used ch) (t.val / 14)) (r : Fin 512) (e : Fin 2048) :
    b3 ch m ρ c t (ix3 0 r e)
      = m (c.tc.loc main_arg5) (ix3 (ex ch (tl t (N_eq ch ▸ t.isLt))) ⟨t.val % 14 * 512 + r, by omega⟩ e) := by
  refine congrArg (m (c.tc.loc main_arg5)) (funext fun a => Fin.ext ?_)
  refine (((cfgA ch).win (3 : Fin 5)).rect_emb_val_off t (ix3 0 r e) a).trans ?_
  rw [idx3 ch t hl]
  match a with
  | ⟨0, _⟩ => exact Nat.mul_one _
  | ⟨1, _⟩ => rfl
  | ⟨2, _⟩ => exact Nat.zero_add _

/-- The sums over a point's chunk. -/
abbrev part (c : Dev nD) (g : Fin 8) (q : Fin 41984) (e : Fin 2048) (k : ℕ) : EReal :=
  chunk (m (c.tc.loc main_arg2)) (m (c.tc.loc main_arg3)) (m (c.tc.loc main_arg4)) (m (c.tc.loc main_arg5)) g q e k

/-- A point's body, where its tile is in use, adds its chunk to what it finds. -/
theorem step_at (c : Dev nD) (t : Fin (cfgA ch).N) (hl : live (used ch) (t.val / 14)) (v : Vec Ideal S1024x2048 .f32) (r : Fin 1024) (e : Fin 2048) :
    k0_pay2 (b0 ch m ρ c t) (b1 ch m ρ c t) (b2 ch m ρ c t) v (b3 ch m ρ c t) (ix2 r e)
      = v (ix2 r e) + part m c (ex ch (tl t (N_eq ch ▸ t.isLt))) (row t (N_eq ch ▸ t.isLt) r) e (t.val % 14) := by
  rw [pay2_at]
  refine congrArg (v (ix2 r e) + ·) ?_
  rw [part, chunk, ← Fin.sum_univ_eq_sum_range]
  refine Finset.sum_congr rfl fun x _ => ?_
  rw [lane, dif_pos (by omega), act, proj, proj]
  simp only [blk0, blk1 ch m ρ c t hl, blk2 ch m ρ c t hl, blk3 ch m ρ c t hl]

theorem outA (c : Dev nD) (t : Fin (cfgA ch).N) (h0 : P0_0 ch t) (h1 : P0_1 ch t) :
    traj0 ch m ρ c t.val t.isLt = k0_pay2 (b0 ch m ρ c t) (b1 ch m ρ c t) (b2 ch m ρ c t) (k0_pay1 (F := Ideal)) (b3 ch m ρ c t) := by
  rw [traj0_eq, step0_A ch m ρ c t _ h0 h1]
  frame_out
  simp only [View.read_rep]
  rfl

theorem outB (c : Dev nD) (t : Fin (cfgA ch).N) (h0 : ¬P0_0 ch t) (h1 : P0_1 ch t) :
    traj0 ch m ρ c t.val t.isLt = k0_pay2 (b0 ch m ρ c t) (b1 ch m ρ c t) (b2 ch m ρ c t) (prev0 ch m ρ c t) (b3 ch m ρ c t) := by
  rw [traj0_eq, step0_B ch m ρ c t _ h0 h1]
  frame_out
  simp only [View.read_rep]
  rfl

theorem outC (c : Dev nD) (t : Fin (cfgA ch).N) (h0 : P0_0 ch t) (h1 : ¬P0_1 ch t) :
    traj0 ch m ρ c t.val t.isLt = k0_pay1 (F := Ideal) := by
  rw [traj0_eq, step0_C ch m ρ c t _ h0 h1]
  frame_out

theorem outD (c : Dev nD) (t : Fin (cfgA ch).N) (h0 : ¬P0_0 ch t) (h1 : ¬P0_1 ch t) :
    traj0 ch m ρ c t.val t.isLt = prev0 ch m ρ c t := by
  rw [traj0_eq, step0_D ch m ρ c t _ h0 h1, (sched0_D ch t h0 h1).2]
  rfl

theorem prev_succ (c : Dev nD) (n : ℕ) (hn : n + 1 < (cfgA ch).N) : prev0 ch m ρ c ⟨n + 1, hn⟩ = traj0 ch m ρ c n (by omega) := by
  unfold prev0
  rw [dif_neg (Nat.succ_ne_zero n)]
  rfl

/-- In a tile in use the output's block holds the sums over the chunks so far. -/
theorem running (c : Dev nD) (r : Fin 1024) (e : Fin 2048) : ∀ (n : ℕ) (hn : n < (cfgA ch).N), live (used ch) (n / 14) →
    traj0 ch m ρ c n hn (ix2 r e) = ∑ k ∈ Finset.range (n % 14 + 1), part m c (ex ch (tl n (N_eq ch ▸ hn))) (row n (N_eq ch ▸ hn) r) e k := by
  intro n
  induction n with
  | zero =>
    intro hn hl
    refine (congrFun (outA ch m ρ c ⟨0, hn⟩ ((cond1_iff ch _).2 rfl) ((cond2_live ch _).2 hl)) _).trans ?_
    rw [step_at ch m ρ c ⟨0, hn⟩ hl, pay1_at]
    simp
  | succ n ih =>
    intro hn hl
    by_cases h0 : (n + 1) % 14 = 0
    · refine (congrFun (outA ch m ρ c ⟨n + 1, hn⟩ ((cond1_iff ch _).2 h0) ((cond2_live ch _).2 hl)) _).trans ?_
      rw [step_at ch m ρ c ⟨n + 1, hn⟩ hl, pay1_at]
      simp [h0]
    · refine (congrFun (outB ch m ρ c ⟨n + 1, hn⟩ (fun h => h0 ((cond1_iff ch _).1 h)) ((cond2_live ch _).2 hl)) _).trans ?_
      rw [step_at ch m ρ c ⟨n + 1, hn⟩ hl, prev_succ]
      have hN := N_eq ch
      have e0 : (n + 1) / 14 = n / 14 := by omega
      have e1 : (n + 1) % 14 = n % 14 + 1 := by omega
      have e2 : row (n + 1) (N_eq ch ▸ hn) r = row n (by omega) r := Fin.ext (by simp only [row]; omega)
      have e3 : tl (n + 1) (N_eq ch ▸ hn) = tl n (by omega) := Fin.ext e0
      rw [ih (by omega) (e0 ▸ hl)]
      simp only [e1, e2, e3]
      rw [Finset.sum_range_succ _ (n % 14 + 1)]

/-- In a tile not in use it holds zeros. -/
theorem idle_zero (c : Dev nD) : ∀ (n : ℕ) (hn : n < (cfgA ch).N), ¬live (used ch) (n / 14) →
    traj0 ch m ρ c n hn = k0_pay1 (F := Ideal) := by
  intro n
  induction n with
  | zero =>
    intro hn hl
    have h1 : ¬P0_1 ch ⟨0, hn⟩ := fun h => hl ((cond2_live ch ⟨0, hn⟩).1 h)
    exact outC ch m ρ c ⟨0, hn⟩ ((cond1_iff ch ⟨0, hn⟩).2 rfl) h1
  | succ n ih =>
    intro hn hl
    have h1 : ¬P0_1 ch ⟨n + 1, hn⟩ := fun h => hl ((cond2_live ch ⟨n + 1, hn⟩).1 h)
    by_cases h0 : (n + 1) % 14 = 0
    · exact outC ch m ρ c ⟨n + 1, hn⟩ ((cond1_iff ch ⟨n + 1, hn⟩).2 h0) h1
    · have h2 : ¬P0_0 ch ⟨n + 1, hn⟩ := fun h => h0 ((cond1_iff ch ⟨n + 1, hn⟩).1 h)
      refine (outD ch m ρ c ⟨n + 1, hn⟩ h2 h1).trans ?_
      have e0 : (n + 1) / 14 = n / 14 := by omega
      rw [prev_succ]
      exact ih (by omega) (fun h => hl (by rw [e0]; exact h))

/-- The result at an element. -/
abbrev val (c : Dev nD) (q : Fin 41984) (e : Fin 2048) : EReal :=
  out (m (c.tc.loc main_arg2)) (m (c.tc.loc main_arg3)) (m (c.tc.loc main_arg4)) (m (c.tc.loc main_arg5)) ch.te ch.range (used ch) q e

/-- The last point of a tile leaves its rows of the result. -/
theorem last_at (c : Dev nD) (t : Fin (cfgA ch).N) (h1 : t.val % 14 = 13) (r : Fin 1024) (e : Fin 2048) :
    traj0 ch m ρ c t.val t.isLt (ix2 r e) = val ch m c (row t (N_eq ch ▸ t.isLt) r) e := by
  have hN := N_eq ch
  have ht := t.isLt
  have e3 : tile (row t (N_eq ch ▸ t.isLt) r) = tl t (N_eq ch ▸ t.isLt) := Fin.ext (by simp only [tile, row]; omega)
  rw [val, out]
  by_cases hl : live (used ch) (t.val / 14)
  · rw [if_pos (show live (used ch) (tile (row t.val (N_eq ch ▸ t.isLt) r)).val from e3 ▸ hl), running ch m ρ c r e t.val t.isLt hl, h1, sum_chunks]
    have e4 : expert (ch.te (ix1 (tile (row t.val (N_eq ch ▸ t.isLt) r)))) (ch.range _) = ex ch (tl t (N_eq ch ▸ t.isLt)) := congrArg (ex ch) e3
    rw [e4]
  · rw [if_neg (show ¬live (used ch) (tile (row t.val (N_eq ch ▸ t.isLt) r)).val from e3 ▸ hl), idle_zero ch m ρ c t.val t.isLt hl, pay1_at]

/-- The array of results. -/
def G (c : Dev nD) : Vec Ideal S41984x2048 .f32 := fun i => val ch m c (i 0) (i 1)

theorem covers_zero : ((cfgA zero).win (4 : Fin 5)).Covers := by decide +kernel

/-- The blocks written back are all of the result, whatever the tables. -/
theorem covers_4 : ((cfgA ch).win (4 : Fin 5)).Covers := covers_zero

theorem last4 (t : Fin (cfgA ch).N) (hf : ((cfgA ch).win (4 : Fin 5)).flush t = true) : t.val % 14 = 13 :=
  of_decide_eq_true ((flush_4 ch t).symm.trans hf)

theorem final4 (c : Dev nD) : (dats ch m ρ 0 c).arrAt (4 : Fin 5) (cfgA ch).N = G ch m c := by
  refine (dats ch m ρ 0 c).arrAt_eq_of_covers (4 : Fin 5) _ (covers_4 ch) (fun t hf y => ?_) (Memref.isWhole_whole _)
  have e0 : (((((cfgA ch).win (4 : Fin 5)).blk t).view.emb y) 0 : ℕ) = t.val / 14 * 1024 + (y 0 : ℕ) :=
    (((cfgA ch).win (4 : Fin 5)).rect_emb_val_off t y 0).trans (by rw [idx4]; rfl)
  have e1 : (((((cfgA ch).win (4 : Fin 5)).blk t).view.emb y) 1 : ℕ) = (y 1 : ℕ) :=
    (((cfgA ch).win (4 : Fin 5)).rect_emb_val_off t y 1).trans (by rw [idx4]; exact Nat.zero_add _)
  have h : (dats ch m ρ 0 c).after (4 : Fin 5) t = traj0 ch m ρ c t.val t.isLt := after0_4 ch m ρ c t
  have h2 : traj0 ch m ρ c t.val t.isLt y = val ch m c (row t (N_eq ch ▸ t.isLt) (y 0)) (y 1) :=
    (congrArg (traj0 ch m ρ c t.val t.isLt) (eq_ix2 (n0 := 1024) (n1 := 2048) y)).trans (last_at ch m ρ c t (last4 ch t hf) (y 0) (y 1))
  refine (congrFun h y).trans (h2.trans ?_)
  exact congrArg₂ (val ch m c) (Fin.ext e0.symm) (Fin.ext e1.symm)

end Cert.Kernel4Ideal.Moe

end
-- ==== Proof.MoeRefIdeal.lean ====
/- The plain mixture of experts is the layer, element by element, where the table's words name experts. -/
module

public import proofs.«01_k».proof.Proof.Moe
public import proofs.«01_k».proof.Proof.Gen.Reference4Ideal.Run
public import Idealize.ShloMosaic.Lib.Pointwise
public import Idealize.ShloMosaic.Lib.Tactic.CleanTypes

@[expose] public section

set_option maxRecDepth 16384

noncomputable section

namespace Cert.Reference4Ideal.Moe

open Cert.Reference4Ideal Cert.Reference4Ideal.Gen Cert.Reference4Ideal.Facts Cert.Moe
open Idealize.ShloMosaic Idealize.ShloMosaic.TcCoe Idealize.ShloMosaic.Tactic

section Take
variable {α : Type} {N A B T : ℕ}

/-- The dimension numbers of a gather of whole matrices, one number of a matrix for each matrix of the result. -/
abbrev takeDims (N A B T : ℕ) (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf

/-- Such a gather at an element: the matrix's own element. -/
theorem take_at (wf : GatherDims.WF ⟨3, ![N, A, B]⟩ ⟨2, ![T, 1]⟩ ⟨3, ![T, A, B]⟩ [1, 2] [0] [] [0] [] 1 ![1, A, B])
    (x : (⟨3, ![N, A, B]⟩ : Shape).Idx → α) (idx : IVec ⟨2, ![T, 1]⟩ 32) (b : Fin T) (i : Fin A) (j : Fin B) (g : Fin N)
    (hg : (idx (ix2 b 0)).toInt.toNat = g.val) : Host.gather (takeDims N A B T wf) x idx (ix3 b i j) = x (ix3 g i j) := by
  unfold Host.gather
  refine congrArg x (funext fun a => Fin.ext ?_)
  show (takeDims N A B T wf).start (ix3 b i j) idx a + (takeDims N A B T wf).batchCoord (ix3 b i j) a + (takeDims N A B T wf).offCoord (ix3 b i j) a = _
  rw [GatherDims.batchCoord_eq_zero _ _ _ List.not_mem_nil, Nat.add_zero]
  match a with
  | ⟨0, _⟩ =>
    show (takeDims N A B T wf).start (ix3 b i j) idx 0 + (takeDims N A B T wf).offCoord (ix3 b i j) 0 = g.val
    rw [GatherDims.offCoord_eq_zero _ _ _ (fun h => ((GatherDims.mem_sKept _ _).mp h).1 (List.mem_singleton.mpr rfl)), Nat.add_zero]
    unfold GatherDims.start
    rw [dif_pos (show (0 : Fin 3) ∈ (takeDims N A B T wf).startIndexMap from List.mem_singleton.mpr rfl)]
    have hsi : (takeDims N A B T wf).siIdx (ix3 b i j) ⟨List.idxOf (0 : Fin 3) (takeDims N A B T wf).startIndexMap,
        List.idxOf_lt_length_iff.2 (List.mem_singleton.mpr rfl)⟩ = ix2 b (0 : Fin 1) := by
      funext b'; refine Fin.ext ?_
      match b' with
      | ⟨0, _⟩ => rfl
      | ⟨1, _⟩ => rfl
    rw [hsi, hg]
    show min g.val (N - 1) = g.val
    omega
  | ⟨1, _⟩ =>
    show (takeDims N A B T wf).start (ix3 b i j) idx 1 + (takeDims N A B T wf).offCoord (ix3 b i j) 1 = i.val
    unfold GatherDims.start GatherDims.offCoord
    rw [dif_neg (show (1 : Fin 3) ∉ ([0] : List (Fin 3)) by decide),
      dif_pos ((GatherDims.mem_sKept _ _).mpr ⟨show (1 : Fin 3) ∉ ([0] : List (Fin 3)) by decide, List.not_mem_nil⟩), Nat.zero_add]
    rfl
  | ⟨2, _⟩ =>
    show (takeDims N A B T wf).start (ix3 b i j) idx 2 + (takeDims N A B T wf).offCoord (ix3 b i j) 2 = j.val
    unfold GatherDims.start GatherDims.offCoord
    rw [dif_neg (show (2 : Fin 3) ∉ ([0] : List (Fin 3)) by decide),
      dif_pos ((GatherDims.mem_sKept _ _).mpr ⟨show (2 : Fin 3) ∉ ([0] : List (Fin 3)) by decide, List.not_mem_nil⟩), Nat.zero_add]
    rfl

end Take

variable (te : IVec S41 32) (nu : IVec S1 32) (X : FVec Ideal S41984x2048 .bf16) (Wg Wu : FVec Ideal S8x2048x7168 .f32) (Wd : FVec Ideal S8x7168x2048 .f32)

/-- The numbers of the tiles' experts, a negative one counted from the end. -/
def pick : IVec S41x1 32 :=
  broadcastInDim S41x1 ![0] bcast_S41_S41x1_0 (select (cmpi .slt te (broadcastInDim S41 ![] bcast_S_S41 (constantI S_ 32 0#32))) (addi te (broadcastInDim S41 ![] bcast_S_S41 (constantI S_ 32 8#32))) te)

/-- The tiles' weights. -/
def rises (W : FVec Ideal S8x2048x7168 .f32) (I : IVec S41x1 32) : FVec Ideal S41x2048x7168 .f32 :=
  Host.gather gather_S8x2048x7168_S41x1_S41x2048x7168_12_0_n_n_0_1_120487168 W I
def falls (W : FVec Ideal S8x7168x2048 .f32) (I : IVec S41x1 32) : FVec Ideal S41x7168x2048 .f32 :=
  Host.gather gather_S8x7168x2048_S41x1_S41x7168x2048_12_0_n_n_0_1_171682048 W I

/-- The rows, a tile at a time. -/
def tiles : FVec Ideal S41x1024x2048 .f32 := shapeCast _ (extf .f32 X bitsLt_bf16_f32) shapeCasts_S41984x2048_S41x1024x2048

/-- The products with a tile's weights. -/
def product (Y : FVec Ideal S41x1024x2048 .f32) (W : FVec Ideal S41x2048x7168 .f32) : FVec Ideal S41x1024x7168 .f32 :=
  Host.dotGeneral dot_S41x1024x2048_S41x2048x7168_S41x1024x7168_2_1_1_2_0_0 none Y W
def lowered (Y : FVec Ideal S41x1024x7168 .f32) (W : FVec Ideal S41x7168x2048 .f32) : FVec Ideal S41x1024x2048 .f32 :=
  Host.dotGeneral dot_S41x1024x7168_S41x7168x2048_S41x1024x2048_2_1_1_2_0_0 none Y W

/-- The gate. -/
def gated (P Q : FVec Ideal S41x1024x7168 .f32) : FVec Ideal S41x1024x7168 .f32 :=
  mulf (mulf P (Host.divf (broadcastInDim S41x1024x7168 ![] bcast_S_S41x1024x7168 (constant S_ .f32 0x3F800000#32)) (addf (broadcastInDim S41x1024x7168 ![] bcast_S_S41x1024x7168 (constant S_ .f32 0x3F800000#32)) (Host.exp (Host.negf P))))) Q

/-- Which tiles are in use. -/
def used : IVec S41x1024x2048 1 :=
  broadcastInDim S41x1024x2048 ![0, 1, 2] bcast_S41x1x1_S41x1024x2048_0_1_2 (broadcastInDim S41x1x1 ![0] bcast_S41_S41x1x1_0 (cmpi .slt (iotaInDim S41 32 0) (broadcastInDim S41 ![] bcast_S_S41 (shapeCast _ nu shapeCasts_S1_S_))))

/-- Zeros. -/
def zeros : FVec Ideal S41x1024x2048 .f32 := broadcastInDim S41x1024x2048 ![] bcast_S_S41x1024x2048 (id (constant S_ .f32 0x00000000#32))

/-- The result, a tile at a time, and as rows. -/
def masked (M : IVec S41x1024x2048 1) (Y : FVec Ideal S41x1024x2048 .f32) : FVec Ideal S41984x2048 .f32 :=
  shapeCast _ (select M Y zeros) shapeCasts_S41x1024x2048_S41984x2048

def layer : FVec Ideal S41984x2048 .f32 :=
  masked (used nu) (lowered (gated (product (tiles X) (rises Wg (pick te))) (product (tiles X) (rises Wu (pick te)))) (falls Wd (pick te)))

theorem pick_at (b : Fin 41) (h : (te (ix1 b)).toNat < 8) : (pick te (ix2 b 0)).toInt.toNat = (te (ix1 b)).toNat := by
  have e : pick te (ix2 b 0) = Scalar.select (Scalar.cmpi .slt (te (ix1 b)) 0#32) (Scalar.addi (te (ix1 b)) 8#32) (te (ix1 b)) := by
    unfold pick
    pointwise
    rfl
  rw [e]
  have hw : ∀ v : BitVec 32, v.toNat < 8 → (Scalar.select (Scalar.cmpi .slt v 0#32) (Scalar.addi v 8#32) v).toInt.toNat = v.toNat := by
    intro v hv
    have hn : ¬v.slt 0#32 = true := by
      rw [BitVec.slt, decide_eq_true_eq, BitVec.toInt_eq_toNat_of_lt (by omega)]
      show ¬(v.toNat : Int) < 0
      omega
    have hc : Scalar.cmpi .slt v 0#32 = 0#1 := by
      show BitVec.ofBool (v.slt 0#32) = 0#1
      rw [Bool.eq_false_iff.2 hn]
      rfl
    rw [hc]
    show v.toInt.toNat = v.toNat
    rw [BitVec.toInt_eq_toNat_of_lt (by omega)]
    rfl
  exact hw _ h

theorem rises_at (W : FVec Ideal S8x2048x7168 .f32) (b : Fin 41) (h : (te (ix1 b)).toNat < 8) (x : Fin 2048) (f : Fin 7168) :
    rises W (pick te) (ix3 b x f) = W (ix3 (expert (te (ix1 b)) h) x f) :=
  take_at gather_S8x2048x7168_S41x1_S41x2048x7168_12_0_n_n_0_1_120487168_wf W (pick te) b x f (expert (te (ix1 b)) h) (pick_at te b h)

theorem falls_at (W : FVec Ideal S8x7168x2048 .f32) (b : Fin 41) (h : (te (ix1 b)).toNat < 8) (f : Fin 7168) (e : Fin 2048) :
    falls W (pick te) (ix3 b f e) = W (ix3 (expert (te (ix1 b)) h) f e) :=
  take_at gather_S8x7168x2048_S41x1_S41x7168x2048_12_0_n_n_0_1_171682048_wf W (pick te) b f e (expert (te (ix1 b)) h) (pick_at te b h)

/-- The row of the arrays that row `r` of tile `b` is. -/
abbrev row (b : Fin 41) (r : Fin 1024) : Fin 41984 := ⟨b.val * 1024 + r.val, by omega⟩

theorem tiles_at (b : Fin 41) (r : Fin 1024) (x : Fin 2048) : tiles X (ix3 b r x) = X (ix2 (row b r) x) := by
  unfold tiles
  pointwise

theorem product_at (Y : FVec Ideal S41x1024x2048 .f32) (W : FVec Ideal S41x2048x7168 .f32) (b : Fin 41) (r : Fin 1024) (f : Fin 7168) :
    product Y W (ix3 b r f) = ∑ x : Fin 2048, Y (ix3 b r x) * W (ix3 b x f) := by
  unfold product; pointwise

theorem lowered_at (Y : FVec Ideal S41x1024x7168 .f32) (W : FVec Ideal S41x7168x2048 .f32) (b : Fin 41) (r : Fin 1024) (e : Fin 2048) :
    lowered Y W (ix3 b r e) = ∑ f : Fin 7168, Y (ix3 b r f) * W (ix3 b f e) := by
  unfold lowered; pointwise

theorem gated_at (P Q : FVec Ideal S41x1024x7168 .f32) (b : Fin 41) (r : Fin 1024) (f : Fin 7168) :
    gated P Q (ix3 b r f) = P (ix3 b r f) * Ideal.logistic (P (ix3 b r f)) * Q (ix3 b r f) := by
  unfold gated
  pointwise
  rfl

theorem used_at (b : Fin 41) (r : Fin 1024) (e : Fin 2048) : used nu (ix3 b r e) = Scalar.cmpi .slt (BitVec.ofNat 32 b.val) (nu (ix1 0)) := by
  unfold used
  pointwise
  rfl

theorem masked_at (M : IVec S41x1024x2048 1) (Y : FVec Ideal S41x1024x2048 .f32) (q : Fin 41984) (e : Fin 2048) :
    masked M Y (ix2 q e) = Scalar.select (M (ix3 (tile q) ⟨q.val % 1024, by omega⟩ e)) (Y (ix3 (tile q) ⟨q.val % 1024, by omega⟩ e)) (0 : EReal) := by
  unfold masked zeros
  pointwise
  exact congrArg (Scalar.select _ _) (by simp [constant, Ideal.ofBits, Ideal.ieee] : id (constant (F := Ideal) S_ .f32 0x00000000#32) ix0 = (0 : EReal))

/-- Every element of the result. -/
theorem layer_at (h : ∀ x, BitVec.toNat (te x) < 8) (q : Fin 41984) (e : Fin 2048) :
    layer te nu X Wg Wu Wd (ix2 q e) = out X Wg Wu Wd te h (nu (ix1 0)) q e := by
  unfold layer
  rw [masked_at, used_at, lowered_at, out]
  have hr : row (tile q) ⟨q.val % 1024, by omega⟩ = q := Fin.ext (by simp only [row, tile]; omega)
  simp only [gated_at, product_at, tiles_at, rises_at te _ _ (h _), falls_at te _ _ (h _), hr]
  by_cases hl : live (nu (ix1 0)) (tile q).val
  · rw [if_pos hl, show Scalar.cmpi .slt (BitVec.ofNat 32 (tile q).val) (nu (ix1 0)) = 1#1 from hl]
    rfl
  · rw [if_neg hl]
    have hc : ∀ (v : BitVec 1) (x : EReal), v ≠ 1#1 → Scalar.select v x 0 = 0 := fun v x hv => if_neg hv
    exact hc _ _ hl

end Cert.Reference4Ideal.Moe

end
-- ==== Proof.MoeRange.lean ====
/- What the range of the table says: every word of it names one of the eight experts. -/
module

public import proofs.«01_k».proof.Pre_in_range
public import Idealize.ShloMosaic.Lib.ReduceAll
public import Idealize.ShloMosaic.Lib.Pointwise

@[expose] public section

set_option maxRecDepth 16384

noncomputable section

namespace Cert.Pre_in_range

open Idealize.ShloMosaic Idealize.ShloMosaic.TcCoe Cert.Pre_in_range.Facts

variable [Cert.Pre_in_range.Facts]

theorem bit_true : ∀ b : Bool, BitVec.ofBool b = 1#1 → b = true := by decide

/-- A word that is at least zero and below eight is a number below eight. -/
theorem word_lt (w : BitVec 32) (h0 : IntOp.cmpi .sge w 0#32 = 1#1) (h1 : IntOp.cmpi .slt w 8#32 = 1#1) : w.toNat < 8 := by
  have h0 : (0#32).sle w = true := bit_true _ h0
  have h1 : w.slt 8#32 = true := bit_true _ h1
  rw [BitVec.sle, decide_eq_true_eq] at h0
  rw [BitVec.slt, decide_eq_true_eq] at h1
  have e0 : (0#32).toInt = 0 := rfl
  have e1 : (8#32).toInt = 8 := rfl
  rw [e0] at h0
  rw [e1] at h1
  have hw := w.isLt
  rw [BitVec.toInt_eq_toNat_cond] at h0 h1
  split at h0 <;> omega

theorem below {F : FTy → Type} [FloatOps F] {A0 : IVec S41 32} {A1 : IVec S1 32} {A2 : FVec F S41984x2048 .bf16} {A3 A4 : FVec F S8x2048x7168 .f32} {A5 : FVec F S8x7168x2048 .f32}
    (h : fn A0 A1 A2 A3 A4 A5 = fun _ => 1#1) (x : S41.Idx) : (A0 x).toNat < 8 := by
  dsimp only [fn] at h
  have h := Host.reduce_andi_all _ _ _ _ _ (congrFun h (fun a => a.elim0)) x
  obtain ⟨h0, h1⟩ := IntOp.andi_eq_one.1 h
  exact word_lt (A0 x) h0 h1

end Cert.Pre_in_range

end
-- ==== Proof.MoeEquation.lean ====
/- The mixture of experts' call computes the plain layer, and its frames hold, where the table's words name experts. -/
module

public import proofs.«01_k».proof.Defs
public import proofs.«01_k».proof.Proof.MoeFrame
public import proofs.«01_k».proof.Proof.MoeBlockIdeal
public import proofs.«01_k».proof.Proof.MoeRefIdeal
public import proofs.«01_k».proof.Proof.MoeRange
public import proofs.«01_k».proof.Proof.Gen.Pre_in_range

@[expose] public section

set_option maxRecDepth 16384

noncomputable section

namespace Cert.Proof

open Idealize.ShloMosaic Idealize.ShloMosaic.TcCoe Idealize.SL.Sem

section
open Cert.Kernel4 Cert.Kernel4.Gen

/-- The tables in a memory, on the one device. -/
def tablesOf (m : (ℓ : Loc nD τ sig) → Buf (Elt Bits) ℓ) (h : Cert.Pre_Kernel4 (hPre_in_range := Cert.Pre_in_range.Gen.facts) m) : Moe.Tables :=
  ⟨m ((0 : Dev nD).tc.loc main_arg0), m ((0 : Dev nD).tc.loc main_arg1), Cert.Pre_in_range.below (h 0)⟩

theorem pinned (m : (ℓ : Loc nD τ sig) → Buf (Elt Bits) ℓ) (h : Cert.Pre_Kernel4 (hPre_in_range := Cert.Pre_in_range.Gen.facts) m) : Moe.Pinned (tablesOf m h) m :=
  ⟨fun c => by obtain rfl : c = 0 := Subsingleton.elim (α := Fin 1) _ _; rfl, fun c => by obtain rfl : c = 0 := Subsingleton.elim (α := Fin 1) _ _; rfl⟩

theorem experts_frame : Cert.quiescent_Kernel4 (hKernel4 := Cert.Kernel4.Gen.facts) (hPre_in_range := Cert.Pre_in_range.Gen.facts) :=
  fun m ρ h => Moe.frame (tablesOf m h) m ρ (pinned m h)

end

section
open Cert.Kernel4Ideal Cert.Kernel4Ideal.Gen

/-- The same of the idealization. -/
def tablesOfIdeal (m : (ℓ : Loc nD τ sig) → Buf (Elt Ideal) ℓ) (h : Cert.Pre_Kernel4Ideal (hPre_in_range := Cert.Pre_in_range.Gen.facts) m) : Moe.Tables :=
  ⟨m ((0 : Dev nD).tc.loc main_arg0), m ((0 : Dev nD).tc.loc main_arg1), Cert.Pre_in_range.below (h 0)⟩

theorem pinned_ideal (m : (ℓ : Loc nD τ sig) → Buf (Elt Ideal) ℓ) (h : Cert.Pre_Kernel4Ideal (hPre_in_range := Cert.Pre_in_range.Gen.facts) m) : Moe.Pinned (tablesOfIdeal m h) m :=
  ⟨fun c => by obtain rfl : c = 0 := Subsingleton.elim (α := Fin 1) _ _; rfl, fun c => by obtain rfl : c = 0 := Subsingleton.elim (α := Fin 1) _ _; rfl⟩

theorem experts_frame_ideal : Cert.quiescent_Kernel4Ideal (hKernel4Ideal := Cert.Kernel4Ideal.Gen.facts) (hPre_in_range := Cert.Pre_in_range.Gen.facts) :=
  fun m ρ h => Moe.frame (tablesOfIdeal m h) m ρ (pinned_ideal m h)

/-- The call's run, its array of results read. -/
theorem experts_run (ch : Moe.Tables) (m : (ℓ : Loc nD τ sig) → Buf (Elt Ideal) ℓ) (ρ : Dev nD → PrngReg) (hp : Moe.Pinned ch m) :
    θ_run defs (onTc (τ := τ) (main (F := Ideal))) ⟨m, fun _ => 0, ρ⟩ fun r => ∀ c : Dev nD,
      r.2.mem ((c.tc : Thread nD τ).loc main_v0) = Moe.G ch m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 (4 : Fin 5)).trans (Moe.final4 ch m ρ c), h.2 c⟩)
    (θ_run_and (Moe.run_main ch m ρ hp) (Moe.unchanged ch m ρ hp))

end

open Cert.Reference4Ideal Cert.Reference4Ideal.Gen in
/-- The plain layer's run, its result as the layer's stages. -/
theorem mixture_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = Moe.layer (m (c.tc.loc main_arg0)) (m (c.tc.loc main_arg1)) (m (c.tc.loc main_arg2))
        (m (c.tc.loc main_arg3)) (m (c.tc.loc main_arg4)) (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Cert.Reference4Ideal.Value.run m ρ)

/-- The reference's frame, which asks nothing of the tables. -/
theorem frame_mixture : Cert.quiescent_Reference4Ideal (hReference4Ideal := Cert.Reference4Ideal.Gen.facts) := fun m ρ _ =>
  (θ_run _ _ _).mono (fun _ h => ⟨fun c => (h c).2, sem_eq_zero_of_no_sems (by decide) _⟩)
    (Cert.Reference4Ideal.Value.run m ρ)

theorem experts : Cert.algebraic_Kernel4Ideal_Reference4Ideal (hKernel4Ideal := Cert.Kernel4Ideal.Gen.facts)
    (hReference4Ideal := Cert.Reference4Ideal.Gen.facts) (hPre_in_range := Cert.Pre_in_range.Gen.facts) := fun m ρ m' ρ' hpre hag =>
  ⟨fun c => Cert.Kernel4Ideal.Moe.G (tablesOfIdeal m hpre) m c, experts_run (tablesOfIdeal m hpre) m ρ (pinned_ideal m hpre),
    (θ_run _ _ _).mono (fun _ h c => ⟨(h c).1.trans (by
      obtain rfl : c = 0 := Subsingleton.elim (α := Fin 1) _ _
      obtain ⟨e0, e1, e2, e3, e4, e5⟩ := hag 0
      rw [e0, e1, e2, e3, e4, e5]
      funext i
      rw [eq_ix2 (n0 := 41984) (n1 := 2048) i]
      refine (Cert.Reference4Ideal.Moe.layer_at _ _ _ _ _ _ (tablesOfIdeal m hpre).range (i 0) (i 1)).trans ?_
      have en : m ((0 : Dev Cert.Kernel4Ideal.nD).tc.loc Cert.Kernel4Ideal.main_arg1) (ix1 0) = Cert.Kernel4Ideal.Moe.used (tablesOfIdeal m hpre) :=
        Cert.Kernel4Ideal.Moe.used_eq (tablesOfIdeal m hpre) (ix1 0)
      rw [en]
      rfl), (h c).2⟩) (mixture_run m' ρ')⟩

end Cert.Proof

end
-- ==== Proof.Out.lean ====
/- The first output projection with its two normalizations, as a function of its arrays: every element of both results. -/
module

public import proofs.«01_k».proof.Proof.Ffn

@[expose] public section

noncomputable section

namespace Cert.Out

open Idealize.ShloMosaic Cert.Ffn

variable (A B : Vec Ideal ⟨2, ![16640, 1024]⟩ .bf16) (W : Vec Ideal ⟨2, ![2048, 2048]⟩ .f32)
  (H : Vec Ideal ⟨2, ![16640, 2048]⟩ .f32) (P N : Vec Ideal ⟨2, ![1, 2048]⟩ .f32)

/-- The two groups of heads, each through its half of the weight. -/
def proj (q : Fin 16640) (e : Fin 2048) : EReal :=
  (∑ x : Fin 1024, A (ix2 q x) * W (ix2 ⟨x, by omega⟩ e)) + ∑ x : Fin 1024, B (ix2 q x) * W (ix2 ⟨1024 + x, by omega⟩ e)

/-- The first result: the projection, normalized, onto the residual. -/
def out (q : Fin 16640) (e : Fin 2048) : EReal := H (ix2 q e) + norm (proj A B W q) e * P (ix2 0 e)

/-- The second result: the first one normalized. -/
def next (q : Fin 16640) (e : Fin 2048) : EReal := norm (out A B W H P q) e * N (ix2 0 e)

end Cert.Out

end
-- ==== Proof.OutBlockIdeal.lean ====
/- The output projection's call, point by point: what each grid point's body computes from its blocks, and its arrays of results. -/
module

public import proofs.«01_k».proof.Proof.Gen.Kernel5Ideal.Value
public import proofs.«01_k».proof.Proof.Out
public import Idealize.ShloMosaic.Lib.Pipeline.ValueKit
public import Idealize.ShloMosaic.Lib.Pointwise

@[expose] public section

set_option maxRecDepth 16384

noncomputable section

namespace Cert.Kernel5Ideal.Out

open Cert.Kernel5Ideal Cert.Kernel5Ideal.Gen Cert.Out
open Cert.Ffn (norm)
open Idealize.ShloMosaic Idealize.ShloMosaic.TcCoe Idealize.ShloMosaic.Tactic
open Idealize.SL.Sem
open Idealize.ShloMosaic.Pipeline (Dat Cfg Window)

/-- Both halves' product of a row of a point's blocks. -/
def sums (v0 : Vec Ideal S640x1024 .bf16) (v1 : Vec Ideal S1024x2048 .bf16) (v4 : Vec Ideal S640x1024 .bf16) (v5 : Vec Ideal S1024x2048 .bf16)
    (r : Fin 640) (e : Fin 2048) : EReal :=
  (∑ x : Fin 1024, v0 (ix2 r x) * v1 (ix2 x e)) + ∑ x : Fin 1024, v4 (ix2 r x) * v5 (ix2 x e)

theorem pay2_at (v0 : Vec Ideal S640x1024 .bf16) (v1 : Vec Ideal S1024x2048 .bf16) (v4 : Vec Ideal S640x1024 .bf16) (v5 : Vec Ideal S1024x2048 .bf16)
    (v9 : Vec Ideal S640x2048 .f32) (v10 : Vec Ideal S1x2048 .f32) (r : Fin 640) (e : Fin 2048) :
    k0_pay2 v0 v1 v4 v5 v9 v10 (ix2 r e) = v9 (ix2 r e) + norm (sums v0 v1 v4 v5 r) e * v10 (ix2 0 e) := by
  unfold k0_pay2
  pointwise
  rfl

theorem pay1_at (v0 : Vec Ideal S640x1024 .bf16) (v1 : Vec Ideal S1024x2048 .bf16) (v4 : Vec Ideal S640x1024 .bf16) (v5 : Vec Ideal S1024x2048 .bf16)
    (v9 : Vec Ideal S640x2048 .f32) (v10 v25 : Vec Ideal S1x2048 .f32) (r : Fin 640) (e : Fin 2048) :
    k0_pay1 (k0_pay2 v0 v1 v4 v5 v9 v10) v25 (k0_pay3 v0 v1 v4 v5 v9 v10) (ix2 r e)
      = norm (fun x => k0_pay2 v0 v1 v4 v5 v9 v10 (ix2 r x)) e * v25 (ix2 0 e) := by
  unfold k0_pay1 k0_pay3
  generalize k0_pay2 v0 v1 v4 v5 v9 v10 = h
  pointwise
  rfl

variable (m : (ℓ : Loc nD τ sig) → Buf (Elt Ideal) ℓ)

/-- The block of each window at a grid point. -/
theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![t.val, 0] := by decide +kernel

theorem N_eq : cfg0.N = 26 := by decide +kernel

/-- The halves of the weight. -/
theorem V1 (c : Dev nD) (i : Fin 1024) (j : Fin 2048) :
    (V m c main_v1 : Vec Ideal S1024x2048 .bf16) (ix2 i j) = m (c.tc.loc main_arg2) (ix2 ⟨i, by omega⟩ j) := by
  entry_read
  pointwise

theorem V2 (c : Dev nD) (i : Fin 1024) (j : Fin 2048) :
    (V m c main_v2 : Vec Ideal S1024x2048 .bf16) (ix2 i j) = m (c.tc.loc main_arg2) (ix2 ⟨1024 + i, by omega⟩ j) := by
  entry_read
  pointwise

/-- The row of the arrays that row `r` of a point's blocks is. -/
abbrev row (n : ℕ) (hn : n < 26) (r : Fin 640) : Fin 16640 := ⟨n * 640 + r, by omega⟩

theorem blk0 (c : Dev nD) (t : Fin cfg0.N) (r : Fin 640) (e : Fin 1024) :
    (iblk m c 0 t : Vec Ideal S640x1024 .bf16) (ix2 r e) = m (c.tc.loc main_arg0) (ix2 (row t (N_eq ▸ t.isLt) r) e) := by
  rw [← V_main_arg0 m c]
  blk_simp [iblk, idx0]
  blk_ext [idx0]

theorem blk1 (c : Dev nD) (t : Fin cfg0.N) (r : Fin 640) (e : Fin 1024) :
    (iblk m c 1 t : Vec Ideal S640x1024 .bf16) (ix2 r e) = m (c.tc.loc main_arg1) (ix2 (row t (N_eq ▸ t.isLt) r) e) := by
  rw [← V_main_arg1 m c]
  blk_simp [iblk, idx1]
  blk_ext [idx1]

theorem blk2 (c : Dev nD) (t : Fin cfg0.N) (r : Fin 1024) (e : Fin 2048) :
    (iblk m c 2 t : Vec Ideal S1024x2048 .bf16) (ix2 r e) = m (c.tc.loc main_arg2) (ix2 ⟨r, by omega⟩ e) := by
  rw [← V1 m c]
  blk_simp [iblk, idx2]
  blk_ext [idx2]

theorem blk3 (c : Dev nD) (t : Fin cfg0.N) (r : Fin 1024) (e : Fin 2048) :
    (iblk m c 3 t : Vec Ideal S1024x2048 .bf16) (ix2 r e) = m (c.tc.loc main_arg2) (ix2 ⟨1024 + r, by omega⟩ e) := by
  rw [← V2 m c]
  blk_simp [iblk, idx3]
  blk_ext [idx3]

theorem blk4 (c : Dev nD) (t : Fin cfg0.N) (r : Fin 640) (e : Fin 2048) :
    (iblk m c 4 t : Vec Ideal S640x2048 .f32) (ix2 r e) = m (c.tc.loc main_arg3) (ix2 (row t (N_eq ▸ t.isLt) r) e) := by
  rw [← V_main_arg3 m c]
  blk_simp [iblk, idx4]
  blk_ext [idx4]

theorem blk5 (c : Dev nD) (t : Fin cfg0.N) (e : Fin 2048) :
    (iblk m c 5 t : Vec Ideal S1x2048 .f32) (ix2 0 e) = m (c.tc.loc main_arg4) (ix2 0 e) := by
  rw [← V_main_arg4 m c]
  blk_simp [iblk, idx5]
  blk_ext [idx5]

theorem blk6 (c : Dev nD) (t : Fin cfg0.N) (e : Fin 2048) :
    (iblk m c 6 t : Vec Ideal S1x2048 .f32) (ix2 0 e) = m (c.tc.loc main_arg5) (ix2 0 e) := by
  rw [← V_main_arg5 m c]
  blk_simp [iblk, idx6]
  blk_ext [idx6]

theorem sums_at (c : Dev nD) (t : Fin cfg0.N) (r : Fin 640) (e : Fin 2048) :
    sums (iblk m c 0 t) (iblk m c 2 t) (iblk m c 1 t) (iblk m c 3 t) r e
      = proj (m (c.tc.loc main_arg0)) (m (c.tc.loc main_arg1)) (m (c.tc.loc main_arg2)) (row t (N_eq ▸ t.isLt) r) e := by
  rw [sums, proj]
  simp only [blk0, blk1, blk2, blk3]

/-- What a point computes: the first result, -/
theorem out_at (c : Dev nD) (t : Fin cfg0.N) (r : Fin 640) (e : Fin 2048) :
    k0_pay2 (iblk m c 0 t) (iblk m c 2 t) (iblk m c 1 t) (iblk m c 3 t) (iblk m c 4 t) (iblk m c 5 t) (ix2 r e)
      = out (m (c.tc.loc main_arg0)) (m (c.tc.loc main_arg1)) (m (c.tc.loc main_arg2)) (m (c.tc.loc main_arg3))
        (m (c.tc.loc main_arg4)) (row t (N_eq ▸ t.isLt) r) e := by
  rw [pay2_at, out, blk4, blk5]
  exact congrArg (fun f : Fin 2048 → EReal => _ + norm f e * _) (funext fun x => sums_at m c t r x)

/-- and the second. -/
theorem next_at (c : Dev nD) (t : Fin cfg0.N) (r : Fin 640) (e : Fin 2048) :
    k0_pay1 (k0_pay2 (iblk m c 0 t) (iblk m c 2 t) (iblk m c 1 t) (iblk m c 3 t) (iblk m c 4 t) (iblk m c 5 t)) (iblk m c 6 t)
        (k0_pay3 (iblk m c 0 t) (iblk m c 2 t) (iblk m c 1 t) (iblk m c 3 t) (iblk m c 4 t) (iblk m c 5 t)) (ix2 r e)
      = next (m (c.tc.loc main_arg0)) (m (c.tc.loc main_arg1)) (m (c.tc.loc main_arg2)) (m (c.tc.loc main_arg3))
        (m (c.tc.loc main_arg4)) (m (c.tc.loc main_arg5)) (row t (N_eq ▸ t.isLt) r) e := by
  rw [pay1_at, next, blk6]
  exact congrArg (fun f : Fin 2048 → EReal => norm f e * _) (funext fun x => out_at m c t r x)

/-- The arrays of results. -/
def G7 (c : Dev nD) : Vec Ideal S16640x2048 .f32 := fun i =>
  out (m (c.tc.loc main_arg0)) (m (c.tc.loc main_arg1)) (m (c.tc.loc main_arg2)) (m (c.tc.loc main_arg3)) (m (c.tc.loc main_arg4)) (i 0) (i 1)
def G8 (c : Dev nD) : Vec Ideal S16640x2048 .bf16 := fun i =>
  next (m (c.tc.loc main_arg0)) (m (c.tc.loc main_arg1)) (m (c.tc.loc main_arg2)) (m (c.tc.loc main_arg3)) (m (c.tc.loc main_arg4))
    (m (c.tc.loc main_arg5)) (i 0) (i 1)

theorem left7 (c : Dev nD) (t : Fin cfg0.N) : (dats m 0 c).after 7 t
    = k0_pay2 (iblk m c 0 t) (iblk m c 2 t) (iblk m c 1 t) (iblk m c 3 t) (iblk m c 4 t) (iblk m c 5 t) := by
  rw [after0_7, out0_7]
  frame_out

theorem left8 (c : Dev nD) (t : Fin cfg0.N) : (dats m 0 c).after 8 t
    = k0_pay1 (k0_pay2 (iblk m c 0 t) (iblk m c 2 t) (iblk m c 1 t) (iblk m c 3 t) (iblk m c 4 t) (iblk m c 5 t)) (iblk m c 6 t)
        (k0_pay3 (iblk m c 0 t) (iblk m c 2 t) (iblk m c 1 t) (iblk m c 3 t) (iblk m c 4 t) (iblk m c 5 t)) := by
  rw [after0_8, out0_8]
  frame_out

theorem final7 (c : Dev nD) : (dats m 0 c).arrAt 7 cfg0.N = G7 m c := by
  refine (dats m 0 c).arrAt_eq_of_covers 7 _ (by decide +kernel) fun t hf y => ?_
  blk_simp
  rw [left7]
  have e0 : (((win0_7.blk t).view.emb y) 0 : ℕ) = t.val * 640 + (y 0 : ℕ) := by
    rw [show (((win0_7.blk t).view.emb y) 0 : ℕ) = win0_7.index t 0 * win0_7.size 0 + (y 0 : ℕ) from win0_7.rect_emb_val_off t y 0, idx7]; rfl
  have e1 : (((win0_7.blk t).view.emb y) 1 : ℕ) = (y 1 : ℕ) := by
    rw [show (((win0_7.blk t).view.emb y) 1 : ℕ) = win0_7.index t 1 * win0_7.size 1 + (y 1 : ℕ) from win0_7.rect_emb_val_off t y 1, idx7]; exact Nat.zero_add _
  refine (congrArg (k0_pay2 (F := Ideal) _ _ _ _ _ _) (eq_ix2 (n0 := 640) (n1 := 2048) y)).trans ((out_at m c t (y 0) (y 1)).trans ?_)
  exact congrArg₂ (out _ _ _ _ _) (Fin.ext e0.symm) (Fin.ext e1.symm)

theorem final8 (c : Dev nD) : (dats m 0 c).arrAt 8 cfg0.N = G8 m c := by
  refine (dats m 0 c).arrAt_eq_of_covers 8 _ (by decide +kernel) fun t hf y => ?_
  blk_simp
  rw [left8]
  have e0 : (((win0_8.blk t).view.emb y) 0 : ℕ) = t.val * 640 + (y 0 : ℕ) := by
    rw [show (((win0_8.blk t).view.emb y) 0 : ℕ) = win0_8.index t 0 * win0_8.size 0 + (y 0 : ℕ) from win0_8.rect_emb_val_off t y 0, idx8]; rfl
  have e1 : (((win0_8.blk t).view.emb y) 1 : ℕ) = (y 1 : ℕ) := by
    rw [show (((win0_8.blk t).view.emb y) 1 : ℕ) = win0_8.index t 1 * win0_8.size 1 + (y 1 : ℕ) from win0_8.rect_emb_val_off t y 1, idx8]; exact Nat.zero_add _
  refine (congrArg (k0_pay1 (F := Ideal) _ _ _) (eq_ix2 (n0 := 640) (n1 := 2048) y)).trans ((next_at m c t (y 0) (y 1)).trans ?_)
  exact congrArg₂ (next _ _ _ _ _ _) (Fin.ext e0.symm) (Fin.ext e1.symm)

end Cert.Kernel5Ideal.Out

end
-- ==== Proof.OutRefIdeal.lean ====
/- The plain output projection is the projection: both of its results, element by element. -/
module

public import proofs.«01_k».proof.Proof.Out
public import proofs.«01_k».proof.Proof.Gen.Reference5Ideal.Run
public import Idealize.ShloMosaic.Lib.Pointwise
public import Idealize.ShloMosaic.Lib.Tactic.CleanTypes

@[expose] public section

set_option maxRecDepth 16384

noncomputable section

namespace Cert.Reference5Ideal.Out

open Cert.Reference5Ideal Cert.Reference5Ideal.Gen Cert.Reference5Ideal.Facts Cert.Out
open Cert.Ffn (norm)
open Idealize.ShloMosaic Idealize.ShloMosaic.TcCoe Idealize.ShloMosaic.Tactic

variable (A B : FVec Ideal S16640x1024 .bf16) (W : FVec Ideal S2048x2048 .f32)
  (H : FVec Ideal S16640x2048 .f32) (P N : FVec Ideal S1x2048 .f32)

/-- The two groups of heads, side by side. -/
def joined : FVec Ideal S16640x2048 .bf16 :=
  concatenate S16640x2048 1 [⟨S16640x1024, A⟩, ⟨S16640x1024, B⟩] concatenates_S16640x1024_S16640x1024_S16640x2048_d1

/-- The product with the weight. -/
def product (X : FVec Ideal S16640x2048 .bf16) : FVec Ideal S16640x2048 .f32 :=
  Host.dotGeneral dot_S16640x2048_S2048x2048_S16640x2048_1_0_0_1_n_n none (extf .f32 X bitsLt_bf16_f32) W

/-- A normalization. -/
def normed (Y : FVec Ideal S16640x2048 .f32) (P : FVec Ideal S1x2048 .f32) : FVec Ideal S16640x2048 .f32 :=
  mulf (mulf Y (broadcastInDim S16640x2048 ![0, 1] bcast_S16640x1_S16640x2048_0_1 (Host.rsqrt (addf (Host.divf (broadcastInDim S16640x1 ![0] bcast_S16640_S16640x1_0 (Host.reduceAdd (mulf Y Y) (constant S_ .f32 0x00000000#32) reducesTo_S16640x2048_S16640_d1 h_S_)) (broadcastInDim S16640x1 ![] bcast_S_S16640x1 (constant S_ .f32 0x45000000#32))) (broadcastInDim S16640x1 ![] bcast_S_S16640x1 (constant S_ .f32 0x358637BD#32)))))) (broadcastInDim S16640x2048 ![0, 1] bcast_S1x2048_S16640x2048_0_1 (broadcastInDim S1x2048 ![1] bcast_S2048_S1x2048_1 (shapeCast _ P shapeCasts_S1x2048_S2048)))

/-- The first result and the second. -/
def first : FVec Ideal S16640x2048 .f32 := addf H (normed (product W (joined A B)) P)
def second (Y : FVec Ideal S16640x2048 .f32) : FVec Ideal S16640x2048 .bf16 := truncf .bf16 (normed Y N) bitsLt_bf16_f32

theorem joined_left (q : Fin 16640) (x : Fin 1024) : joined A B (ix2 q ⟨x, by omega⟩) = A (ix2 q x) := by
  unfold joined; pointwise

theorem joined_right (q : Fin 16640) (x : Fin 1024) : joined A B (ix2 q ⟨1024 + x, by omega⟩) = B (ix2 q x) := by
  unfold joined; pointwise

theorem product_at (X : FVec Ideal S16640x2048 .bf16) (q : Fin 16640) (e : Fin 2048) :
    product W X (ix2 q e) = ∑ x : Fin 2048, X (ix2 q x) * W (ix2 x e) := by
  unfold product; pointwise

/-- The sum over all the heads' elements is the sum over each group's. -/
theorem proj_at (q : Fin 16640) (e : Fin 2048) : product W (joined A B) (ix2 q e) = proj A B W q e := by
  rw [product_at, proj]
  refine (Fin.sum_univ_add (a := 1024) (b := 1024) fun x => joined A B (ix2 q x) * W (ix2 x e)).trans ?_
  exact congrArg₂ (· + ·) (Finset.sum_congr rfl fun x _ => congrArg (· * _) (joined_left A B q x))
    (Finset.sum_congr rfl fun x _ => congrArg (· * _) (joined_right A B q x))

theorem normed_at (Y : FVec Ideal S16640x2048 .f32) (q : Fin 16640) (e : Fin 2048) :
    normed Y P (ix2 q e) = norm (fun x => Y (ix2 q x)) e * P (ix2 0 e) := by
  unfold normed
  pointwise
  rfl

theorem first_at (q : Fin 16640) (e : Fin 2048) : first A B W H P (ix2 q e) = out A B W H P q e := by
  have e0 : first A B W H P (ix2 q e) = H (ix2 q e) + normed (product W (joined A B)) P (ix2 q e) := rfl
  rw [e0, normed_at, out]
  simp only [proj_at]

theorem second_at (q : Fin 16640) (e : Fin 2048) : second N (first A B W H P) (ix2 q e) = next A B W H P N q e := by
  have e0 : second N (first A B W H P) (ix2 q e) = normed (first A B W H P) N (ix2 q e) := rfl
  rw [e0, normed_at, next]
  simp only [first_at]

end Cert.Reference5Ideal.Out

end
-- ==== Proof.OutEquation.lean ====
/- The output projection's call computes the plain projection: both of its results. -/
module

public import proofs.«01_k».proof.Defs
public import proofs.«01_k».proof.Proof.OutBlockIdeal
public import proofs.«01_k».proof.Proof.OutRefIdeal

@[expose] public section

set_option maxRecDepth 16384

noncomputable section

namespace Cert.Proof

open Idealize.ShloMosaic Idealize.ShloMosaic.TcCoe Idealize.SL.Sem

open Cert.Kernel5Ideal Cert.Kernel5Ideal.Gen in
/-- The call's run, its arrays of results read. -/
theorem projection_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3_0) = Out.G7 m c
      ∧ r.2.mem ((c.tc : Thread nD τ).loc main_v3_1) = Out.G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Out.final7 m c), (h c).2.1.trans (Out.final8 m c), (h c).2.2⟩)
    (Cert.Kernel5Ideal.Value.run_blocks m ρ)

open Cert.Reference5Ideal Cert.Reference5Ideal.Gen in
/-- The plain projection's run, its results as the projection's stages. -/
theorem plain_projection_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = Out.first (m (c.tc.loc main_arg0)) (m (c.tc.loc main_arg1)) (m (c.tc.loc main_arg2))
        (m (c.tc.loc main_arg3)) (m (c.tc.loc main_arg4))
      ∧ r.2.mem ((c.tc : Thread nD τ).loc main_v32) = Out.second (m (c.tc.loc main_arg5)) (Out.first (m (c.tc.loc main_arg0)) (m (c.tc.loc main_arg1))
        (m (c.tc.loc main_arg2)) (m (c.tc.loc main_arg3)) (m (c.tc.loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2.1.trans rfl, (h c).2.2⟩) (Cert.Reference5Ideal.Value.run m ρ)

theorem output_projection : Cert.algebraic_Kernel5Ideal_Reference5Ideal (hKernel5Ideal := Cert.Kernel5Ideal.Gen.facts)
    (hReference5Ideal := Cert.Reference5Ideal.Gen.facts) := fun m ρ m' ρ' _ hag =>
  ⟨fun c => Cert.Kernel5Ideal.Out.G7 m c, fun c => Cert.Kernel5Ideal.Out.G8 m c, projection_run m ρ,
    (θ_run _ _ _).mono (fun _ h c => ⟨(h c).1.trans (by
      obtain ⟨e0, e1, e2, e3, e4, e5⟩ := hag c
      rw [e0, e1, e2, e3, e4]
      funext i
      rw [eq_ix2 (n0 := 16640) (n1 := 2048) i]
      exact Cert.Reference5Ideal.Out.first_at _ _ _ _ _ (i 0) (i 1)), (h c).2.1.trans (by
      obtain ⟨e0, e1, e2, e3, e4, e5⟩ := hag c
      rw [e0, e1, e2, e3, e4, e5]
      funext i
      rw [eq_ix2 (n0 := 16640) (n1 := 2048) i]
      exact Cert.Reference5Ideal.Out.second_at _ _ _ _ _ _ (i 0) (i 1)), (h c).2.2⟩) (plain_projection_run m' ρ')⟩

end Cert.Proof

end
-- ==== Proof.Odd.lean ====
/- The projection of the windowed attention with its rotations, as a function of its arrays: every element of the three results. -/
module

public import Idealize.ShloMosaic.Lib.Pointwise
public import Idealize.ShloMosaic.Lib.Pipeline.ValueKit

@[expose] public section

noncomputable section

namespace Cert.Odd

open Idealize.ShloMosaic

variable (X : Vec Ideal ⟨2, ![16640, 2048]⟩ .bf16) (W : Vec Ideal ⟨2, ![2048, 2560]⟩ .f32) (B : Vec Ideal ⟨1, ![2560]⟩ .f32)
  (C S : Vec Ideal ⟨2, ![16640, 8]⟩ .f32)

/-- Column `j` of row `q` of the projection. -/
def lin (q : Fin 16640) (j : Fin 2560) : EReal := (∑ x : Fin 2048, X (ix2 q x) * W (ix2 x j)) + B (ix1 j)

/-- Element `d` of a head, its first 16 elements rotated in pairs eight apart. -/
def turn (z : Fin 64 → EReal) (co si : Fin 8 → EReal) (d : Fin 64) : EReal :=
  if h8 : d.val < 8 then z d * co ⟨d, h8⟩ - z ⟨d + 8, by omega⟩ * si ⟨d, h8⟩
  else if h16 : d.val < 16 then z d * co ⟨d - 8, by omega⟩ + z ⟨d - 8, by omega⟩ * si ⟨d - 8, by omega⟩
  else z d

/-- The queries, scaled; -/
def query (q : Fin 16640) (c : Fin 2048) : EReal :=
  turn (fun d => lin X W B q ⟨c / 64 * 64 + d, by omega⟩) (fun k => C (ix2 q k)) (fun k => S (ix2 q k)) ⟨c % 64, by omega⟩
    * Ideal.ofBits .f32 0x3E38AA3B#32

/-- the keys, each head twice; -/
def key (q : Fin 16640) (c : Fin 512) : EReal :=
  turn (fun d => lin X W B q ⟨2048 + (c / 128 * 64 + d), by omega⟩) (fun k => C (ix2 q k)) (fun k => S (ix2 q k)) ⟨c % 64, by omega⟩

/-- the values, each head twice. -/
def value (q : Fin 16640) (c : Fin 512) : EReal := lin X W B q ⟨2304 + (c / 128 * 64 + c % 64), by omega⟩

end Cert.Odd

end
-- ==== Proof.OddBlockIdeal.lean ====
/- The windowed attention's projection, point by point: what each grid point's body computes from its blocks. -/
module

public import proofs.«01_k».proof.Proof.Gen.Kernel6Ideal.Value
public import proofs.«01_k».proof.Proof.Odd
public import Idealize.ShloMosaic.Lib.Pipeline.ValueKit
public import Idealize.ShloMosaic.Lib.Pointwise

@[expose] public section

set_option maxRecDepth 16384

noncomputable section

namespace Cert.Kernel6Ideal.Odd

open Cert.Kernel6Ideal Cert.Kernel6Ideal.Gen Cert.Kernel6Ideal.Facts Cert.Odd
open Idealize.ShloMosaic Idealize.ShloMosaic.TcCoe Idealize.ShloMosaic.Tactic
open Idealize.SL.Sem
open Idealize.ShloMosaic.Pipeline (Dat Cfg Window)

/-- The lane that a lane is rotated with. -/
def mate (l : Fin 128) : Fin 128 := ⟨if l.val / 8 % 2 = 0 then (l + 8) % 128 else l - 8, by split <;> omega⟩

/-- 128 lanes rotated in pairs eight apart. -/
def turned (x co si : FVec Ideal S640x128 .f32) : FVec Ideal S640x128 .f32 :=
  addf (mulf x co) (mulf (select (cmpi .eq (andi (iota .tc S640x128 32 [1] iota_S640x128_d1_w32) (broadcast S640x128 8#32)) (broadcast S640x128 0#32))
    (dynamicRotate 1 120#32 none x rotates_S640x128_d1) (dynamicRotate 1 8#32 none x rotates_S640x128_d1)) si)

theorem even_lane : ∀ l : Fin 128, IntOp.cmpi .eq (IntOp.andi (BitVec.ofNat 32 l.val) 8#32) 0#32 = if l.val / 8 % 2 = 0 then 1#1 else 0#1 := by
  decide +kernel

theorem turned_at (x co si : FVec Ideal S640x128 .f32) (r : Fin 640) (l : Fin 128) :
    turned x co si (ix2 r l) = x (ix2 r l) * co (ix2 r l) + x (ix2 r (mate l)) * si (ix2 r l) := by
  unfold turned
  pointwise
  rw [even_lane]
  refine congrArg (fun w : EReal => x (ix2 r l) * co (ix2 r l) + w * si (ix2 r l)) ?_
  by_cases h : l.val / 8 % 2 = 0
  · rw [if_pos h]
    refine Eq.trans (b := x (ix2 r ⟨(l.val + 128 - 120) % 128, by omega⟩)) rfl ?_
    exact congrArg (fun k => x (ix2 r k)) (Fin.ext (by simp only [mate, if_pos h]; omega))
  · rw [if_neg h]
    refine Eq.trans (b := x (ix2 r ⟨(l.val + 128 - 8) % 128, by omega⟩)) rfl ?_
    exact congrArg (fun k => x (ix2 r k)) (Fin.ext (by simp only [mate, if_neg h]; omega))

variable (v0 : Vec Ideal S640x2048 .bf16) (v1 : Vec Ideal S2048x3072 .bf16) (v4 : Vec Ideal S1x3072 .f32) (v8 v10 : Vec Ideal S640x128 .f32)

theorem pay3_at (r : Fin 640) (j : Fin 3072) :
    k0_pay3 v0 v1 v4 (ix2 r j) = (∑ x : Fin 2048, v0 (ix2 r x) * v1 (ix2 x j)) + v4 (ix2 0 j) := by
  unfold k0_pay3
  pointwise

/-- Column `c` of the queries that a point stores. -/
def queryAt (Z : FVec Ideal S640x3072 .f32) (co si : FVec Ideal S640x128 .f32) (r : Fin 640) (c : Fin 2048) : EReal :=
  (Z (ix2 r ⟨c, by omega⟩) * co (ix2 r ⟨c % 128, by omega⟩)
    + Z (ix2 r ⟨c / 128 * 128 + mate ⟨c % 128, by omega⟩, by omega⟩) * si (ix2 r ⟨c % 128, by omega⟩)) * Ideal.ofBits .f32 0x3E38AA3B#32

/-- Column `c` of the keys that a point stores. -/
def keyAt (Z : FVec Ideal S640x3072 .f32) (co si : FVec Ideal S640x128 .f32) (r : Fin 640) (c : Fin 512) : EReal :=
  Z (ix2 r ⟨2048 + c, by omega⟩) * co (ix2 r ⟨c % 128, by omega⟩)
    + Z (ix2 r ⟨2048 + (c / 128 * 128 + mate ⟨c % 128, by omega⟩), by omega⟩) * si (ix2 r ⟨c % 128, by omega⟩)

/-- The lanes of one block of the queries, as the body stores them, -/
def queryLanes (o : Fin 2 → ℕ) (h : S640x3072.Slices o S640x128) (Z : FVec Ideal S640x3072 .f32) (co si : FVec Ideal S640x128 .f32) : FVec Ideal S640x128 .bf16 :=
  truncf .bf16 (mulf (turned (extractStridedSlice S640x128 o Z h) co si) (broadcast S640x128 (Scalar.ofBits .f32 0x3E38AA3B#32))) bitsLt_bf16_f32

/-- and of the keys. -/
def keyLanes (o : Fin 2 → ℕ) (h : S640x3072.Slices o S640x128) (Z : FVec Ideal S640x3072 .f32) (co si : FVec Ideal S640x128 .f32) : FVec Ideal S640x128 .bf16 :=
  truncf .bf16 (turned (extractStridedSlice S640x128 o Z h) co si) bitsLt_bf16_f32

theorem slice_at (o : ℕ) (ho : o + 128 ≤ 3072) (h : S640x3072.Slices ![0, o] S640x128) (Z : FVec Ideal S640x3072 .f32) (r : Fin 640) (l : Fin 128) :
    extractStridedSlice S640x128 ![0, o] Z h (ix2 r l) = Z (ix2 r ⟨o + l, by omega⟩) := by
  pointwise

theorem queryLanes_at (k : ℕ) (hk : k < 16) (h : S640x3072.Slices ![0, k * 128] S640x128) (Z : FVec Ideal S640x3072 .f32) (co si : FVec Ideal S640x128 .f32)
    (r : Fin 640) (c : Fin 2048) (x : S640x128.Idx) (h0 : r.val = (x 0).val) (h1 : c.val = k * 128 + (x 1).val) :
    queryLanes ![0, k * 128] h Z co si x = queryAt Z co si r c := by
  obtain ⟨l, hl⟩ : ∃ l : Fin 128, l = x 1 := ⟨x 1, rfl⟩
  have hx : x = ix2 r l := (eq_ix2 (n0 := 640) (n1 := 128) x).trans (congrArg₂ ix2 (Fin.ext h0.symm) hl.symm)
  rw [hx]
  rw [← hl] at h1
  have e : queryLanes ![0, k * 128] h Z co si (ix2 r l)
      = turned (extractStridedSlice S640x128 ![0, k * 128] Z h) co si (ix2 r l) * Ideal.ofBits .f32 0x3E38AA3B#32 := rfl
  have el : (⟨c % 128, by omega⟩ : Fin 128) = l := Fin.ext (by show c.val % 128 = _; omega)
  rw [e, turned_at, slice_at _ (by omega), slice_at _ (by omega), queryAt]
  simp only [el]
  have e1 : (⟨k * 128 + l.val, by omega⟩ : Fin 3072) = ⟨c, by omega⟩ := Fin.ext h1.symm
  have e2 : (⟨k * 128 + (mate l).val, by omega⟩ : Fin 3072) = ⟨c / 128 * 128 + (mate l).val, by omega⟩ :=
    Fin.ext (by show k * 128 + _ = c.val / 128 * 128 + _; rw [show c.val / 128 = k by omega])
  exact congrArg₂ (fun a b => (Z (ix2 r a) * co (ix2 r l) + Z (ix2 r b) * si (ix2 r l)) * Ideal.ofBits .f32 0x3E38AA3B#32) e1 e2

theorem keyLanes_at (k : ℕ) (hk : k < 4) (h : S640x3072.Slices ![0, 2048 + k * 128] S640x128) (Z : FVec Ideal S640x3072 .f32) (co si : FVec Ideal S640x128 .f32)
    (r : Fin 640) (c : Fin 512) (x : S640x128.Idx) (h0 : r.val = (x 0).val) (h1 : c.val = k * 128 + (x 1).val) :
    keyLanes ![0, 2048 + k * 128] h Z co si x = keyAt Z co si r c := by
  obtain ⟨l, hl⟩ : ∃ l : Fin 128, l = x 1 := ⟨x 1, rfl⟩
  have hx : x = ix2 r l := (eq_ix2 (n0 := 640) (n1 := 128) x).trans (congrArg₂ ix2 (Fin.ext h0.symm) hl.symm)
  rw [hx]
  rw [← hl] at h1
  have e : keyLanes ![0, 2048 + k * 128] h Z co si (ix2 r l)
      = turned (extractStridedSlice S640x128 ![0, 2048 + k * 128] Z h) co si (ix2 r l) := rfl
  have el : (⟨c % 128, by omega⟩ : Fin 128) = l := Fin.ext (by show c.val % 128 = _; omega)
  rw [e, turned_at, slice_at _ (by omega), slice_at _ (by omega), keyAt]
  simp only [el]
  have e1 : (⟨2048 + k * 128 + l.val, by omega⟩ : Fin 3072) = ⟨2048 + c, by omega⟩ := Fin.ext (by show 2048 + k * 128 + l.val = 2048 + c.val; omega)
  have e2 : (⟨2048 + k * 128 + (mate l).val, by omega⟩ : Fin 3072) = ⟨2048 + (c / 128 * 128 + (mate l).val), by omega⟩ :=
    Fin.ext (by show 2048 + k * 128 + _ = 2048 + (c.val / 128 * 128 + _); rw [show c.val / 128 = k by omega, Nat.add_assoc])
  exact congrArg₂ (fun a b => Z (ix2 r a) * co (ix2 r l) + Z (ix2 r b) * si (ix2 r l)) e1 e2

theorem ld0 (v : Vec Ideal S640x2048 .bf16) : View.ld v r0_0 = v := by
  frame_out
theorem ld1 (v : Vec Ideal S2048x3072 .bf16) : View.ld v r0_1 = v := by
  frame_out
theorem ld2 (v : Vec Ideal S1x3072 .f32) : View.ld v r0_2 = v := by
  frame_out
theorem ld3 (v : Vec Ideal S640x128 .f32) : View.ld v r0_3 = v := by
  frame_out
theorem pay4_eq (v : Vec Ideal S640x128 .f32) : k0_pay4 v = v := by
  exact shapeCast_self _ _
theorem pay5_eq (v : Vec Ideal S640x128 .f32) : k0_pay5 v = v := by
  exact shapeCast_self _ _

/-- The first two blocks of the queries, -/
theorem pay6_eq : k0_pay6 v0 v1 v4 v8 v10 = queryLanes ![0, 0] slices_S640x3072_o0_0_S640x128 (k0_pay3 v0 v1 v4) v8 v10 := by
  refine Eq.trans (b := queryLanes ![0, 0] slices_S640x3072_o0_0_S640x128 (k0_pay3 v0 v1 v4) (k0_pay4 v8) (k0_pay5 v10)) rfl ?_
  rw [pay4_eq, pay5_eq]

theorem pay13_eq : k0_pay13 v10 (k0_pay8 v0 v1 v4 v8) (k0_pay9 v0 v1 v4) (k0_pay10 v0 v1 v4) k0_pay11 k0_pay12
    = queryLanes ![0, 128] slices_S640x3072_o0_128_S640x128 (k0_pay3 v0 v1 v4) v8 v10 := by
  refine Eq.trans (b := queryLanes ![0, 128] slices_S640x3072_o0_128_S640x128 (k0_pay3 v0 v1 v4) (k0_pay4 v8) v10) rfl ?_
  rw [pay4_eq]

theorem out5_at (r : Fin 640) (c : Fin 2048) : out0_5 v0 v1 v4 v8 v10 (ix2 r c) = queryAt (k0_pay3 v0 v1 v4) v8 v10 r c := by
  unfold_out out0_5
  rw [ld0, ld1, ld2, ld3, ld3, pay4_eq, pay5_eq]
  canon_tiles x h
  · exact queryLanes_at 15 (by norm_num) slices_S640x3072_o0_1920_S640x128 (k0_pay3 v0 v1 v4) v8 v10 r c x h0 (h1.trans (by norm_num))
  · exact queryLanes_at 14 (by norm_num) slices_S640x3072_o0_1792_S640x128 (k0_pay3 v0 v1 v4) v8 v10 r c x h0 (h1.trans (by norm_num))
  · exact queryLanes_at 13 (by norm_num) slices_S640x3072_o0_1664_S640x128 (k0_pay3 v0 v1 v4) v8 v10 r c x h0 (h1.trans (by norm_num))
  · exact queryLanes_at 12 (by norm_num) slices_S640x3072_o0_1536_S640x128 (k0_pay3 v0 v1 v4) v8 v10 r c x h0 (h1.trans (by norm_num))
  · exact queryLanes_at 11 (by norm_num) slices_S640x3072_o0_1408_S640x128 (k0_pay3 v0 v1 v4) v8 v10 r c x h0 (h1.trans (by norm_num))
  · exact queryLanes_at 10 (by norm_num) slices_S640x3072_o0_1280_S640x128 (k0_pay3 v0 v1 v4) v8 v10 r c x h0 (h1.trans (by norm_num))
  · exact queryLanes_at 9 (by norm_num) slices_S640x3072_o0_1152_S640x128 (k0_pay3 v0 v1 v4) v8 v10 r c x h0 (h1.trans (by norm_num))
  · exact queryLanes_at 8 (by norm_num) slices_S640x3072_o0_1024_S640x128 (k0_pay3 v0 v1 v4) v8 v10 r c x h0 (h1.trans (by norm_num))
  · exact queryLanes_at 7 (by norm_num) slices_S640x3072_o0_896_S640x128 (k0_pay3 v0 v1 v4) v8 v10 r c x h0 (h1.trans (by norm_num))
  · exact queryLanes_at 6 (by norm_num) slices_S640x3072_o0_768_S640x128 (k0_pay3 v0 v1 v4) v8 v10 r c x h0 (h1.trans (by norm_num))
  · exact queryLanes_at 5 (by norm_num) slices_S640x3072_o0_640_S640x128 (k0_pay3 v0 v1 v4) v8 v10 r c x h0 (h1.trans (by norm_num))
  · exact queryLanes_at 4 (by norm_num) slices_S640x3072_o0_512_S640x128 (k0_pay3 v0 v1 v4) v8 v10 r c x h0 (h1.trans (by norm_num))
  · exact queryLanes_at 3 (by norm_num) slices_S640x3072_o0_384_S640x128 (k0_pay3 v0 v1 v4) v8 v10 r c x h0 (h1.trans (by norm_num))
  · exact queryLanes_at 2 (by norm_num) slices_S640x3072_o0_256_S640x128 (k0_pay3 v0 v1 v4) v8 v10 r c x h0 (h1.trans (by norm_num))
  · rw [pay13_eq]
    exact queryLanes_at 1 (by norm_num) slices_S640x3072_o0_128_S640x128 (k0_pay3 v0 v1 v4) v8 v10 r c x h0 (h1.trans (by norm_num))
  · rw [pay6_eq]
    exact queryLanes_at 0 (by norm_num) slices_S640x3072_o0_0_S640x128 (k0_pay3 v0 v1 v4) v8 v10 r c x h0 (h1.trans (by norm_num))

theorem out6_at (r : Fin 640) (c : Fin 512) : out0_6 v0 v1 v4 v8 v10 (ix2 r c) = keyAt (k0_pay3 v0 v1 v4) v8 v10 r c := by
  unfold_out out0_6
  rw [ld0, ld1, ld2, ld3, ld3, pay4_eq, pay5_eq]
  canon_tiles x h
  · exact keyLanes_at 3 (by norm_num) slices_S640x3072_o0_2432_S640x128 (k0_pay3 v0 v1 v4) v8 v10 r c x h0 (h1.trans (by norm_num))
  · exact keyLanes_at 2 (by norm_num) slices_S640x3072_o0_2304_S640x128 (k0_pay3 v0 v1 v4) v8 v10 r c x h0 (h1.trans (by norm_num))
  · exact keyLanes_at 1 (by norm_num) slices_S640x3072_o0_2176_S640x128 (k0_pay3 v0 v1 v4) v8 v10 r c x h0 (h1.trans (by norm_num))
  · exact keyLanes_at 0 (by norm_num) slices_S640x3072_o0_2048_S640x128 (k0_pay3 v0 v1 v4) v8 v10 r c x h0 (h1.trans (by norm_num))

theorem out7_at (r : Fin 640) (c : Fin 512) : out0_7 v0 v1 v4 v8 v10 (ix2 r c) = k0_pay3 v0 v1 v4 (ix2 r ⟨2560 + c, by omega⟩) := by
  have e : out0_7 v0 v1 v4 v8 v10 = k0_pay2 (k0_pay3 v0 v1 v4) := by
    unfold_out out0_7
    frame_out
  rw [e]
  unfold k0_pay2
  generalize k0_pay3 v0 v1 v4 = Z
  pointwise

end Cert.Kernel6Ideal.Odd

end
-- ==== Proof.OddArraysIdeal.lean ====
/- The windowed attention's projection: its laid out arguments, what each grid point computes of them, and its arrays of results. -/
module

public import proofs.«01_k».proof.Proof.OddBlockIdeal

@[expose] public section

set_option maxRecDepth 16384

noncomputable section

namespace Cert.Kernel6Ideal.Odd

open Cert.Kernel6Ideal Cert.Kernel6Ideal.Gen Cert.Kernel6Ideal.Facts Cert.Odd
open Idealize.ShloMosaic Idealize.ShloMosaic.TcCoe Idealize.ShloMosaic.Tactic
open Idealize.SL.Sem
open Idealize.ShloMosaic.Pipeline (Dat Cfg Window)

/-- The rows of cosines and of sines, as the call lays them out over 128 lanes. -/
def cosLanes (C : Vec Ideal S16640x8 .f32) : Vec Ideal S16640x128 .f32 :=
  let w : Vec Ideal S16640x16 .f32 := concatenate S16640x16 1 [⟨S16640x8, C⟩, ⟨S16640x8, C⟩] concatenates_S16640x8_S16640x8_S16640x16_d1
  let o : Vec Ideal S16640x48 .f32 := broadcastInDim S16640x48 ![] bcast_S_S16640x48 (constant (F := Ideal) S_ .f32 0x3F800000#32)
  concatenate S16640x128 1 [⟨S16640x16, w⟩, ⟨S16640x48, o⟩, ⟨S16640x16, w⟩, ⟨S16640x48, o⟩] concatenates_S16640x16_S16640x48_S16640x16_S16640x48_S16640x128_d1

def sinLanes (S : Vec Ideal S16640x8 .f32) : Vec Ideal S16640x128 .f32 :=
  let w : Vec Ideal S16640x16 .f32 := concatenate S16640x16 1 [⟨S16640x8, (Host.negf (F := Ideal) (φ := .f32) S)⟩, ⟨S16640x8, S⟩] concatenates_S16640x8_S16640x8_S16640x16_d1
  let o : Vec Ideal S16640x48 .f32 := mulf (F := Ideal) (φ := .f32) (broadcastInDim S16640x48 ![] bcast_S_S16640x48 (constant (F := Ideal) S_ .f32 0x00000000#32)) (broadcastInDim S16640x48 ![] bcast_S_S16640x48 (constant (F := Ideal) S_ .f32 0x3F800000#32))
  concatenate S16640x128 1 [⟨S16640x16, w⟩, ⟨S16640x48, o⟩, ⟨S16640x16, w⟩, ⟨S16640x48, o⟩] concatenates_S16640x16_S16640x48_S16640x16_S16640x48_S16640x128_d1

/-- Each head of a group of the weight's columns twice, -/
def twice (Y : Vec Ideal S2048x256 .f32) : Vec Ideal S2048x512 .f32 :=
  let Z : Vec Ideal S2048x4x64 .f32 := shapeCast _ Y shapeCasts_S2048x256_S2048x4x64
  shapeCast _ (concatenate S2048x4x128 2 [⟨S2048x4x64, Z⟩, ⟨S2048x4x64, Z⟩] concatenates_S2048x4x64_S2048x4x64_S2048x4x128_d2) shapeCasts_S2048x4x128_S2048x512

/-- and of the bias. -/
def twice1 (Y : Vec Ideal S256 .f32) : Vec Ideal S512 .f32 :=
  let Z : Vec Ideal S4x64 .f32 := shapeCast _ Y shapeCasts_S256_S4x64
  shapeCast _ (concatenate S4x128 1 [⟨S4x64, Z⟩, ⟨S4x64, Z⟩] concatenates_S4x64_S4x64_S4x128_d1) shapeCasts_S4x128_S512

/-- The weight and the bias, as the call lays them out. -/
def weight (W : Vec Ideal S2048x2560 .f32) : Vec Ideal S2048x3072 .bf16 :=
  truncf (F := Ideal) (φ := .f32) .bf16 (concatenate S2048x3072 1 [⟨S2048x2048, extractStridedSlice S2048x2048 ![0, 0] W slices_S2048x2560_S2048x2048_0_0⟩,
    ⟨S2048x512, twice (extractStridedSlice S2048x256 ![0, 2048] W slices_S2048x2560_S2048x256_0_2048)⟩,
    ⟨S2048x512, twice (extractStridedSlice S2048x256 ![0, 2304] W slices_S2048x2560_S2048x256_0_2304)⟩]
    concatenates_S2048x2048_S2048x512_S2048x512_S2048x3072_d1) bitsLt_bf16_f32

def bias (B : Vec Ideal S2560 .f32) : Vec Ideal S1x3072 .f32 :=
  shapeCast _ (concatenate S3072 0 [⟨S2048, extractStridedSlice S2048 ![0] B slices_S2560_S2048_0⟩,
    ⟨S512, twice1 (extractStridedSlice S256 ![2048] B slices_S2560_S256_2048)⟩,
    ⟨S512, twice1 (extractStridedSlice S256 ![2304] B slices_S2560_S256_2304)⟩]
    concatenates_S2048_S512_S512_S3072_d0) shapeCasts_S3072_S1x3072

/-- What stands in each lane. -/
theorem cosLanes_at (C : Vec Ideal S16640x8 .f32) (q : Fin 16640) (l : Fin 128) :
    cosLanes C (ix2 q l) = if l.val % 64 < 16 then C (ix2 q ⟨l % 8, by omega⟩) else 1 := by
  unfold cosLanes
  pointwise
  repeat' split
  all_goals first
    | (exfalso; omega)
    | rfl
    | (refine congrArg (fun k => C (ix2 q k)) (Fin.ext ?_); dsimp only; omega)

theorem sinLanes_at (S : Vec Ideal S16640x8 .f32) (q : Fin 16640) (l : Fin 128) :
    sinLanes S (ix2 q l) = if l.val % 64 < 8 then -S (ix2 q ⟨l % 8, by omega⟩) else if l.val % 64 < 16 then S (ix2 q ⟨l % 8, by omega⟩) else 0 := by
  unfold sinLanes
  pointwise
  repeat' split
  all_goals first
    | (exfalso; omega)
    | rfl
    | (refine congrArg (fun k => S (ix2 q k)) (Fin.ext ?_); dsimp only; omega)
    | (refine congrArg (fun k => -S (ix2 q k)) (Fin.ext ?_); dsimp only; omega)

theorem twice_at (Y : Vec Ideal S2048x256 .f32) (i : Fin 2048) (c : Fin 512) :
    twice Y (ix2 i c) = Y (ix2 i ⟨c / 128 * 64 + c % 64, by omega⟩) := by
  unfold twice
  pointwise
  split_ifs <;> (refine congrArg (fun k => Y (ix2 i k)) (Fin.ext ?_); dsimp only; omega)

theorem twice1_at (Y : Vec Ideal S256 .f32) (c : Fin 512) :
    twice1 Y (ix1 c) = Y (ix1 ⟨c / 128 * 64 + c % 64, by omega⟩) := by
  unfold twice1
  pointwise
  split_ifs <;> (refine congrArg (fun k => Y (ix1 k)) (Fin.ext ?_); dsimp only; omega)

theorem weight_query (W : Vec Ideal S2048x2560 .f32) (i : Fin 2048) (c : Fin 2048) :
    weight W (ix2 i ⟨c, by omega⟩) = W (ix2 i ⟨c, by omega⟩) := by
  unfold weight
  pointwise

theorem weight_key (W : Vec Ideal S2048x2560 .f32) (i : Fin 2048) (c : Fin 512) :
    weight W (ix2 i ⟨2048 + c, by omega⟩) = W (ix2 i ⟨2048 + (c / 128 * 64 + c % 64), by omega⟩) := by
  unfold weight
  pointwise
  rw [twice_at]
  pointwise

theorem weight_value (W : Vec Ideal S2048x2560 .f32) (i : Fin 2048) (c : Fin 512) :
    weight W (ix2 i ⟨2560 + c, by omega⟩) = W (ix2 i ⟨2304 + (c / 128 * 64 + c % 64), by omega⟩) := by
  unfold weight
  pointwise
  rw [dif_neg (show ¬2560 + c.val < 2048 by omega), dif_neg (show ¬2560 + c.val - 2048 < 512 by omega)]
  refine (congrArg (fun k => twice _ (ix2 i k)) (Fin.ext (by show 2560 + c.val - 2048 - 512 = c.val; omega) : (⟨2560 + c.val - 2048 - 512, by omega⟩ : Fin 512) = c)).trans ?_
  refine (twice_at _ i c).trans ?_
  pointwise

theorem bias_query (B : Vec Ideal S2560 .f32) (c : Fin 2048) :
    bias B (ix2 0 ⟨c, by omega⟩) = B (ix1 ⟨c, by omega⟩) := by
  unfold bias
  pointwise

theorem bias_key (B : Vec Ideal S2560 .f32) (c : Fin 512) :
    bias B (ix2 0 ⟨2048 + c, by omega⟩) = B (ix1 ⟨2048 + (c / 128 * 64 + c % 64), by omega⟩) := by
  unfold bias
  pointwise
  rw [twice1_at]
  pointwise

theorem bias_value (B : Vec Ideal S2560 .f32) (c : Fin 512) :
    bias B (ix2 0 ⟨2560 + c, by omega⟩) = B (ix1 ⟨2304 + (c / 128 * 64 + c % 64), by omega⟩) := by
  unfold bias
  pointwise
  rw [dif_neg (show ¬2560 + c.val < 2048 by omega), dif_neg (show ¬2560 + c.val - 2048 < 512 by omega)]
  refine (congrArg (fun k => twice1 _ (ix1 k)) (Fin.ext (by show 2560 + c.val - 2048 - 512 = c.val; omega) : (⟨2560 + c.val - 2048 - 512, by omega⟩ : Fin 512) = c)).trans ?_
  refine (twice1_at _ c).trans ?_
  pointwise

/-- A lane's rotation is its head's. -/
theorem lane_turn (z : Fin 64 → EReal) (C S : Vec Ideal S16640x8 .f32) (q : Fin 16640) (l : Fin 128) (a b : EReal)
    (ha : a = z ⟨l % 64, by omega⟩) (hb : b = z ⟨mate l % 64, by omega⟩) :
    a * cosLanes C (ix2 q l) + b * sinLanes S (ix2 q l)
      = turn z (fun k => C (ix2 q k)) (fun k => S (ix2 q k)) ⟨l % 64, by omega⟩ := by
  rw [cosLanes_at, sinLanes_at, ha, hb, turn]
  by_cases h8 : l.val % 64 < 8
  · rw [if_pos (show l.val % 64 < 16 by omega), if_pos h8, dif_pos h8]
    have e1 : (⟨l % 8, by omega⟩ : Fin 8) = ⟨l % 64, h8⟩ := Fin.ext (by show l.val % 8 = l.val % 64; omega)
    have e2 : (⟨mate l % 64, by omega⟩ : Fin 64) = ⟨l % 64 + 8, by omega⟩ := Fin.ext (by
      show (if l.val / 8 % 2 = 0 then (l.val + 8) % 128 else l.val - 8) % 64 = l.val % 64 + 8
      split <;> omega)
    rw [e1, e2]
    refine Eq.trans ?_ (sub_eq_add_neg _ _).symm
    exact congrArg (_ + ·) (mul_neg _ _)
  · rw [if_neg h8, dif_neg h8]
    by_cases h16 : l.val % 64 < 16
    · rw [if_pos h16, if_pos h16, dif_pos h16]
      have e1 : (⟨l % 8, by omega⟩ : Fin 8) = ⟨l % 64 - 8, by omega⟩ := Fin.ext (by show l.val % 8 = l.val % 64 - 8; omega)
      have e2 : (⟨mate l % 64, by omega⟩ : Fin 64) = ⟨l % 64 - 8, by omega⟩ := Fin.ext (by
        show (if l.val / 8 % 2 = 0 then (l.val + 8) % 128 else l.val - 8) % 64 = l.val % 64 - 8
        split <;> omega)
      rw [e1, e2]
    · rw [if_neg h16, if_neg h16, dif_neg h16]
      refine (congrArg₂ (· + ·) (mul_one _) (mul_zero _)).trans (add_zero _)

/-- A column of the laid out product. -/
def wide (X : Vec Ideal S16640x2048 .bf16) (W : Vec Ideal S2048x2560 .f32) (B : Vec Ideal S2560 .f32) (q : Fin 16640) (j : Fin 3072) : EReal :=
  (∑ x : Fin 2048, X (ix2 q x) * weight W (ix2 x j)) + bias B (ix2 0 j)

section Wide

variable (X : Vec Ideal S16640x2048 .bf16) (W : Vec Ideal S2048x2560 .f32) (B : Vec Ideal S2560 .f32) (C S : Vec Ideal S16640x8 .f32) (q : Fin 16640)

theorem wide_query (c : Fin 2048) : wide X W B q ⟨c, by omega⟩ = lin X W B q ⟨c, by omega⟩ := by
  rw [wide, lin, bias_query]
  simp only [weight_query]

theorem wide_key (c : Fin 512) : wide X W B q ⟨2048 + c, by omega⟩ = lin X W B q ⟨2048 + (c / 128 * 64 + c % 64), by omega⟩ := by
  rw [wide, lin, bias_key]
  simp only [weight_key]

theorem wide_value (c : Fin 512) : wide X W B q ⟨2560 + c, by omega⟩ = value X W B q c := by
  rw [wide, value, lin, bias_value]
  simp only [weight_value]

theorem query_eq (c : Fin 2048) :
    (wide X W B q ⟨c, by omega⟩ * cosLanes C (ix2 q ⟨c % 128, by omega⟩)
      + wide X W B q ⟨c / 128 * 128 + mate ⟨c % 128, by omega⟩, by omega⟩ * sinLanes S (ix2 q ⟨c % 128, by omega⟩)) * Ideal.ofBits .f32 0x3E38AA3B#32
      = query X W B C S q c := by
  have hm := (mate ⟨c % 128, by omega⟩).isLt
  rw [query]
  refine congrArg (· * _) (Eq.trans (lane_turn (fun d => lin X W B q ⟨c / 64 * 64 + d, by omega⟩) C S q ⟨c % 128, by omega⟩ _ _ ?_ ?_) ?_)
  · rw [wide_query]
    exact congrArg (lin X W B q) (Fin.ext (by show c.val = c.val / 64 * 64 + c.val % 128 % 64; omega))
  · rw [wide_query X W B q ⟨c / 128 * 128 + mate ⟨c % 128, by omega⟩, by omega⟩]
    refine congrArg (lin X W B q) (Fin.ext ?_)
    show c.val / 128 * 128 + (if c.val % 128 / 8 % 2 = 0 then (c.val % 128 + 8) % 128 else c.val % 128 - 8)
      = c.val / 64 * 64 + (if c.val % 128 / 8 % 2 = 0 then (c.val % 128 + 8) % 128 else c.val % 128 - 8) % 64
    split <;> omega
  · exact congrArg (turn _ _ _) (Fin.ext (by show c.val % 128 % 64 = c.val % 64; omega))

theorem key_eq (c : Fin 512) :
    wide X W B q ⟨2048 + c, by omega⟩ * cosLanes C (ix2 q ⟨c % 128, by omega⟩)
      + wide X W B q ⟨2048 + (c / 128 * 128 + mate ⟨c % 128, by omega⟩), by omega⟩ * sinLanes S (ix2 q ⟨c % 128, by omega⟩)
      = key X W B C S q c := by
  have hm := (mate ⟨c % 128, by omega⟩).isLt
  rw [key]
  refine Eq.trans (lane_turn (fun d => lin X W B q ⟨2048 + (c / 128 * 64 + d), by omega⟩) C S q ⟨c % 128, by omega⟩ _ _ ?_ ?_) ?_
  · rw [wide_key]
    exact congrArg (lin X W B q) (Fin.ext (by show 2048 + (c.val / 128 * 64 + c.val % 64) = 2048 + (c.val / 128 * 64 + c.val % 128 % 64); omega))
  · rw [wide_key X W B q ⟨c / 128 * 128 + mate ⟨c % 128, by omega⟩, by omega⟩]
    refine congrArg (lin X W B q) (Fin.ext ?_)
    show 2048 + ((c.val / 128 * 128 + (mate ⟨c % 128, by omega⟩).val) / 128 * 64 + (c.val / 128 * 128 + (mate ⟨c % 128, by omega⟩).val) % 64)
      = 2048 + (c.val / 128 * 64 + (mate ⟨c % 128, by omega⟩).val % 64)
    omega
  · exact congrArg (turn _ _ _) (Fin.ext (by show c.val % 128 % 64 = c.val % 64; omega))

end Wide

variable (m : (ℓ : Loc nD τ sig) → Buf (Elt Ideal) ℓ)

/-- The laid out arrays are what the call passes to its blocks. -/
theorem V4 (c : Dev nD) : (V m c main_v4 : Vec Ideal S16640x128 .f32) = cosLanes (m (c.tc.loc main_arg3)) := rfl
theorem V9 (c : Dev nD) : (V m c main_v9 : Vec Ideal S16640x128 .f32) = sinLanes (m (c.tc.loc main_arg4)) := rfl
set_option maxHeartbeats 2000000 in
theorem V20 (c : Dev nD) : (V m c main_v20 : Vec Ideal S2048x3072 .bf16) = weight (m (c.tc.loc main_arg1)) := rfl
theorem V31 (c : Dev nD) : (V m c main_v31 : Vec Ideal S1x3072 .f32) = bias (m (c.tc.loc main_arg2)) := rfl

/-- The block of each window at a grid point. -/
theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel

theorem N_eq : cfg0.N = 26 := by decide +kernel

/-- The row of the arrays that row `r` of a point's blocks is. -/
abbrev row (n : ℕ) (hn : n < 26) (r : Fin 640) : Fin 16640 := ⟨n * 640 + r, by omega⟩

theorem blk0 (c : Dev nD) (t : Fin cfg0.N) (r : Fin 640) (e : Fin 2048) :
    (iblk m c 0 t : Vec Ideal S640x2048 .bf16) (ix2 r e) = m (c.tc.loc main_arg0) (ix2 (row t (N_eq ▸ t.isLt) r) e) := by
  rw [← V_main_arg0 m c]
  blk_simp [iblk, idx0]
  blk_ext [idx0]

theorem blk1 (c : Dev nD) (t : Fin cfg0.N) (x : Fin 2048) (e : Fin 3072) :
    (iblk m c 1 t : Vec Ideal S2048x3072 .bf16) (ix2 x e) = weight (m (c.tc.loc main_arg1)) (ix2 x e) := by
  rw [← V20 m c]
  blk_simp [iblk, idx1]
  blk_ext [idx1]

theorem blk2 (c : Dev nD) (t : Fin cfg0.N) (e : Fin 3072) :
    (iblk m c 2 t : Vec Ideal S1x3072 .f32) (ix2 0 e) = bias (m (c.tc.loc main_arg2)) (ix2 0 e) := by
  rw [← V31 m c]
  blk_simp [iblk, idx2]
  blk_ext [idx2]

theorem blk3 (c : Dev nD) (t : Fin cfg0.N) (r : Fin 640) (l : Fin 128) :
    (iblk m c 3 t : Vec Ideal S640x128 .f32) (ix2 r l) = cosLanes (m (c.tc.loc main_arg3)) (ix2 (row t (N_eq ▸ t.isLt) r) l) := by
  rw [← V4 m c]
  blk_simp [iblk, idx3]
  blk_ext [idx3]

theorem blk4 (c : Dev nD) (t : Fin cfg0.N) (r : Fin 640) (l : Fin 128) :
    (iblk m c 4 t : Vec Ideal S640x128 .f32) (ix2 r l) = sinLanes (m (c.tc.loc main_arg4)) (ix2 (row t (N_eq ▸ t.isLt) r) l) := by
  rw [← V9 m c]
  blk_simp [iblk, idx4]
  blk_ext [idx4]

theorem wide_at (c : Dev nD) (t : Fin cfg0.N) (r : Fin 640) (j : Fin 3072) :
    k0_pay3 (iblk m c 0 t) (iblk m c 1 t) (iblk m c 2 t) (ix2 r j)
      = wide (m (c.tc.loc main_arg0)) (m (c.tc.loc main_arg1)) (m (c.tc.loc main_arg2)) (row t (N_eq ▸ t.isLt) r) j := by
  rw [pay3_at, wide, blk2]
  simp only [blk0, blk1]

/-- The arrays of results. -/
def G5 (c : Dev nD) : Vec Ideal S16640x2048 .bf16 := fun i =>
  query (m (c.tc.loc main_arg0)) (m (c.tc.loc main_arg1)) (m (c.tc.loc main_arg2)) (m (c.tc.loc main_arg3)) (m (c.tc.loc main_arg4)) (i 0) (i 1)
def G6 (c : Dev nD) : Vec Ideal S16640x512 .bf16 := fun i =>
  key (m (c.tc.loc main_arg0)) (m (c.tc.loc main_arg1)) (m (c.tc.loc main_arg2)) (m (c.tc.loc main_arg3)) (m (c.tc.loc main_arg4)) (i 0) (i 1)
def G7 (c : Dev nD) : Vec Ideal S16640x512 .bf16 := fun i =>
  value (m (c.tc.loc main_arg0)) (m (c.tc.loc main_arg1)) (m (c.tc.loc main_arg2)) (i 0) (i 1)

/-- What a point leaves: the queries, the keys and the values of its rows. -/
theorem left5 (c : Dev nD) (t : Fin cfg0.N) (r : Fin 640) (e : Fin 2048) :
    ((dats m 0 c).after 5 t : Vec Ideal S640x2048 .bf16) (ix2 r e) = G5 m c (ix2 (row t (N_eq ▸ t.isLt) r) e) := by
  rw [after0_5, out5_at, queryAt, wide_at, wide_at, blk3, blk4]
  exact query_eq _ _ _ _ _ _ e

theorem left6 (c : Dev nD) (t : Fin cfg0.N) (r : Fin 640) (e : Fin 512) :
    ((dats m 0 c).after 6 t : Vec Ideal S640x512 .bf16) (ix2 r e) = G6 m c (ix2 (row t (N_eq ▸ t.isLt) r) e) := by
  rw [after0_6, out6_at, keyAt, wide_at, wide_at, blk3, blk4]
  exact key_eq _ _ _ _ _ _ e

theorem left7 (c : Dev nD) (t : Fin cfg0.N) (r : Fin 640) (e : Fin 512) :
    ((dats m 0 c).after 7 t : Vec Ideal S640x512 .bf16) (ix2 r e) = G7 m c (ix2 (row t (N_eq ▸ t.isLt) r) e) := by
  rw [after0_7, out7_at, wide_at]
  exact wide_value _ _ _ _ e

theorem final5 (c : Dev nD) : (dats m 0 c).arrAt 5 cfg0.N = G5 m c := by
  refine (dats m 0 c).arrAt_eq_of_covers 5 _ (by decide +kernel) fun t hf y => ?_
  blk_simp
  have e0 : (((win0_5.blk t).view.emb y) 0 : ℕ) = t.val * 640 + (y 0 : ℕ) := by
    rw [show (((win0_5.blk t).view.emb y) 0 : ℕ) = win0_5.index t 0 * win0_5.size 0 + (y 0 : ℕ) from win0_5.rect_emb_val_off t y 0, idx5]; rfl
  have e1 : (((win0_5.blk t).view.emb y) 1 : ℕ) = (y 1 : ℕ) := by
    rw [show (((win0_5.blk t).view.emb y) 1 : ℕ) = win0_5.index t 1 * win0_5.size 1 + (y 1 : ℕ) from win0_5.rect_emb_val_off t y 1, idx5]; exact Nat.zero_add _
  refine (congrArg ((dats m 0 c).after 5 t : Vec Ideal S640x2048 .bf16) (eq_ix2 (n0 := 640) (n1 := 2048) y)).trans ((left5 m c t (y 0) (y 1)).trans ?_)
  exact congrArg (G5 m c) ((congrArg₂ ix2 (Fin.ext e0.symm) (Fin.ext e1.symm)).trans (eq_ix2 (n0 := 16640) (n1 := 2048) _).symm)

theorem final6 (c : Dev nD) : (dats m 0 c).arrAt 6 cfg0.N = G6 m c := by
  refine (dats m 0 c).arrAt_eq_of_covers 6 _ (by decide +kernel) fun t hf y => ?_
  blk_simp
  have e0 : (((win0_6.blk t).view.emb y) 0 : ℕ) = t.val * 640 + (y 0 : ℕ) := by
    rw [show (((win0_6.blk t).view.emb y) 0 : ℕ) = win0_6.index t 0 * win0_6.size 0 + (y 0 : ℕ) from win0_6.rect_emb_val_off t y 0, idx6]; rfl
  have e1 : (((win0_6.blk t).view.emb y) 1 : ℕ) = (y 1 : ℕ) := by
    rw [show (((win0_6.blk t).view.emb y) 1 : ℕ) = win0_6.index t 1 * win0_6.size 1 + (y 1 : ℕ) from win0_6.rect_emb_val_off t y 1, idx6]; exact Nat.zero_add _
  refine (congrArg ((dats m 0 c).after 6 t : Vec Ideal S640x512 .bf16) (eq_ix2 (n0 := 640) (n1 := 512) y)).trans ((left6 m c t (y 0) (y 1)).trans ?_)
  exact congrArg (G6 m c) ((congrArg₂ ix2 (Fin.ext e0.symm) (Fin.ext e1.symm)).trans (eq_ix2 (n0 := 16640) (n1 := 512) _).symm)

theorem final7 (c : Dev nD) : (dats m 0 c).arrAt 7 cfg0.N = G7 m c := by
  refine (dats m 0 c).arrAt_eq_of_covers 7 _ (by decide +kernel) fun t hf y => ?_
  blk_simp
  have e0 : (((win0_7.blk t).view.emb y) 0 : ℕ) = t.val * 640 + (y 0 : ℕ) := by
    rw [show (((win0_7.blk t).view.emb y) 0 : ℕ) = win0_7.index t 0 * win0_7.size 0 + (y 0 : ℕ) from win0_7.rect_emb_val_off t y 0, idx7]; rfl
  have e1 : (((win0_7.blk t).view.emb y) 1 : ℕ) = (y 1 : ℕ) := by
    rw [show (((win0_7.blk t).view.emb y) 1 : ℕ) = win0_7.index t 1 * win0_7.size 1 + (y 1 : ℕ) from win0_7.rect_emb_val_off t y 1, idx7]; exact Nat.zero_add _
  refine (congrArg ((dats m 0 c).after 7 t : Vec Ideal S640x512 .bf16) (eq_ix2 (n0 := 640) (n1 := 512) y)).trans ((left7 m c t (y 0) (y 1)).trans ?_)
  exact congrArg (G7 m c) ((congrArg₂ ix2 (Fin.ext e0.symm) (Fin.ext e1.symm)).trans (eq_ix2 (n0 := 16640) (n1 := 512) _).symm)

end Cert.Kernel6Ideal.Odd

end
-- ==== Proof.OddRefIdeal.lean ====
/- The plain projection of the windowed attention, element by element. -/
module

public import proofs.«01_k».proof.Proof.Odd
public import proofs.«01_k».proof.Proof.Gen.Reference6Ideal.Run
public import Idealize.ShloMosaic.Lib.Pointwise
public import Idealize.ShloMosaic.Lib.Tactic.CleanTypes

@[expose] public section

set_option maxRecDepth 16384

noncomputable section

namespace Cert.Reference6Ideal.Odd

open Cert.Reference6Ideal Cert.Reference6Ideal.Gen Cert.Reference6Ideal.Facts Cert.Odd
open Idealize.ShloMosaic Idealize.ShloMosaic.TcCoe Idealize.ShloMosaic.Tactic

variable (X : FVec Ideal S16640x2048 .bf16) (W : FVec Ideal S2048x2560 .f32) (B : FVec Ideal S2560 .f32) (C S : FVec Ideal S16640x8 .f32)

/-- The projection. -/
def product : FVec Ideal S16640x2560 .f32 :=
  addf (Host.dotGeneral dot_S16640x2048_S2048x2560_S16640x2560_1_0_0_1_n_n none (extf .f32 X bitsLt_bf16_f32) W)
    (broadcastInDim S16640x2560 ![0, 1] bcast_S1x2560_S16640x2560_0_1 (broadcastInDim S1x2560 ![1] bcast_S2560_S1x2560_1 B))

/-- The heads of the queries, the keys and the values. -/
def queryHeads (Y : FVec Ideal S16640x2560 .f32) : FVec Ideal S16640x32x64 .f32 :=
  shapeCast _ (extractStridedSlice S16640x2048 ![0, 0] Y slices_S16640x2560_S16640x2048_0_0) shapeCasts_S16640x2048_S16640x32x64
def keyHeads (Y : FVec Ideal S16640x2560 .f32) : FVec Ideal S16640x4x64 .f32 :=
  shapeCast _ (extractStridedSlice S16640x256 ![0, 2048] Y slices_S16640x2560_S16640x256_0_2048) shapeCasts_S16640x256_S16640x4x64
def valueHeads (Y : FVec Ideal S16640x2560 .f32) : FVec Ideal S16640x4x64 .f32 :=
  shapeCast _ (extractStridedSlice S16640x256 ![0, 2304] Y slices_S16640x2560_S16640x256_0_2304) shapeCasts_S16640x256_S16640x4x64

/-- The queries' heads rotated, -/
def queryTurned (Q : FVec Ideal S16640x32x64 .f32) : FVec Ideal S16640x32x64 .f32 :=
  let Q1 := extractStridedSlice S16640x32x8 ![0, 0, 0] (extractStridedSlice S16640x32x16 ![0, 0, 0] Q slices_S16640x32x64_S16640x32x16_0_0_0) slices_S16640x32x16_S16640x32x8_0_0_0
  let Q2 := extractStridedSlice S16640x32x8 ![0, 0, 8] (extractStridedSlice S16640x32x16 ![0, 0, 0] Q slices_S16640x32x64_S16640x32x16_0_0_0) slices_S16640x32x16_S16640x32x8_0_0_8
  let c := broadcastInDim S16640x32x8 ![0, 1, 2] bcast_S16640x1x8_S16640x32x8_0_1_2 (broadcastInDim S16640x1x8 ![0, 2] bcast_S16640x8_S16640x1x8_0_2 C)
  let s := broadcastInDim S16640x32x8 ![0, 1, 2] bcast_S16640x1x8_S16640x32x8_0_1_2 (broadcastInDim S16640x1x8 ![0, 2] bcast_S16640x8_S16640x1x8_0_2 S)
  concatenate S16640x32x64 2 [⟨S16640x32x16, (concatenate S16640x32x16 2 [⟨S16640x32x8, (subf (mulf Q1 c) (mulf Q2 s))⟩, ⟨S16640x32x8, (addf (mulf Q2 c) (mulf Q1 s))⟩]
      concatenates_S16640x32x8_S16640x32x8_S16640x32x16_d2)⟩, ⟨S16640x32x48, (extractStridedSlice S16640x32x48 ![0, 0, 16] Q slices_S16640x32x64_S16640x32x48_0_0_16)⟩]
    concatenates_S16640x32x16_S16640x32x48_S16640x32x64_d2

/-- and the keys'. -/
def keyTurned (Q : FVec Ideal S16640x4x64 .f32) : FVec Ideal S16640x4x64 .f32 :=
  let Q1 := extractStridedSlice S16640x4x8 ![0, 0, 0] (extractStridedSlice S16640x4x16 ![0, 0, 0] Q slices_S16640x4x64_S16640x4x16_0_0_0) slices_S16640x4x16_S16640x4x8_0_0_0
  let Q2 := extractStridedSlice S16640x4x8 ![0, 0, 8] (extractStridedSlice S16640x4x16 ![0, 0, 0] Q slices_S16640x4x64_S16640x4x16_0_0_0) slices_S16640x4x16_S16640x4x8_0_0_8
  let c := broadcastInDim S16640x4x8 ![0, 1, 2] bcast_S16640x1x8_S16640x4x8_0_1_2 (broadcastInDim S16640x1x8 ![0, 2] bcast_S16640x8_S16640x1x8_0_2 C)
  let s := broadcastInDim S16640x4x8 ![0, 1, 2] bcast_S16640x1x8_S16640x4x8_0_1_2 (broadcastInDim S16640x1x8 ![0, 2] bcast_S16640x8_S16640x1x8_0_2 S)
  concatenate S16640x4x64 2 [⟨S16640x4x16, (concatenate S16640x4x16 2 [⟨S16640x4x8, (subf (mulf Q1 c) (mulf Q2 s))⟩, ⟨S16640x4x8, (addf (mulf Q2 c) (mulf Q1 s))⟩]
      concatenates_S16640x4x8_S16640x4x8_S16640x4x16_d2)⟩, ⟨S16640x4x48, (extractStridedSlice S16640x4x48 ![0, 0, 16] Q slices_S16640x4x64_S16640x4x48_0_0_16)⟩]
    concatenates_S16640x4x16_S16640x4x48_S16640x4x64_d2

/-- Each head twice, laid out as the rows of a result. -/
def twice (Q : FVec Ideal S16640x4x64 .f32) : FVec Ideal S16640x512 .bf16 :=
  truncf .bf16 (shapeCast _ (concatenate S16640x4x128 2 [⟨S16640x4x64, Q⟩, ⟨S16640x4x64, Q⟩] concatenates_S16640x4x64_S16640x4x64_S16640x4x128_d2) shapeCasts_S16640x4x128_S16640x512) bitsLt_bf16_f32

/-- The queries' heads scaled, laid out likewise. -/
def scaled (Q : FVec Ideal S16640x32x64 .f32) : FVec Ideal S16640x2048 .bf16 :=
  truncf .bf16 (shapeCast _ (mulf Q (broadcastInDim S16640x32x64 ![] bcast_S_S16640x32x64 (constant S_ .f32 0x3E38AA3B#32))) shapeCasts_S16640x32x64_S16640x2048) bitsLt_bf16_f32

/-- The results. -/
def queries : FVec Ideal S16640x2048 .bf16 := scaled (queryTurned C S (queryHeads (product X W B)))
def keys : FVec Ideal S16640x512 .bf16 := twice (keyTurned C S (keyHeads (product X W B)))
def values : FVec Ideal S16640x512 .bf16 := twice (valueHeads (product X W B))

theorem product_at (q : Fin 16640) (j : Fin 2560) : product X W B (ix2 q j) = lin X W B q j := by
  unfold product
  pointwise
  rfl

theorem queryHeads_at (Y : FVec Ideal S16640x2560 .f32) (q : Fin 16640) (g : Fin 32) (d : Fin 64) :
    queryHeads Y (ix3 q g d) = Y (ix2 q ⟨g * 64 + d, by omega⟩) := by
  unfold queryHeads
  pointwise

theorem keyHeads_at (Y : FVec Ideal S16640x2560 .f32) (q : Fin 16640) (g : Fin 4) (d : Fin 64) :
    keyHeads Y (ix3 q g d) = Y (ix2 q ⟨2048 + (g * 64 + d), by omega⟩) := by
  unfold keyHeads
  pointwise

theorem valueHeads_at (Y : FVec Ideal S16640x2560 .f32) (q : Fin 16640) (g : Fin 4) (d : Fin 64) :
    valueHeads Y (ix3 q g d) = Y (ix2 q ⟨2304 + (g * 64 + d), by omega⟩) := by
  unfold valueHeads
  pointwise

theorem queryTurned_at (Q : FVec Ideal S16640x32x64 .f32) (q : Fin 16640) (g : Fin 32) (d : Fin 64) :
    queryTurned C S Q (ix3 q g d) = turn (fun d => Q (ix3 q g d)) (fun k => C (ix2 q k)) (fun k => S (ix2 q k)) d := by
  unfold queryTurned turn
  pointwise
  by_cases h8 : d.val < 8
  · rw [dif_pos (show d.val < 16 by omega), dif_pos h8, dif_pos h8]
    exact congrArg (fun k => Q (ix3 q g d) * C (ix2 q ⟨d, h8⟩) - Q (ix3 q g k) * S (ix2 q ⟨d, h8⟩)) (Fin.ext (Nat.add_comm _ _))
  · by_cases h16 : d.val < 16
    · rw [dif_pos h16, dif_neg h8, dif_neg h8, dif_pos h16]
      exact congrArg (fun k => Q (ix3 q g k) * C (ix2 q ⟨d.val - 8, by omega⟩) + Q (ix3 q g ⟨d.val - 8, by omega⟩) * S (ix2 q ⟨d.val - 8, by omega⟩))
        (Fin.ext (by show 8 + (d.val - 8) = d.val; omega))
    · rw [dif_neg h16, dif_neg h8, dif_neg h16]
      exact congrArg (fun k => Q (ix3 q g k)) (Fin.ext (by show 16 + (d.val - 16) = d.val; omega))

theorem keyTurned_at (Q : FVec Ideal S16640x4x64 .f32) (q : Fin 16640) (g : Fin 4) (d : Fin 64) :
    keyTurned C S Q (ix3 q g d) = turn (fun d => Q (ix3 q g d)) (fun k => C (ix2 q k)) (fun k => S (ix2 q k)) d := by
  unfold keyTurned turn
  pointwise
  by_cases h8 : d.val < 8
  · rw [dif_pos (show d.val < 16 by omega), dif_pos h8, dif_pos h8]
    exact congrArg (fun k => Q (ix3 q g d) * C (ix2 q ⟨d, h8⟩) - Q (ix3 q g k) * S (ix2 q ⟨d, h8⟩)) (Fin.ext (Nat.add_comm _ _))
  · by_cases h16 : d.val < 16
    · rw [dif_pos h16, dif_neg h8, dif_neg h8, dif_pos h16]
      exact congrArg (fun k => Q (ix3 q g k) * C (ix2 q ⟨d.val - 8, by omega⟩) + Q (ix3 q g ⟨d.val - 8, by omega⟩) * S (ix2 q ⟨d.val - 8, by omega⟩))
        (Fin.ext (by show 8 + (d.val - 8) = d.val; omega))
    · rw [dif_neg h16, dif_neg h8, dif_neg h16]
      exact congrArg (fun k => Q (ix3 q g k)) (Fin.ext (by show 16 + (d.val - 16) = d.val; omega))

theorem scaled_at (Q : FVec Ideal S16640x32x64 .f32) (q : Fin 16640) (c : Fin 2048) :
    scaled Q (ix2 q c) = Q (ix3 q ⟨c / 64, by omega⟩ ⟨c % 64, by omega⟩) * Ideal.ofBits .f32 0x3E38AA3B#32 := by
  unfold scaled
  pointwise

theorem twice_at (Q : FVec Ideal S16640x4x64 .f32) (q : Fin 16640) (c : Fin 512) :
    twice Q (ix2 q c) = Q (ix3 q ⟨c / 128, by omega⟩ ⟨c % 64, by omega⟩) := by
  unfold twice
  pointwise
  by_cases h : c.val % 128 < 64
  · rw [dif_pos h]
    exact congrArg (fun k => Q (ix3 q ⟨c / 128, by omega⟩ k)) (Fin.ext (by show c.val % 128 = c.val % 64; omega))
  · rw [dif_neg h]
    exact congrArg (fun k => Q (ix3 q ⟨c / 128, by omega⟩ k)) (Fin.ext (by show c.val % 128 - 64 = c.val % 64; omega))

theorem queries_at (q : Fin 16640) (c : Fin 2048) : queries X W B C S (ix2 q c) = query X W B C S q c := by
  rw [queries, scaled_at, queryTurned_at, query]
  simp only [queryHeads_at, product_at]

theorem keys_at (q : Fin 16640) (c : Fin 512) : keys X W B C S (ix2 q c) = key X W B C S q c := by
  rw [keys, twice_at, keyTurned_at, key]
  simp only [keyHeads_at, product_at]

theorem values_at (q : Fin 16640) (c : Fin 512) : values X W B (ix2 q c) = value X W B q c := by
  rw [values, twice_at, valueHeads_at, product_at, value]

end Cert.Reference6Ideal.Odd

end
-- ==== Proof.OddEquation.lean ====
/- The projection of the windowed attention computes the plain one: the queries, the keys and the values. -/
module

public import proofs.«01_k».proof.Defs
public import proofs.«01_k».proof.Proof.OddArraysIdeal
public import proofs.«01_k».proof.Proof.OddRefIdeal

@[expose] public section

set_option maxRecDepth 16384

noncomputable section

namespace Cert.Proof

open Idealize.ShloMosaic Idealize.ShloMosaic.TcCoe Idealize.SL.Sem

open Cert.Kernel6Ideal Cert.Kernel6Ideal.Gen in
/-- The call's run, its arrays of results read. -/
theorem windowed_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32_0) = Odd.G5 m c
      ∧ r.2.mem ((c.tc : Thread nD τ).loc main_v32_1) = Odd.G6 m c
      ∧ r.2.mem ((c.tc : Thread nD τ).loc main_v32_2) = Odd.G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (Odd.final5 m c), (h c).2.1.trans (Odd.final6 m c),
    (h c).2.2.1.trans (Odd.final7 m c), (h c).2.2.2⟩) (Cert.Kernel6Ideal.Value.run_blocks m ρ)

open Cert.Reference6Ideal Cert.Reference6Ideal.Gen in
/-- The plain one's run, its results as its stages. -/
theorem plain_windowed_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v52) = Odd.queries (m (c.tc.loc main_arg0)) (m (c.tc.loc main_arg1)) (m (c.tc.loc main_arg2))
        (m (c.tc.loc main_arg3)) (m (c.tc.loc main_arg4))
      ∧ r.2.mem ((c.tc : Thread nD τ).loc main_v54) = Odd.keys (m (c.tc.loc main_arg0)) (m (c.tc.loc main_arg1)) (m (c.tc.loc main_arg2))
        (m (c.tc.loc main_arg3)) (m (c.tc.loc main_arg4))
      ∧ r.2.mem ((c.tc : Thread nD τ).loc main_v56) = Odd.values (m (c.tc.loc main_arg0)) (m (c.tc.loc main_arg1)) (m (c.tc.loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2⟩)
    (Cert.Reference6Ideal.Value.run m ρ)

theorem windowed_projection : Cert.algebraic_Kernel6Ideal_Reference6Ideal (hKernel6Ideal := Cert.Kernel6Ideal.Gen.facts)
    (hReference6Ideal := Cert.Reference6Ideal.Gen.facts) := fun m ρ m' ρ' _ hag =>
  ⟨fun c => Cert.Kernel6Ideal.Odd.G5 m c, fun c => Cert.Kernel6Ideal.Odd.G6 m c, fun c => Cert.Kernel6Ideal.Odd.G7 m c, windowed_run m ρ,
    (θ_run _ _ _).mono (fun _ h c => ⟨(h c).1.trans (by
      obtain ⟨e0, e1, e2, e3, e4⟩ := hag c
      rw [e0, e1, e2, e3, e4]
      funext i
      rw [eq_ix2 (n0 := 16640) (n1 := 2048) i]
      exact Cert.Reference6Ideal.Odd.queries_at _ _ _ _ _ (i 0) (i 1)), (h c).2.1.trans (by
      obtain ⟨e0, e1, e2, e3, e4⟩ := hag c
      rw [e0, e1, e2, e3, e4]
      funext i
      rw [eq_ix2 (n0 := 16640) (n1 := 512) i]
      exact Cert.Reference6Ideal.Odd.keys_at _ _ _ _ _ (i 0) (i 1)), (h c).2.2.1.trans (by
      obtain ⟨e0, e1, e2, e3, e4⟩ := hag c
      rw [e0, e1, e2]
      funext i
      rw [eq_ix2 (n0 := 16640) (n1 := 512) i]
      exact Cert.Reference6Ideal.Odd.values_at _ _ _ (i 0) (i 1)), (h c).2.2.2⟩) (plain_windowed_run m' ρ')⟩

end Cert.Proof

end
-- ==== Proof.lean ====
/- The flash calls of the latent and of the grouped attention, the first layer's feed-forward call and output projection, the
   mixture of experts' feed-forward call and the projection of the windowed attention: the frames of each at both instances and of its reference, the idealization, and the
   equation with the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2.Skeleton
public import proofs.«01_k».proof.Proof.Gen.Kernel2Ideal.Skeleton
public import proofs.«01_k».proof.Proof.Gen.Kernel2.Loops
public import proofs.«01_k».proof.Proof.Gen.Kernel2Ideal.Loops
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4.Launch
public import proofs.«01_k».proof.Proof.Gen.Kernel4.Flash.Runs
public import proofs.«01_k».proof.Proof.Gen.Kernel4Ideal.Flash.Runs
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Pre_in_range
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Quiescent
public import proofs.«01_k».proof.Proof.MlaFrame
public import proofs.«01_k».proof.Proof.MlaFrameIdeal
public import proofs.«01_k».proof.Proof.MlaEquation
public import proofs.«01_k».proof.Proof.GqaFrame
public import proofs.«01_k».proof.Proof.GqaFrameIdeal
public import proofs.«01_k».proof.Proof.GqaEquation
public import proofs.«01_k».proof.Proof.FfnEquation
public import proofs.«01_k».proof.Proof.MoeEquation
public import proofs.«01_k».proof.Proof.OutEquation
public import proofs.«01_k».proof.Proof.OddEquation

@[expose] public section

noncomputable section

namespace Cert.Proof

open Idealize.ShloMosaic Idealize.SL.Sem

/-- The reference's frame: it changes no argument, and has no semaphore whose counter could move. -/
theorem frame_reference : Cert.quiescent_ReferenceIdeal := fun m ρ _ =>
  (θ_run _ _ _).mono (fun _ h => ⟨fun c => (h c).2, sem_eq_zero_of_no_sems (by decide) _⟩)
    (Cert.ReferenceIdeal.Value.run m ρ)

/-- So for the grouped attention's reference. -/
theorem frame_grouped : Cert.quiescent_Reference2Ideal := fun m ρ _ =>
  (θ_run _ _ _).mono (fun _ h => ⟨fun c => (h c).2, sem_eq_zero_of_no_sems (by decide) _⟩)
    (Cert.Reference2Ideal.Value.run m ρ)

/-- So for the feed-forward layer's reference. -/
theorem frame_layer : Cert.quiescent_Reference3Ideal := fun m ρ _ =>
  (θ_run _ _ _).mono (fun _ h => ⟨fun c => (h c).2.2, sem_eq_zero_of_no_sems (by decide) _⟩)
    (Cert.Reference3Ideal.Value.run m ρ)

/-- So for the output projection's reference. -/
theorem frame_projection : Cert.quiescent_Reference5Ideal := fun m ρ _ =>
  (θ_run _ _ _).mono (fun _ h => ⟨fun c => (h c).2.2, sem_eq_zero_of_no_sems (by decide) _⟩)
    (Cert.Reference5Ideal.Value.run m ρ)

/-- So for the reference of the windowed attention's projection. -/
theorem frame_windowed : Cert.quiescent_Reference6Ideal := fun m ρ _ =>
  (θ_run _ _ _).mono (fun _ h => ⟨fun c => (h c).2.2.2, sem_eq_zero_of_no_sems (by decide) _⟩)
    (Cert.Reference6Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts, Cert.Pre_finite2.Gen.facts, Cert.Pre_in_range.Gen.facts,
    fun m ρ _ => Cert.Kernel.Mla.frame m ρ,
    fun m ρ _ => Cert.KernelIdeal.Mla.frame m ρ,
    fun m ρ _ => Cert.KernelIdeal.Mla.frame m ρ,
    frame_reference,
    fun m ρ _ => frame_reference m ρ trivial,
    fun m ρ _ => Cert.Kernel2.Gqa.frame m ρ,
    fun m ρ _ => Cert.Kernel2Ideal.Gqa.frame m ρ,
    fun m ρ _ => Cert.Kernel2Ideal.Gqa.frame m ρ,
    frame_grouped,
    fun m ρ _ => frame_grouped m ρ trivial,
    fun m ρ _ => Cert.Kernel3.Gen.frame m ρ,
    fun m ρ _ => Cert.Kernel3Ideal.Gen.frame m ρ,
    frame_layer,
    experts_frame,
    experts_frame_ideal,
    frame_mixture,
    fun m ρ _ => frame_mixture m ρ trivial,
    fun m ρ _ => Cert.Kernel5.Gen.frame m ρ,
    fun m ρ _ => Cert.Kernel5Ideal.Gen.frame m ρ,
    frame_projection,
    fun m ρ _ => Cert.Kernel6.Gen.frame m ρ,
    fun m ρ _ => Cert.Kernel6Ideal.Gen.frame m ρ,
    frame_windowed,
    trivial,
    Cert.Proof.attention,
    trivial,
    Cert.Proof.grouped,
    trivial,
    Cert.Proof.feed_forward,
    trivial,
    Cert.Proof.experts,
    trivial,
    Cert.Proof.output_projection,
    trivial,
    Cert.Proof.windowed_projection⟩

end Cert.Proof

end
